-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel) (hPre_ids_in_table := hPre_ids_in_table)
    ∧ quiescent_KernelIdeal (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal (hKernelIdeal := hKernelIdeal) (hReferenceIdeal := hReferenceIdeal) (hPre_ids_in_table := hPre_ids_in_table)
-- ==== Pre_ids_in_table.lean ====
abbrev S2x2048 : Shape := ⟨2, ![2, 2048]⟩
abbrev S32000x7168 : Shape := ⟨2, ![32000, 7168]⟩
abbrev S32000 : Shape := ⟨1, ![32000]⟩
abbrev S7168 : Shape := ⟨1, ![7168]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : IVec S2x2048 32) (main_arg1 : IVec S32000x7168 8) (main_arg2 : FVec F S32000 .f32) (main_arg3 : FVec F S32000 .bf16) (main_arg4 : FVec F S7168 .bf16) : IVec S2x2048 1 :=
  let main_c : IVec S_ 32 := constantI S_ 32 0#32
  let main_v0 : IVec S2x2048 32 := broadcastInDim S2x2048 ![] bcast_S_S2x2048 main_c
  let main_v1 : IVec S2x2048 1 := cmpi .sge main_arg0 main_v0
  let main_c_0 : IVec S_ 32 := constantI S_ 32 32000#32
  let main_v2 : IVec S2x2048 32 := broadcastInDim S2x2048 ![] bcast_S_S2x2048 main_c_0
  let main_v3 : IVec S2x2048 1 := cmpi .slt main_arg0 main_v2
  let main_v4 : IVec S2x2048 1 := andi main_v1 main_v3
  main_v4
-- ==== Kernel.lean ====
abbrev S2x2048 : Shape := ⟨2, ![2, 2048]⟩
abbrev S32000x7168 : Shape := ⟨2, ![32000, 7168]⟩
abbrev S32000 : Shape := ⟨1, ![32000]⟩
abbrev S7168 : Shape := ⟨1, ![7168]⟩
abbrev S4096 : Shape := ⟨1, ![4096]⟩
abbrev S1x7168 : Shape := ⟨2, ![1, 7168]⟩
abbrev S8x7168 : Shape := ⟨2, ![8, 7168]⟩
abbrev S8000x4x7168 : Shape := ⟨3, ![8000, 4, 7168]⟩
abbrev S8000x7168x4 : Shape := ⟨3, ![8000, 7168, 4]⟩
abbrev S8000x7168 : Shape := ⟨2, ![8000, 7168]⟩
abbrev S512x8x7168 : Shape := ⟨3, ![512, 8, 7168]⟩
abbrev S64x8x7168 : Shape := ⟨3, ![64, 8, 7168]⟩
abbrev S8x128 : Shape := ⟨2, ![8, 128]⟩
abbrev S8x8x7168 : Shape := ⟨3, ![8, 8, 7168]⟩
abbrev S64 : Shape := ⟨1, ![64]⟩
abbrev S8 : Shape := ⟨1, ![8]⟩
abbrev S1 : Shape := ⟨1, ![1]⟩
abbrev S_ : Shape := ⟨0, ![]⟩
abbrev S1x1x7168 : Shape := ⟨3, ![1, 1, 7168]⟩
abbrev S1x8x7168 : Shape := ⟨3, ![1, 8, 7168]⟩
abbrev S1x128 : Shape := ⟨2, ![1, 128]⟩
abbrev S1x8x128 : Shape := ⟨3, ![1, 8, 128]⟩
abbrev S8x1 : Shape := ⟨2, ![8, 1]⟩

abbrev nBuf : Space → Nat
  | .hbm => 15
  | .vmem => 7
  | .smem => 3
  | _ => 0

abbrev bufTy : (tb : Table) → Fin (tcTables nBuf tb) → BufTy
  | .hbm, ⟨0, _⟩ => ⟨S2x2048, .i32⟩
  | .hbm, ⟨1, _⟩ => ⟨S32000x7168, .i8⟩
  | .hbm, ⟨2, _⟩ => ⟨S32000, .f32⟩
  | .hbm, ⟨3, _⟩ => ⟨S32000, .bf16⟩
  | .hbm, ⟨4, _⟩ => ⟨S7168, .bf16⟩
  | .hbm, ⟨5, _⟩ => ⟨S4096, .i32⟩
  | .hbm, ⟨6, _⟩ => ⟨S7168, .f32⟩
  | .hbm, ⟨7, _⟩ => ⟨S1x7168, .f32⟩
  | .hbm, ⟨8, _⟩ => ⟨S8x7168, .f32⟩
  | .hbm, ⟨9, _⟩ => ⟨S8000x4x7168, .i8⟩
  | .hbm, ⟨10, _⟩ => ⟨S8000x7168x4, .i8⟩
  | .hbm, ⟨11, _⟩ => ⟨S8000x7168, .i32⟩
  | .hbm, ⟨12, _⟩ => ⟨S32000, .f32⟩
  | .hbm, ⟨13, _⟩ => ⟨S512x8x7168, .bf16⟩
  | .hbm, ⟨14, _⟩ => ⟨S512x8x7168, .bf16⟩
  | .local _ .vmem, ⟨0, _⟩ => ⟨S8x7168, .f32⟩
  | .local _ .vmem, ⟨1, _⟩ => ⟨S64x8x7168, .i32⟩
  | .local _ .vmem, ⟨2, _⟩ => ⟨S8x128, .f32⟩
  | .local _ .vmem, ⟨3, _⟩ => ⟨S8x128, .f32⟩
  | .local _ .vmem, ⟨4, _⟩ => ⟨S8x128, .i32⟩
  | .local _ .vmem, ⟨5, _⟩ => ⟨S8x8x7168, .bf16⟩
  | .local _ .vmem, ⟨6, _⟩ => ⟨S8x8x7168, .bf16⟩
  | .local _ .smem, ⟨0, _⟩ => ⟨S4096, .i32⟩
  | .local _ .smem, ⟨1, _⟩ => ⟨S32000, .f32⟩
  | .local _ .smem, ⟨2, _⟩ => ⟨S32000, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg3_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c63_i32 : BitVec 32 := 63#32
  let v0 : BitVec 32 := Scalar.addi c0_i32 c63_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_91 : BitVec 32 := 8#32
  let v107 : BitVec 32 := Scalar.muli arg16 c8_i32_91
  let c0_i32_92 : BitVec 32 := 0#32
  let v108 : BitVec 32 := Scalar.addi v107 c0_i32_92
  let v109 : Index := Scalar.indexCast v108
  ![v109.toNat]
def k0_off2 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off3 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c0_i32_93 : BitVec 32 := 0#32
  let c0_i32_94 : BitVec 32 := 0#32
  ![v106.toNat, 0, 0]
def k0_off4 (v110 : BitVec 32) : Fin 2 → Nat :=
  let c2_i32 : BitVec 32 := 2#32
  let v111 : BitVec 32 := Scalar.shrui v110 c2_i32
  let c0_i32_95 : BitVec 32 := 0#32
  ![v111.toNat, 0]

def k0_chk1 (v110 : BitVec 32) : Prop :=
  (∀ a, (k0_off4 v110) a + S1x7168.size a ≤ S8000x7168.size a)
theorem k0_off4_inb : ∀ (v110 : BitVec 32) (k0_hw1 : k0_chk1 v110), ∀ a, (k0_off4 v110) a + S1x7168.size a ≤ S8000x7168.size a := fun v110 k0_hw1 => k0_hw1

def k0_off5 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_96 : BitVec 32 := 8#32
  let v117 : BitVec 32 := Scalar.muli arg16 c8_i32_96
  let c1_i32_97 : BitVec 32 := 1#32
  let v118 : BitVec 32 := Scalar.addi v117 c1_i32_97
  let v119 : Index := Scalar.indexCast v118
  ![v119.toNat]
def k0_off6 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off7 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c1_i32_99 : BitVec 32 := 1#32
  let c0_i32_100 : BitVec 32 := 0#32
  ![v106.toNat, 1, 0]
def k0_off8 (v120 : BitVec 32) : Fin 2 → Nat :=
  let c2_i32_98 : BitVec 32 := 2#32
  let v121 : BitVec 32 := Scalar.shrui v120 c2_i32_98
  let c0_i32_101 : BitVec 32 := 0#32
  ![v121.toNat, 0]

def k0_chk2 (v120 : BitVec 32) : Prop :=
  (∀ a, (k0_off8 v120) a + S1x7168.size a ≤ S8000x7168.size a)
theorem k0_off8_inb : ∀ (v120 : BitVec 32) (k0_hw2 : k0_chk2 v120), ∀ a, (k0_off8 v120) a + S1x7168.size a ≤ S8000x7168.size a := fun v120 k0_hw2 => k0_hw2

def k0_off9 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_102 : BitVec 32 := 8#32
  let v127 : BitVec 32 := Scalar.muli arg16 c8_i32_102
  let c2_i32_103 : BitVec 32 := 2#32
  let v128 : BitVec 32 := Scalar.addi v127 c2_i32_103
  let v129 : Index := Scalar.indexCast v128
  ![v129.toNat]
def k0_off10 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off11 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c2_i32_105 : BitVec 32 := 2#32
  let c0_i32_106 : BitVec 32 := 0#32
  ![v106.toNat, 2, 0]
def k0_off12 (v130 : BitVec 32) : Fin 2 → Nat :=
  let c2_i32_104 : BitVec 32 := 2#32
  let v131 : BitVec 32 := Scalar.shrui v130 c2_i32_104
  let c0_i32_107 : BitVec 32 := 0#32
  ![v131.toNat, 0]

def k0_chk3 (v130 : BitVec 32) : Prop :=
  (∀ a, (k0_off12 v130) a + S1x7168.size a ≤ S8000x7168.size a)
theorem k0_off12_inb : ∀ (v130 : BitVec 32) (k0_hw3 : k0_chk3 v130), ∀ a, (k0_off12 v130) a + S1x7168.size a ≤ S8000x7168.size a := fun v130 k0_hw3 => k0_hw3

def k0_off13 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_108 : BitVec 32 := 8#32
  let v137 : BitVec 32 := Scalar.muli arg16 c8_i32_108
  let c3_i32 : BitVec 32 := 3#32
  let v138 : BitVec 32 := Scalar.addi v137 c3_i32
  let v139 : Index := Scalar.indexCast v138
  ![v139.toNat]
def k0_off14 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off15 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c3_i32_110 : BitVec 32 := 3#32
  let c0_i32_111 : BitVec 32 := 0#32
  ![v106.toNat, 3, 0]
def k0_off16 (v140 : BitVec 32) : Fin 2 → Nat :=
  let c2_i32_109 : BitVec 32 := 2#32
  let v141 : BitVec 32 := Scalar.shrui v140 c2_i32_109
  let c0_i32_112 : BitVec 32 := 0#32
  ![v141.toNat, 0]

def k0_chk4 (v140 : BitVec 32) : Prop :=
  (∀ a, (k0_off16 v140) a + S1x7168.size a ≤ S8000x7168.size a)
theorem k0_off16_inb : ∀ (v140 : BitVec 32) (k0_hw4 : k0_chk4 v140), ∀ a, (k0_off16 v140) a + S1x7168.size a ≤ S8000x7168.size a := fun v140 k0_hw4 => k0_hw4

def k0_off17 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_113 : BitVec 32 := 8#32
  let v147 : BitVec 32 := Scalar.muli arg16 c8_i32_113
  let c4_i32 : BitVec 32 := 4#32
  let v148 : BitVec 32 := Scalar.addi v147 c4_i32
  let v149 : Index := Scalar.indexCast v148
  ![v149.toNat]
def k0_off18 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off19 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c4_i32_115 : BitVec 32 := 4#32
  let c0_i32_116 : BitVec 32 := 0#32
  ![v106.toNat, 4, 0]
def k0_off20 (v150 : BitVec 32) : Fin 2 → Nat :=
  let c2_i32_114 : BitVec 32 := 2#32
  let v151 : BitVec 32 := Scalar.shrui v150 c2_i32_114
  let c0_i32_117 : BitVec 32 := 0#32
  ![v151.toNat, 0]

def k0_chk5 (v150 : BitVec 32) : Prop :=
  (∀ a, (k0_off20 v150) a + S1x7168.size a ≤ S8000x7168.size a)
theorem k0_off20_inb : ∀ (v150 : BitVec 32) (k0_hw5 : k0_chk5 v150), ∀ a, (k0_off20 v150) a + S1x7168.size a ≤ S8000x7168.size a := fun v150 k0_hw5 => k0_hw5

def k0_off21 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_118 : BitVec 32 := 8#32
  let v157 : BitVec 32 := Scalar.muli arg16 c8_i32_118
  let c5_i32 : BitVec 32 := 5#32
  let v158 : BitVec 32 := Scalar.addi v157 c5_i32
  let v159 : Index := Scalar.indexCast v158
  ![v159.toNat]
def k0_off22 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off23 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c5_i32_120 : BitVec 32 := 5#32
  let c0_i32_121 : BitVec 32 := 0#32
  ![v106.toNat, 5, 0]
def k0_off24 (v160 : BitVec 32) : Fin 2 → Nat :=
  let c2_i32_119 : BitVec 32 := 2#32
  let v161 : BitVec 32 := Scalar.shrui v160 c2_i32_119
  let c0_i32_122 : BitVec 32 := 0#32
  ![v161.toNat, 0]

def k0_chk6 (v160 : BitVec 32) : Prop :=
  (∀ a, (k0_off24 v160) a + S1x7168.size a ≤ S8000x7168.size a)
theorem k0_off24_inb : ∀ (v160 : BitVec 32) (k0_hw6 : k0_chk6 v160), ∀ a, (k0_off24 v160) a + S1x7168.size a ≤ S8000x7168.size a := fun v160 k0_hw6 => k0_hw6

def k0_off25 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_123 : BitVec 32 := 8#32
  let v167 : BitVec 32 := Scalar.muli arg16 c8_i32_123
  let c6_i32 : BitVec 32 := 6#32
  let v168 : BitVec 32 := Scalar.addi v167 c6_i32
  let v169 : Index := Scalar.indexCast v168
  ![v169.toNat]
def k0_off26 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off27 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c6_i32_125 : BitVec 32 := 6#32
  let c0_i32_126 : BitVec 32 := 0#32
  ![v106.toNat, 6, 0]
def k0_off28 (v170 : BitVec 32) : Fin 2 → Nat :=
  let c2_i32_124 : BitVec 32 := 2#32
  let v171 : BitVec 32 := Scalar.shrui v170 c2_i32_124
  let c0_i32_127 : BitVec 32 := 0#32
  ![v171.toNat, 0]

def k0_chk7 (v170 : BitVec 32) : Prop :=
  (∀ a, (k0_off28 v170) a + S1x7168.size a ≤ S8000x7168.size a)
theorem k0_off28_inb : ∀ (v170 : BitVec 32) (k0_hw7 : k0_chk7 v170), ∀ a, (k0_off28 v170) a + S1x7168.size a ≤ S8000x7168.size a := fun v170 k0_hw7 => k0_hw7

def k0_off29 (k0_t1 : Fin k0_t1_loop.trips) : Fin 1 → Nat :=
  let c0_i32 : BitVec 32 := 0#32
  let c1_i32 : BitVec 32 := 1#32
  let arg16 : BitVec 32 := Scf.iv c0_i32 c1_i32 k0_t1
  let c8_i32_128 : BitVec 32 := 8#32
  let v177 : BitVec 32 := Scalar.muli arg16 c8_i32_128
  let c7_i32 : BitVec 32 := 7#32
  let v178 : BitVec 32 := Scalar.addi v177 c7_i32
  let v179 : Index := Scalar.indexCast v178
  ![v179.toNat]
def k0_off30 (k0_t1 : Fin k0_t1_loop.trips) : Fin 1 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  ![v106.toNat]
def k0_off31 (k0_t1 : Fin k0_t1_loop.trips) : Fin 3 → Nat :=
  let c0_i32 : BitVec 32 := 0#32
  let c1_i32 : BitVec 32 := 1#32
  let arg16 : BitVec 32 := Scf.iv c0_i32 c1_i32 k0_t1
  let c64_i32 : BitVec 32 := 64#32
  let v106 : BitVec 32 := Scalar.remsi arg16 c64_i32
  let c7_i32_130 : BitVec 32 := 7#32
  let c0_i32_131 : BitVec 32 := 0#32
  ![v106.toNat, 7, 0]
def k0_off32 (v180 : BitVec 32) : Fin 2 → Nat :=
  let c2_i32_129 : BitVec 32 := 2#32
  let v181 : BitVec 32 := Scalar.shrui v180 c2_i32_129
  let c0_i32_132 : BitVec 32 := 0#32
  ![v181.toNat, 0]

def k0_chk8 (v180 : BitVec 32) : Prop :=
  (∀ a, (k0_off32 v180) a + S1x7168.size a ≤ S8000x7168.size a)
theorem k0_off32_inb : ∀ (v180 : BitVec 32) (k0_hw8 : k0_chk8 v180), ∀ a, (k0_off32 v180) a + S1x7168.size a ≤ S8000x7168.size a := fun v180 k0_hw8 => k0_hw8

@[reducible] def k0_t2_loop : Scf.Loop 32 :=
  let c0_i32_1 : BitVec 32 := 0#32
  let c512_i32 : BitVec 32 := 512#32
  let v1 : BitVec 32 := Scalar.addi c0_i32_1 c512_i32
  let c1_i32_2 : BitVec 32 := 1#32
  ⟨c0_i32_1, v1, c1_i32_2⟩
def k0_off33 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_92 : BitVec 32 := 64#32
  let v108 : BitVec 32 := Scalar.remsi arg16 c64_i32_92
  ![v108.toNat]
def k0_off34 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_92 : BitVec 32 := 64#32
  let v108 : BitVec 32 := Scalar.remsi arg16 c64_i32_92
  let c0_i32_93 : BitVec 32 := 0#32
  let c0_i32_94 : BitVec 32 := 0#32
  ![v108.toNat, 0, 0]
def k0_cond1 (k0_t2 : Fin k0_t2_loop.trips) : BitVec 1 :=
  let c0_i32_1 : BitVec 32 := 0#32
  let c1_i32_2 : BitVec 32 := 1#32
  let arg16 : BitVec 32 := Scf.iv c0_i32_1 c1_i32_2 k0_t2
  let c8_i32_97 : BitVec 32 := 8#32
  let v114 : BitVec 1 := Scalar.cmpi .sge arg16 c8_i32_97
  let v115 : BitVec 32 := Scalar.extui v114
  let c0_i32_98 : BitVec 32 := 0#32
  let v116 : BitVec 1 := Scalar.cmpi .ne v115 c0_i32_98
  v116

def k0_off35 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_755 : BitVec 32 := 8#32
  let v2014 : BitVec 32 := Scalar.subi arg16 c8_i32_755
  let c8_i32_756 : BitVec 32 := 8#32
  let v2015 : BitVec 32 := Scalar.remsi v2014 c8_i32_756
  ![v2015.toNat]
def k0_off36 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_755 : BitVec 32 := 8#32
  let v2014 : BitVec 32 := Scalar.subi arg16 c8_i32_755
  let c0_i32_757 : BitVec 32 := 0#32
  let c0_i32_758 : BitVec 32 := 0#32
  ![v2014.toNat, 0, 0]
def k0_off37 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_755 : BitVec 32 := 8#32
  let v2014 : BitVec 32 := Scalar.subi arg16 c8_i32_755
  let c8_i32_756 : BitVec 32 := 8#32
  let v2015 : BitVec 32 := Scalar.remsi v2014 c8_i32_756
  let c0_i32_759 : BitVec 32 := 0#32
  let c0_i32_760 : BitVec 32 := 0#32
  ![v2015.toNat, 0, 0]
def k0_off38 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_99 : BitVec 32 := 8#32
  let v117 : BitVec 32 := Scalar.muli arg16 c8_i32_99
  let c0_i32_100 : BitVec 32 := 0#32
  let v118 : BitVec 32 := Scalar.addi v117 c0_i32_100
  let v119 : Index := Scalar.indexCast v118
  ![v119.toNat]
def k0_off39 (v120 : BitVec 32) : Fin 1 → Nat :=
  let v128 : Index := Scalar.indexCast v120
  ![v128.toNat]

def k0_chk9 (v120 : BitVec 32) : Prop :=
  (∀ a, (k0_off39 v120) a + S1.size a ≤ S32000.size a)
theorem k0_off39_inb : ∀ (v120 : BitVec 32) (k0_hw9 : k0_chk9 v120), ∀ a, (k0_off39 v120) a + S1.size a ≤ S32000.size a := fun v120 k0_hw9 => k0_hw9

def k0_off40 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_108 : BitVec 32 := 8#32
  let v140 : BitVec 32 := Scalar.muli arg16 c8_i32_108
  let c1_i32_109 : BitVec 32 := 1#32
  let v141 : BitVec 32 := Scalar.addi v140 c1_i32_109
  let v142 : Index := Scalar.indexCast v141
  ![v142.toNat]
def k0_off41 (v143 : BitVec 32) : Fin 1 → Nat :=
  let v151 : Index := Scalar.indexCast v143
  ![v151.toNat]

def k0_chk10 (v143 : BitVec 32) : Prop :=
  (∀ a, (k0_off41 v143) a + S1.size a ≤ S32000.size a)
theorem k0_off41_inb : ∀ (v143 : BitVec 32) (k0_hw10 : k0_chk10 v143), ∀ a, (k0_off41 v143) a + S1.size a ≤ S32000.size a := fun v143 k0_hw10 => k0_hw10

def k0_off42 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_118 : BitVec 32 := 8#32
  let v163 : BitVec 32 := Scalar.muli arg16 c8_i32_118
  let c2_i32 : BitVec 32 := 2#32
  let v164 : BitVec 32 := Scalar.addi v163 c2_i32
  let v165 : Index := Scalar.indexCast v164
  ![v165.toNat]
def k0_off43 (v166 : BitVec 32) : Fin 1 → Nat :=
  let v174 : Index := Scalar.indexCast v166
  ![v174.toNat]

def k0_chk11 (v166 : BitVec 32) : Prop :=
  (∀ a, (k0_off43 v166) a + S1.size a ≤ S32000.size a)
theorem k0_off43_inb : ∀ (v166 : BitVec 32) (k0_hw11 : k0_chk11 v166), ∀ a, (k0_off43 v166) a + S1.size a ≤ S32000.size a := fun v166 k0_hw11 => k0_hw11

def k0_off44 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_127 : BitVec 32 := 8#32
  let v186 : BitVec 32 := Scalar.muli arg16 c8_i32_127
  let c3_i32_128 : BitVec 32 := 3#32
  let v187 : BitVec 32 := Scalar.addi v186 c3_i32_128
  let v188 : Index := Scalar.indexCast v187
  ![v188.toNat]
def k0_off45 (v189 : BitVec 32) : Fin 1 → Nat :=
  let v197 : Index := Scalar.indexCast v189
  ![v197.toNat]

def k0_chk12 (v189 : BitVec 32) : Prop :=
  (∀ a, (k0_off45 v189) a + S1.size a ≤ S32000.size a)
theorem k0_off45_inb : ∀ (v189 : BitVec 32) (k0_hw12 : k0_chk12 v189), ∀ a, (k0_off45 v189) a + S1.size a ≤ S32000.size a := fun v189 k0_hw12 => k0_hw12

def k0_off46 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_137 : BitVec 32 := 8#32
  let v209 : BitVec 32 := Scalar.muli arg16 c8_i32_137
  let c4_i32 : BitVec 32 := 4#32
  let v210 : BitVec 32 := Scalar.addi v209 c4_i32
  let v211 : Index := Scalar.indexCast v210
  ![v211.toNat]
def k0_off47 (v212 : BitVec 32) : Fin 1 → Nat :=
  let v220 : Index := Scalar.indexCast v212
  ![v220.toNat]

def k0_chk13 (v212 : BitVec 32) : Prop :=
  (∀ a, (k0_off47 v212) a + S1.size a ≤ S32000.size a)
theorem k0_off47_inb : ∀ (v212 : BitVec 32) (k0_hw13 : k0_chk13 v212), ∀ a, (k0_off47 v212) a + S1.size a ≤ S32000.size a := fun v212 k0_hw13 => k0_hw13

def k0_off48 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_146 : BitVec 32 := 8#32
  let v232 : BitVec 32 := Scalar.muli arg16 c8_i32_146
  let c5_i32 : BitVec 32 := 5#32
  let v233 : BitVec 32 := Scalar.addi v232 c5_i32
  let v234 : Index := Scalar.indexCast v233
  ![v234.toNat]
def k0_off49 (v235 : BitVec 32) : Fin 1 → Nat :=
  let v243 : Index := Scalar.indexCast v235
  ![v243.toNat]

def k0_chk14 (v235 : BitVec 32) : Prop :=
  (∀ a, (k0_off49 v235) a + S1.size a ≤ S32000.size a)
theorem k0_off49_inb : ∀ (v235 : BitVec 32) (k0_hw14 : k0_chk14 v235), ∀ a, (k0_off49 v235) a + S1.size a ≤ S32000.size a := fun v235 k0_hw14 => k0_hw14

def k0_off50 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_155 : BitVec 32 := 8#32
  let v255 : BitVec 32 := Scalar.muli arg16 c8_i32_155
  let c6_i32 : BitVec 32 := 6#32
  let v256 : BitVec 32 := Scalar.addi v255 c6_i32
  let v257 : Index := Scalar.indexCast v256
  ![v257.toNat]
def k0_off51 (v258 : BitVec 32) : Fin 1 → Nat :=
  let v266 : Index := Scalar.indexCast v258
  ![v266.toNat]

def k0_chk15 (v258 : BitVec 32) : Prop :=
  (∀ a, (k0_off51 v258) a + S1.size a ≤ S32000.size a)
theorem k0_off51_inb : ∀ (v258 : BitVec 32) (k0_hw15 : k0_chk15 v258), ∀ a, (k0_off51 v258) a + S1.size a ≤ S32000.size a := fun v258 k0_hw15 => k0_hw15

def k0_off52 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_164 : BitVec 32 := 8#32
  let v278 : BitVec 32 := Scalar.muli arg16 c8_i32_164
  let c7_i32 : BitVec 32 := 7#32
  let v279 : BitVec 32 := Scalar.addi v278 c7_i32
  let v280 : Index := Scalar.indexCast v279
  ![v280.toNat]
def k0_off53 (v281 : BitVec 32) : Fin 1 → Nat :=
  let v289 : Index := Scalar.indexCast v281
  ![v289.toNat]

def k0_chk16 (v281 : BitVec 32) : Prop :=
  (∀ a, (k0_off53 v281) a + S1.size a ≤ S32000.size a)
theorem k0_off53_inb : ∀ (v281 : BitVec 32) (k0_hw16 : k0_chk16 v281), ∀ a, (k0_off53 v281) a + S1.size a ≤ S32000.size a := fun v281 k0_hw16 => k0_hw16

def k0_off54 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v307 : Index := Scalar.indexCast v106
  let c0_179 : Index := 0#32
  let c0_180 : Index := 0#32
  ![v307.toNat, 0, 0]
def k0_off55 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v317 : Index := Scalar.indexCast v107
  let c0_181 : Index := 0#32
  let c0_182 : Index := 0#32
  ![v317.toNat, 0, 0]
def k0_off56 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v324 : Index := Scalar.indexCast v106
  let c0_183 : Index := 0#32
  let c128 : Index := 128#32
  ![v324.toNat, 0, 128]
def k0_off57 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v334 : Index := Scalar.indexCast v107
  let c0_185 : Index := 0#32
  let c128_186 : Index := 128#32
  ![v334.toNat, 0, 128]
def k0_off58 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v341 : Index := Scalar.indexCast v106
  let c0_187 : Index := 0#32
  let c256 : Index := 256#32
  ![v341.toNat, 0, 256]
def k0_off59 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v351 : Index := Scalar.indexCast v107
  let c0_189 : Index := 0#32
  let c256_190 : Index := 256#32
  ![v351.toNat, 0, 256]
def k0_off60 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v358 : Index := Scalar.indexCast v106
  let c0_191 : Index := 0#32
  let c384 : Index := 384#32
  ![v358.toNat, 0, 384]
def k0_off61 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v368 : Index := Scalar.indexCast v107
  let c0_193 : Index := 0#32
  let c384_194 : Index := 384#32
  ![v368.toNat, 0, 384]
def k0_off62 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v375 : Index := Scalar.indexCast v106
  let c0_195 : Index := 0#32
  let c512 : Index := 512#32
  ![v375.toNat, 0, 512]
def k0_off63 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v385 : Index := Scalar.indexCast v107
  let c0_197 : Index := 0#32
  let c512_198 : Index := 512#32
  ![v385.toNat, 0, 512]
def k0_off64 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v392 : Index := Scalar.indexCast v106
  let c0_199 : Index := 0#32
  let c640 : Index := 640#32
  ![v392.toNat, 0, 640]
def k0_off65 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v402 : Index := Scalar.indexCast v107
  let c0_201 : Index := 0#32
  let c640_202 : Index := 640#32
  ![v402.toNat, 0, 640]
def k0_off66 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v409 : Index := Scalar.indexCast v106
  let c0_203 : Index := 0#32
  let c768 : Index := 768#32
  ![v409.toNat, 0, 768]
def k0_off67 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v419 : Index := Scalar.indexCast v107
  let c0_205 : Index := 0#32
  let c768_206 : Index := 768#32
  ![v419.toNat, 0, 768]
def k0_off68 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v426 : Index := Scalar.indexCast v106
  let c0_207 : Index := 0#32
  let c896 : Index := 896#32
  ![v426.toNat, 0, 896]
def k0_off69 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v436 : Index := Scalar.indexCast v107
  let c0_209 : Index := 0#32
  let c896_210 : Index := 896#32
  ![v436.toNat, 0, 896]
def k0_off70 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v443 : Index := Scalar.indexCast v106
  let c0_211 : Index := 0#32
  let c1024 : Index := 1024#32
  ![v443.toNat, 0, 1024]
def k0_off71 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v453 : Index := Scalar.indexCast v107
  let c0_213 : Index := 0#32
  let c1024_214 : Index := 1024#32
  ![v453.toNat, 0, 1024]
def k0_off72 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v460 : Index := Scalar.indexCast v106
  let c0_215 : Index := 0#32
  let c1152 : Index := 1152#32
  ![v460.toNat, 0, 1152]
def k0_off73 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v470 : Index := Scalar.indexCast v107
  let c0_217 : Index := 0#32
  let c1152_218 : Index := 1152#32
  ![v470.toNat, 0, 1152]
def k0_off74 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v477 : Index := Scalar.indexCast v106
  let c0_219 : Index := 0#32
  let c1280 : Index := 1280#32
  ![v477.toNat, 0, 1280]
def k0_off75 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v487 : Index := Scalar.indexCast v107
  let c0_221 : Index := 0#32
  let c1280_222 : Index := 1280#32
  ![v487.toNat, 0, 1280]
def k0_off76 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v494 : Index := Scalar.indexCast v106
  let c0_223 : Index := 0#32
  let c1408 : Index := 1408#32
  ![v494.toNat, 0, 1408]
def k0_off77 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v504 : Index := Scalar.indexCast v107
  let c0_225 : Index := 0#32
  let c1408_226 : Index := 1408#32
  ![v504.toNat, 0, 1408]
def k0_off78 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v511 : Index := Scalar.indexCast v106
  let c0_227 : Index := 0#32
  let c1536 : Index := 1536#32
  ![v511.toNat, 0, 1536]
def k0_off79 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v521 : Index := Scalar.indexCast v107
  let c0_229 : Index := 0#32
  let c1536_230 : Index := 1536#32
  ![v521.toNat, 0, 1536]
def k0_off80 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v528 : Index := Scalar.indexCast v106
  let c0_231 : Index := 0#32
  let c1664 : Index := 1664#32
  ![v528.toNat, 0, 1664]
def k0_off81 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v538 : Index := Scalar.indexCast v107
  let c0_233 : Index := 0#32
  let c1664_234 : Index := 1664#32
  ![v538.toNat, 0, 1664]
def k0_off82 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v545 : Index := Scalar.indexCast v106
  let c0_235 : Index := 0#32
  let c1792 : Index := 1792#32
  ![v545.toNat, 0, 1792]
def k0_off83 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v555 : Index := Scalar.indexCast v107
  let c0_237 : Index := 0#32
  let c1792_238 : Index := 1792#32
  ![v555.toNat, 0, 1792]
def k0_off84 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v562 : Index := Scalar.indexCast v106
  let c0_239 : Index := 0#32
  let c1920 : Index := 1920#32
  ![v562.toNat, 0, 1920]
def k0_off85 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v572 : Index := Scalar.indexCast v107
  let c0_241 : Index := 0#32
  let c1920_242 : Index := 1920#32
  ![v572.toNat, 0, 1920]
def k0_off86 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v579 : Index := Scalar.indexCast v106
  let c0_243 : Index := 0#32
  let c2048 : Index := 2048#32
  ![v579.toNat, 0, 2048]
def k0_off87 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v589 : Index := Scalar.indexCast v107
  let c0_245 : Index := 0#32
  let c2048_246 : Index := 2048#32
  ![v589.toNat, 0, 2048]
def k0_off88 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v596 : Index := Scalar.indexCast v106
  let c0_247 : Index := 0#32
  let c2176 : Index := 2176#32
  ![v596.toNat, 0, 2176]
def k0_off89 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v606 : Index := Scalar.indexCast v107
  let c0_249 : Index := 0#32
  let c2176_250 : Index := 2176#32
  ![v606.toNat, 0, 2176]
def k0_off90 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v613 : Index := Scalar.indexCast v106
  let c0_251 : Index := 0#32
  let c2304 : Index := 2304#32
  ![v613.toNat, 0, 2304]
def k0_off91 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v623 : Index := Scalar.indexCast v107
  let c0_253 : Index := 0#32
  let c2304_254 : Index := 2304#32
  ![v623.toNat, 0, 2304]
def k0_off92 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v630 : Index := Scalar.indexCast v106
  let c0_255 : Index := 0#32
  let c2432 : Index := 2432#32
  ![v630.toNat, 0, 2432]
def k0_off93 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v640 : Index := Scalar.indexCast v107
  let c0_257 : Index := 0#32
  let c2432_258 : Index := 2432#32
  ![v640.toNat, 0, 2432]
def k0_off94 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v647 : Index := Scalar.indexCast v106
  let c0_259 : Index := 0#32
  let c2560 : Index := 2560#32
  ![v647.toNat, 0, 2560]
def k0_off95 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v657 : Index := Scalar.indexCast v107
  let c0_261 : Index := 0#32
  let c2560_262 : Index := 2560#32
  ![v657.toNat, 0, 2560]
def k0_off96 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v664 : Index := Scalar.indexCast v106
  let c0_263 : Index := 0#32
  let c2688 : Index := 2688#32
  ![v664.toNat, 0, 2688]
def k0_off97 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v674 : Index := Scalar.indexCast v107
  let c0_265 : Index := 0#32
  let c2688_266 : Index := 2688#32
  ![v674.toNat, 0, 2688]
def k0_off98 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v681 : Index := Scalar.indexCast v106
  let c0_267 : Index := 0#32
  let c2816 : Index := 2816#32
  ![v681.toNat, 0, 2816]
def k0_off99 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v691 : Index := Scalar.indexCast v107
  let c0_269 : Index := 0#32
  let c2816_270 : Index := 2816#32
  ![v691.toNat, 0, 2816]
def k0_off100 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v698 : Index := Scalar.indexCast v106
  let c0_271 : Index := 0#32
  let c2944 : Index := 2944#32
  ![v698.toNat, 0, 2944]
def k0_off101 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v708 : Index := Scalar.indexCast v107
  let c0_273 : Index := 0#32
  let c2944_274 : Index := 2944#32
  ![v708.toNat, 0, 2944]
def k0_off102 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v715 : Index := Scalar.indexCast v106
  let c0_275 : Index := 0#32
  let c3072 : Index := 3072#32
  ![v715.toNat, 0, 3072]
def k0_off103 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v725 : Index := Scalar.indexCast v107
  let c0_277 : Index := 0#32
  let c3072_278 : Index := 3072#32
  ![v725.toNat, 0, 3072]
def k0_off104 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v732 : Index := Scalar.indexCast v106
  let c0_279 : Index := 0#32
  let c3200 : Index := 3200#32
  ![v732.toNat, 0, 3200]
def k0_off105 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v742 : Index := Scalar.indexCast v107
  let c0_281 : Index := 0#32
  let c3200_282 : Index := 3200#32
  ![v742.toNat, 0, 3200]
def k0_off106 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v749 : Index := Scalar.indexCast v106
  let c0_283 : Index := 0#32
  let c3328 : Index := 3328#32
  ![v749.toNat, 0, 3328]
def k0_off107 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v759 : Index := Scalar.indexCast v107
  let c0_285 : Index := 0#32
  let c3328_286 : Index := 3328#32
  ![v759.toNat, 0, 3328]
def k0_off108 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v766 : Index := Scalar.indexCast v106
  let c0_287 : Index := 0#32
  let c3456 : Index := 3456#32
  ![v766.toNat, 0, 3456]
def k0_off109 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v776 : Index := Scalar.indexCast v107
  let c0_289 : Index := 0#32
  let c3456_290 : Index := 3456#32
  ![v776.toNat, 0, 3456]
def k0_off110 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v783 : Index := Scalar.indexCast v106
  let c0_291 : Index := 0#32
  let c3584 : Index := 3584#32
  ![v783.toNat, 0, 3584]
def k0_off111 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v793 : Index := Scalar.indexCast v107
  let c0_293 : Index := 0#32
  let c3584_294 : Index := 3584#32
  ![v793.toNat, 0, 3584]
def k0_off112 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v800 : Index := Scalar.indexCast v106
  let c0_295 : Index := 0#32
  let c3712 : Index := 3712#32
  ![v800.toNat, 0, 3712]
def k0_off113 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v810 : Index := Scalar.indexCast v107
  let c0_297 : Index := 0#32
  let c3712_298 : Index := 3712#32
  ![v810.toNat, 0, 3712]
def k0_off114 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v817 : Index := Scalar.indexCast v106
  let c0_299 : Index := 0#32
  let c3840 : Index := 3840#32
  ![v817.toNat, 0, 3840]
def k0_off115 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v827 : Index := Scalar.indexCast v107
  let c0_301 : Index := 0#32
  let c3840_302 : Index := 3840#32
  ![v827.toNat, 0, 3840]
def k0_off116 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v834 : Index := Scalar.indexCast v106
  let c0_303 : Index := 0#32
  let c3968 : Index := 3968#32
  ![v834.toNat, 0, 3968]
def k0_off117 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v844 : Index := Scalar.indexCast v107
  let c0_305 : Index := 0#32
  let c3968_306 : Index := 3968#32
  ![v844.toNat, 0, 3968]
def k0_off118 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v851 : Index := Scalar.indexCast v106
  let c0_307 : Index := 0#32
  let c4096 : Index := 4096#32
  ![v851.toNat, 0, 4096]
def k0_off119 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v861 : Index := Scalar.indexCast v107
  let c0_309 : Index := 0#32
  let c4096_310 : Index := 4096#32
  ![v861.toNat, 0, 4096]
def k0_off120 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v868 : Index := Scalar.indexCast v106
  let c0_311 : Index := 0#32
  let c4224 : Index := 4224#32
  ![v868.toNat, 0, 4224]
def k0_off121 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v878 : Index := Scalar.indexCast v107
  let c0_313 : Index := 0#32
  let c4224_314 : Index := 4224#32
  ![v878.toNat, 0, 4224]
def k0_off122 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v885 : Index := Scalar.indexCast v106
  let c0_315 : Index := 0#32
  let c4352 : Index := 4352#32
  ![v885.toNat, 0, 4352]
def k0_off123 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v895 : Index := Scalar.indexCast v107
  let c0_317 : Index := 0#32
  let c4352_318 : Index := 4352#32
  ![v895.toNat, 0, 4352]
def k0_off124 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v902 : Index := Scalar.indexCast v106
  let c0_319 : Index := 0#32
  let c4480 : Index := 4480#32
  ![v902.toNat, 0, 4480]
def k0_off125 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v912 : Index := Scalar.indexCast v107
  let c0_321 : Index := 0#32
  let c4480_322 : Index := 4480#32
  ![v912.toNat, 0, 4480]
def k0_off126 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v919 : Index := Scalar.indexCast v106
  let c0_323 : Index := 0#32
  let c4608 : Index := 4608#32
  ![v919.toNat, 0, 4608]
def k0_off127 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v929 : Index := Scalar.indexCast v107
  let c0_325 : Index := 0#32
  let c4608_326 : Index := 4608#32
  ![v929.toNat, 0, 4608]
def k0_off128 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v936 : Index := Scalar.indexCast v106
  let c0_327 : Index := 0#32
  let c4736 : Index := 4736#32
  ![v936.toNat, 0, 4736]
def k0_off129 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v946 : Index := Scalar.indexCast v107
  let c0_329 : Index := 0#32
  let c4736_330 : Index := 4736#32
  ![v946.toNat, 0, 4736]
def k0_off130 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v953 : Index := Scalar.indexCast v106
  let c0_331 : Index := 0#32
  let c4864 : Index := 4864#32
  ![v953.toNat, 0, 4864]
def k0_off131 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v963 : Index := Scalar.indexCast v107
  let c0_333 : Index := 0#32
  let c4864_334 : Index := 4864#32
  ![v963.toNat, 0, 4864]
def k0_off132 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v970 : Index := Scalar.indexCast v106
  let c0_335 : Index := 0#32
  let c4992 : Index := 4992#32
  ![v970.toNat, 0, 4992]
def k0_off133 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v980 : Index := Scalar.indexCast v107
  let c0_337 : Index := 0#32
  let c4992_338 : Index := 4992#32
  ![v980.toNat, 0, 4992]
def k0_off134 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v987 : Index := Scalar.indexCast v106
  let c0_339 : Index := 0#32
  let c5120 : Index := 5120#32
  ![v987.toNat, 0, 5120]
def k0_off135 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v997 : Index := Scalar.indexCast v107
  let c0_341 : Index := 0#32
  let c5120_342 : Index := 5120#32
  ![v997.toNat, 0, 5120]
def k0_off136 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1004 : Index := Scalar.indexCast v106
  let c0_343 : Index := 0#32
  let c5248 : Index := 5248#32
  ![v1004.toNat, 0, 5248]
def k0_off137 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1014 : Index := Scalar.indexCast v107
  let c0_345 : Index := 0#32
  let c5248_346 : Index := 5248#32
  ![v1014.toNat, 0, 5248]
def k0_off138 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1021 : Index := Scalar.indexCast v106
  let c0_347 : Index := 0#32
  let c5376 : Index := 5376#32
  ![v1021.toNat, 0, 5376]
def k0_off139 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1031 : Index := Scalar.indexCast v107
  let c0_349 : Index := 0#32
  let c5376_350 : Index := 5376#32
  ![v1031.toNat, 0, 5376]
def k0_off140 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1038 : Index := Scalar.indexCast v106
  let c0_351 : Index := 0#32
  let c5504 : Index := 5504#32
  ![v1038.toNat, 0, 5504]
def k0_off141 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1048 : Index := Scalar.indexCast v107
  let c0_353 : Index := 0#32
  let c5504_354 : Index := 5504#32
  ![v1048.toNat, 0, 5504]
def k0_off142 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1055 : Index := Scalar.indexCast v106
  let c0_355 : Index := 0#32
  let c5632 : Index := 5632#32
  ![v1055.toNat, 0, 5632]
def k0_off143 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1065 : Index := Scalar.indexCast v107
  let c0_357 : Index := 0#32
  let c5632_358 : Index := 5632#32
  ![v1065.toNat, 0, 5632]
def k0_off144 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1072 : Index := Scalar.indexCast v106
  let c0_359 : Index := 0#32
  let c5760 : Index := 5760#32
  ![v1072.toNat, 0, 5760]
def k0_off145 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1082 : Index := Scalar.indexCast v107
  let c0_361 : Index := 0#32
  let c5760_362 : Index := 5760#32
  ![v1082.toNat, 0, 5760]
def k0_off146 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1089 : Index := Scalar.indexCast v106
  let c0_363 : Index := 0#32
  let c5888 : Index := 5888#32
  ![v1089.toNat, 0, 5888]
def k0_off147 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1099 : Index := Scalar.indexCast v107
  let c0_365 : Index := 0#32
  let c5888_366 : Index := 5888#32
  ![v1099.toNat, 0, 5888]
def k0_off148 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1106 : Index := Scalar.indexCast v106
  let c0_367 : Index := 0#32
  let c6016 : Index := 6016#32
  ![v1106.toNat, 0, 6016]
def k0_off149 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1116 : Index := Scalar.indexCast v107
  let c0_369 : Index := 0#32
  let c6016_370 : Index := 6016#32
  ![v1116.toNat, 0, 6016]
def k0_off150 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1123 : Index := Scalar.indexCast v106
  let c0_371 : Index := 0#32
  let c6144 : Index := 6144#32
  ![v1123.toNat, 0, 6144]
def k0_off151 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1133 : Index := Scalar.indexCast v107
  let c0_373 : Index := 0#32
  let c6144_374 : Index := 6144#32
  ![v1133.toNat, 0, 6144]
def k0_off152 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1140 : Index := Scalar.indexCast v106
  let c0_375 : Index := 0#32
  let c6272 : Index := 6272#32
  ![v1140.toNat, 0, 6272]
def k0_off153 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1150 : Index := Scalar.indexCast v107
  let c0_377 : Index := 0#32
  let c6272_378 : Index := 6272#32
  ![v1150.toNat, 0, 6272]
def k0_off154 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1157 : Index := Scalar.indexCast v106
  let c0_379 : Index := 0#32
  let c6400 : Index := 6400#32
  ![v1157.toNat, 0, 6400]
def k0_off155 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1167 : Index := Scalar.indexCast v107
  let c0_381 : Index := 0#32
  let c6400_382 : Index := 6400#32
  ![v1167.toNat, 0, 6400]
def k0_off156 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1174 : Index := Scalar.indexCast v106
  let c0_383 : Index := 0#32
  let c6528 : Index := 6528#32
  ![v1174.toNat, 0, 6528]
def k0_off157 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1184 : Index := Scalar.indexCast v107
  let c0_385 : Index := 0#32
  let c6528_386 : Index := 6528#32
  ![v1184.toNat, 0, 6528]
def k0_off158 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1191 : Index := Scalar.indexCast v106
  let c0_387 : Index := 0#32
  let c6656 : Index := 6656#32
  ![v1191.toNat, 0, 6656]
def k0_off159 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1201 : Index := Scalar.indexCast v107
  let c0_389 : Index := 0#32
  let c6656_390 : Index := 6656#32
  ![v1201.toNat, 0, 6656]
def k0_off160 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1208 : Index := Scalar.indexCast v106
  let c0_391 : Index := 0#32
  let c6784 : Index := 6784#32
  ![v1208.toNat, 0, 6784]
def k0_off161 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1218 : Index := Scalar.indexCast v107
  let c0_393 : Index := 0#32
  let c6784_394 : Index := 6784#32
  ![v1218.toNat, 0, 6784]
def k0_off162 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1225 : Index := Scalar.indexCast v106
  let c0_395 : Index := 0#32
  let c6912 : Index := 6912#32
  ![v1225.toNat, 0, 6912]
def k0_off163 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1235 : Index := Scalar.indexCast v107
  let c0_397 : Index := 0#32
  let c6912_398 : Index := 6912#32
  ![v1235.toNat, 0, 6912]
def k0_off164 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v106 : BitVec 32 := Scalar.remsi arg16 c64_i32
  let v1242 : Index := Scalar.indexCast v106
  let c0_399 : Index := 0#32
  let c7040 : Index := 7040#32
  ![v1242.toNat, 0, 7040]
def k0_off165 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_91 : BitVec 32 := 8#32
  let v107 : BitVec 32 := Scalar.remsi arg16 c8_i32_91
  let v1252 : Index := Scalar.indexCast v107
  let c0_401 : Index := 0#32
  let c7040_402 : Index := 7040#32
  ![v1252.toNat, 0, 7040]
def k0_off166 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c8_i32_742 : BitVec 32 := 8#32
  let v1996 : BitVec 32 := Scalar.remsi arg16 c8_i32_742
  ![v1996.toNat]
def k0_off167 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c0_i32_743 : BitVec 32 := 0#32
  let c0_i32_744 : BitVec 32 := 0#32
  ![arg16.toNat, 0, 0]
def k0_off168 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c8_i32_742 : BitVec 32 := 8#32
  let v1996 : BitVec 32 := Scalar.remsi arg16 c8_i32_742
  let c0_i32_745 : BitVec 32 := 0#32
  let c0_i32_746 : BitVec 32 := 0#32
  ![v1996.toNat, 0, 0]
def k0_cond2 (k0_t2 : Fin k0_t2_loop.trips) : BitVec 1 :=
  let c0_i32_1 : BitVec 32 := 0#32
  let c1_i32_2 : BitVec 32 := 1#32
  let arg16 : BitVec 32 := Scf.iv c0_i32_1 c1_i32_2 k0_t2
  let c64_i32_751 : BitVec 32 := 64#32
  let v2009 : BitVec 32 := Scalar.addi arg16 c64_i32_751
  let c1_i32_752 : BitVec 32 := 1#32
  let v2010 : BitVec 32 := Scalar.subi v2009 c1_i32_752
  let c512_i32_753 : BitVec 32 := 512#32
  let v2011 : BitVec 1 := Scalar.cmpi .slt v2010 c512_i32_753
  let v2012 : BitVec 32 := Scalar.extui v2011
  let c0_i32_754 : BitVec 32 := 0#32
  let v2013 : BitVec 1 := Scalar.cmpi .ne v2012 c0_i32_754
  v2013

def k0_off169 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_758 : BitVec 32 := 8#32
  let v2017 : BitVec 32 := Scalar.muli v2015 c8_i32_758
  let c0_i32_759 : BitVec 32 := 0#32
  let v2018 : BitVec 32 := Scalar.addi v2017 c0_i32_759
  let v2019 : Index := Scalar.indexCast v2018
  ![v2019.toNat]
def k0_off170 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off171 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c0_i32_761 : BitVec 32 := 0#32
  let c0_i32_762 : BitVec 32 := 0#32
  ![v2016.toNat, 0, 0]
def k0_off172 (v2020 : BitVec 32) : Fin 2 → Nat :=
  let c2_i32_760 : BitVec 32 := 2#32
  let v2021 : BitVec 32 := Scalar.shrui v2020 c2_i32_760
  let c0_i32_763 : BitVec 32 := 0#32
  ![v2021.toNat, 0]

def k0_chk17 (k0_t2 : Fin k0_t2_loop.trips) (v2020 : BitVec 32) : Prop :=
  (∀ (k0_h2 : k0_cond2 k0_t2 = 1#1), ∀ a, (k0_off172 v2020) a + S1x7168.size a ≤ S8000x7168.size a)
theorem k0_off172_inb : ∀ (k0_t2 : Fin k0_t2_loop.trips) (v2020 : BitVec 32) (k0_hw17 : k0_chk17 k0_t2 v2020), ∀ (k0_h2 : k0_cond2 k0_t2 = 1#1), ∀ a, (k0_off172 v2020) a + S1x7168.size a ≤ S8000x7168.size a := fun k0_t2 v2020 k0_hw17 k0_h2 => k0_hw17 k0_h2

def k0_off173 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_764 : BitVec 32 := 8#32
  let v2027 : BitVec 32 := Scalar.muli v2015 c8_i32_764
  let c1_i32_765 : BitVec 32 := 1#32
  let v2028 : BitVec 32 := Scalar.addi v2027 c1_i32_765
  let v2029 : Index := Scalar.indexCast v2028
  ![v2029.toNat]
def k0_off174 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off175 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c1_i32_767 : BitVec 32 := 1#32
  let c0_i32_768 : BitVec 32 := 0#32
  ![v2016.toNat, 1, 0]
def k0_off176 (v2030 : BitVec 32) : Fin 2 → Nat :=
  let c2_i32_766 : BitVec 32 := 2#32
  let v2031 : BitVec 32 := Scalar.shrui v2030 c2_i32_766
  let c0_i32_769 : BitVec 32 := 0#32
  ![v2031.toNat, 0]

def k0_chk18 (k0_t2 : Fin k0_t2_loop.trips) (v2030 : BitVec 32) : Prop :=
  (∀ (k0_h2 : k0_cond2 k0_t2 = 1#1), ∀ a, (k0_off176 v2030) a + S1x7168.size a ≤ S8000x7168.size a)
theorem k0_off176_inb : ∀ (k0_t2 : Fin k0_t2_loop.trips) (v2030 : BitVec 32) (k0_hw18 : k0_chk18 k0_t2 v2030), ∀ (k0_h2 : k0_cond2 k0_t2 = 1#1), ∀ a, (k0_off176 v2030) a + S1x7168.size a ≤ S8000x7168.size a := fun k0_t2 v2030 k0_hw18 k0_h2 => k0_hw18 k0_h2

def k0_off177 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_770 : BitVec 32 := 8#32
  let v2037 : BitVec 32 := Scalar.muli v2015 c8_i32_770
  let c2_i32_771 : BitVec 32 := 2#32
  let v2038 : BitVec 32 := Scalar.addi v2037 c2_i32_771
  let v2039 : Index := Scalar.indexCast v2038
  ![v2039.toNat]
def k0_off178 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off179 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c2_i32_773 : BitVec 32 := 2#32
  let c0_i32_774 : BitVec 32 := 0#32
  ![v2016.toNat, 2, 0]
def k0_off180 (v2040 : BitVec 32) : Fin 2 → Nat :=
  let c2_i32_772 : BitVec 32 := 2#32
  let v2041 : BitVec 32 := Scalar.shrui v2040 c2_i32_772
  let c0_i32_775 : BitVec 32 := 0#32
  ![v2041.toNat, 0]

def k0_chk19 (k0_t2 : Fin k0_t2_loop.trips) (v2040 : BitVec 32) : Prop :=
  (∀ (k0_h2 : k0_cond2 k0_t2 = 1#1), ∀ a, (k0_off180 v2040) a + S1x7168.size a ≤ S8000x7168.size a)
theorem k0_off180_inb : ∀ (k0_t2 : Fin k0_t2_loop.trips) (v2040 : BitVec 32) (k0_hw19 : k0_chk19 k0_t2 v2040), ∀ (k0_h2 : k0_cond2 k0_t2 = 1#1), ∀ a, (k0_off180 v2040) a + S1x7168.size a ≤ S8000x7168.size a := fun k0_t2 v2040 k0_hw19 k0_h2 => k0_hw19 k0_h2

def k0_off181 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_776 : BitVec 32 := 8#32
  let v2047 : BitVec 32 := Scalar.muli v2015 c8_i32_776
  let c3_i32_777 : BitVec 32 := 3#32
  let v2048 : BitVec 32 := Scalar.addi v2047 c3_i32_777
  let v2049 : Index := Scalar.indexCast v2048
  ![v2049.toNat]
def k0_off182 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off183 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c3_i32_779 : BitVec 32 := 3#32
  let c0_i32_780 : BitVec 32 := 0#32
  ![v2016.toNat, 3, 0]
def k0_off184 (v2050 : BitVec 32) : Fin 2 → Nat :=
  let c2_i32_778 : BitVec 32 := 2#32
  let v2051 : BitVec 32 := Scalar.shrui v2050 c2_i32_778
  let c0_i32_781 : BitVec 32 := 0#32
  ![v2051.toNat, 0]

def k0_chk20 (k0_t2 : Fin k0_t2_loop.trips) (v2050 : BitVec 32) : Prop :=
  (∀ (k0_h2 : k0_cond2 k0_t2 = 1#1), ∀ a, (k0_off184 v2050) a + S1x7168.size a ≤ S8000x7168.size a)
theorem k0_off184_inb : ∀ (k0_t2 : Fin k0_t2_loop.trips) (v2050 : BitVec 32) (k0_hw20 : k0_chk20 k0_t2 v2050), ∀ (k0_h2 : k0_cond2 k0_t2 = 1#1), ∀ a, (k0_off184 v2050) a + S1x7168.size a ≤ S8000x7168.size a := fun k0_t2 v2050 k0_hw20 k0_h2 => k0_hw20 k0_h2

def k0_off185 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_782 : BitVec 32 := 8#32
  let v2057 : BitVec 32 := Scalar.muli v2015 c8_i32_782
  let c4_i32_783 : BitVec 32 := 4#32
  let v2058 : BitVec 32 := Scalar.addi v2057 c4_i32_783
  let v2059 : Index := Scalar.indexCast v2058
  ![v2059.toNat]
def k0_off186 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off187 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c4_i32_785 : BitVec 32 := 4#32
  let c0_i32_786 : BitVec 32 := 0#32
  ![v2016.toNat, 4, 0]
def k0_off188 (v2060 : BitVec 32) : Fin 2 → Nat :=
  let c2_i32_784 : BitVec 32 := 2#32
  let v2061 : BitVec 32 := Scalar.shrui v2060 c2_i32_784
  let c0_i32_787 : BitVec 32 := 0#32
  ![v2061.toNat, 0]

def k0_chk21 (k0_t2 : Fin k0_t2_loop.trips) (v2060 : BitVec 32) : Prop :=
  (∀ (k0_h2 : k0_cond2 k0_t2 = 1#1), ∀ a, (k0_off188 v2060) a + S1x7168.size a ≤ S8000x7168.size a)
theorem k0_off188_inb : ∀ (k0_t2 : Fin k0_t2_loop.trips) (v2060 : BitVec 32) (k0_hw21 : k0_chk21 k0_t2 v2060), ∀ (k0_h2 : k0_cond2 k0_t2 = 1#1), ∀ a, (k0_off188 v2060) a + S1x7168.size a ≤ S8000x7168.size a := fun k0_t2 v2060 k0_hw21 k0_h2 => k0_hw21 k0_h2

def k0_off189 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_788 : BitVec 32 := 8#32
  let v2067 : BitVec 32 := Scalar.muli v2015 c8_i32_788
  let c5_i32_789 : BitVec 32 := 5#32
  let v2068 : BitVec 32 := Scalar.addi v2067 c5_i32_789
  let v2069 : Index := Scalar.indexCast v2068
  ![v2069.toNat]
def k0_off190 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off191 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c5_i32_791 : BitVec 32 := 5#32
  let c0_i32_792 : BitVec 32 := 0#32
  ![v2016.toNat, 5, 0]
def k0_off192 (v2070 : BitVec 32) : Fin 2 → Nat :=
  let c2_i32_790 : BitVec 32 := 2#32
  let v2071 : BitVec 32 := Scalar.shrui v2070 c2_i32_790
  let c0_i32_793 : BitVec 32 := 0#32
  ![v2071.toNat, 0]

def k0_chk22 (k0_t2 : Fin k0_t2_loop.trips) (v2070 : BitVec 32) : Prop :=
  (∀ (k0_h2 : k0_cond2 k0_t2 = 1#1), ∀ a, (k0_off192 v2070) a + S1x7168.size a ≤ S8000x7168.size a)
theorem k0_off192_inb : ∀ (k0_t2 : Fin k0_t2_loop.trips) (v2070 : BitVec 32) (k0_hw22 : k0_chk22 k0_t2 v2070), ∀ (k0_h2 : k0_cond2 k0_t2 = 1#1), ∀ a, (k0_off192 v2070) a + S1x7168.size a ≤ S8000x7168.size a := fun k0_t2 v2070 k0_hw22 k0_h2 => k0_hw22 k0_h2

def k0_off193 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_794 : BitVec 32 := 8#32
  let v2077 : BitVec 32 := Scalar.muli v2015 c8_i32_794
  let c6_i32_795 : BitVec 32 := 6#32
  let v2078 : BitVec 32 := Scalar.addi v2077 c6_i32_795
  let v2079 : Index := Scalar.indexCast v2078
  ![v2079.toNat]
def k0_off194 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off195 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c6_i32_797 : BitVec 32 := 6#32
  let c0_i32_798 : BitVec 32 := 0#32
  ![v2016.toNat, 6, 0]
def k0_off196 (v2080 : BitVec 32) : Fin 2 → Nat :=
  let c2_i32_796 : BitVec 32 := 2#32
  let v2081 : BitVec 32 := Scalar.shrui v2080 c2_i32_796
  let c0_i32_799 : BitVec 32 := 0#32
  ![v2081.toNat, 0]

def k0_chk23 (k0_t2 : Fin k0_t2_loop.trips) (v2080 : BitVec 32) : Prop :=
  (∀ (k0_h2 : k0_cond2 k0_t2 = 1#1), ∀ a, (k0_off196 v2080) a + S1x7168.size a ≤ S8000x7168.size a)
theorem k0_off196_inb : ∀ (k0_t2 : Fin k0_t2_loop.trips) (v2080 : BitVec 32) (k0_hw23 : k0_chk23 k0_t2 v2080), ∀ (k0_h2 : k0_cond2 k0_t2 = 1#1), ∀ a, (k0_off196 v2080) a + S1x7168.size a ≤ S8000x7168.size a := fun k0_t2 v2080 k0_hw23 k0_h2 => k0_hw23 k0_h2

def k0_off197 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c8_i32_800 : BitVec 32 := 8#32
  let v2087 : BitVec 32 := Scalar.muli v2015 c8_i32_800
  let c7_i32_801 : BitVec 32 := 7#32
  let v2088 : BitVec 32 := Scalar.addi v2087 c7_i32_801
  let v2089 : Index := Scalar.indexCast v2088
  ![v2089.toNat]
def k0_off198 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  ![v2016.toNat]
def k0_off199 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let c64_i32_755 : BitVec 32 := 64#32
  let v2014 : BitVec 32 := Scalar.addi arg16 c64_i32_755
  let c1_i32_756 : BitVec 32 := 1#32
  let v2015 : BitVec 32 := Scalar.subi v2014 c1_i32_756
  let c64_i32_757 : BitVec 32 := 64#32
  let v2016 : BitVec 32 := Scalar.remsi v2015 c64_i32_757
  let c7_i32_803 : BitVec 32 := 7#32
  let c0_i32_804 : BitVec 32 := 0#32
  ![v2016.toNat, 7, 0]
def k0_off200 (v2090 : BitVec 32) : Fin 2 → Nat :=
  let c2_i32_802 : BitVec 32 := 2#32
  let v2091 : BitVec 32 := Scalar.shrui v2090 c2_i32_802
  let c0_i32_805 : BitVec 32 := 0#32
  ![v2091.toNat, 0]

def k0_chk24 (k0_t2 : Fin k0_t2_loop.trips) (v2090 : BitVec 32) : Prop :=
  (∀ (k0_h2 : k0_cond2 k0_t2 = 1#1), ∀ a, (k0_off200 v2090) a + S1x7168.size a ≤ S8000x7168.size a)
theorem k0_off200_inb : ∀ (k0_t2 : Fin k0_t2_loop.trips) (v2090 : BitVec 32) (k0_hw24 : k0_chk24 k0_t2 v2090), ∀ (k0_h2 : k0_cond2 k0_t2 = 1#1), ∀ a, (k0_off200 v2090) a + S1x7168.size a ≤ S8000x7168.size a := fun k0_t2 v2090 k0_hw24 k0_h2 => k0_hw24 k0_h2

def k0_off201 (c504_i32 : BitVec 32) : Fin 1 → Nat :=
  let c8_i32 : BitVec 32 := 8#32
  let v2 : BitVec 32 := Scalar.remsi c504_i32 c8_i32
  ![v2.toNat]
def k0_off202 (c504_i32 : BitVec 32) : Fin 3 → Nat :=
  let c8_i32 : BitVec 32 := 8#32
  let v2 : BitVec 32 := Scalar.remsi c504_i32 c8_i32
  let c0_i32_7 : BitVec 32 := 0#32
  let c0_i32_8 : BitVec 32 := 0#32
  ![v2.toNat, 0, 0]
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x2048 : Shape := ⟨2, ![2, 2048]⟩
abbrev S32000x7168 : Shape := ⟨2, ![32000, 7168]⟩
abbrev S32000 : Shape := ⟨1, ![32000]⟩
abbrev S7168 : Shape := ⟨1, ![7168]⟩
abbrev S_ : Shape := ⟨0, ![]⟩
abbrev S2x2048x1 : Shape := ⟨3, ![2, 2048, 1]⟩
abbrev S2x2048x7168 : Shape := ⟨3, ![2, 2048, 7168]⟩
abbrev S1x1x7168 : Shape := ⟨3, ![1, 1, 7168]⟩
abbrev S512x8x7168 : Shape := ⟨3, ![512, 8, 7168]⟩

abbrev nBuf : Space → Nat
  | .hbm => 62
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S32000x7168, .i8⟩
  | .hbm, ⟨2, _⟩ => ⟨S32000, .f32⟩
  | .hbm, ⟨3, _⟩ => ⟨S32000, .bf16⟩
  | .hbm, ⟨4, _⟩ => ⟨S7168, .bf16⟩
  | .hbm, ⟨5, _⟩ => ⟨S_, .i32⟩
  | .hbm, ⟨6, _⟩ => ⟨S2x2048, .i32⟩
  | .hbm, ⟨7, _⟩ => ⟨S2x2048, .i1⟩
  | .hbm, ⟨8, _⟩ => ⟨S_, .i32⟩
  | .hbm, ⟨9, _⟩ => ⟨S2x2048, .i32⟩
  | .hbm, ⟨10, _⟩ => ⟨S2x2048, .i32⟩
  | .hbm, ⟨11, _⟩ => ⟨S2x2048, .i32⟩
  | .hbm, ⟨12, _⟩ => ⟨S2x2048x1, .i32⟩
  | .hbm, ⟨13, _⟩ => ⟨S2x2048x7168, .i8⟩
  | .hbm, ⟨14, _⟩ => ⟨S_, .i32⟩
  | .hbm, ⟨15, _⟩ => ⟨S2x2048, .i32⟩
  | .hbm, ⟨16, _⟩ => ⟨S2x2048, .i1⟩
  | .hbm, ⟨17, _⟩ => ⟨S_, .i32⟩
  | .hbm, ⟨18, _⟩ => ⟨S2x2048, .i32⟩
  | .hbm, ⟨19, _⟩ => ⟨S2x2048, .i32⟩
  | .hbm, ⟨20, _⟩ => ⟨S2x2048, .i32⟩
  | .hbm, ⟨21, _⟩ => ⟨S2x2048x1, .i32⟩
  | .hbm, ⟨22, _⟩ => ⟨S2x2048, .f32⟩
  | .hbm, ⟨23, _⟩ => ⟨S2x2048, .bf16⟩
  | .hbm, ⟨24, _⟩ => ⟨S_, .i32⟩
  | .hbm, ⟨25, _⟩ => ⟨S2x2048, .i32⟩
  | .hbm, ⟨26, _⟩ => ⟨S2x2048, .i1⟩
  | .hbm, ⟨27, _⟩ => ⟨S_, .i32⟩
  | .hbm, ⟨28, _⟩ => ⟨S2x2048, .i32⟩
  | .hbm, ⟨29, _⟩ => ⟨S2x2048, .i32⟩
  | .hbm, ⟨30, _⟩ => ⟨S2x2048, .i32⟩
  | .hbm, ⟨31, _⟩ => ⟨S2x2048x1, .i32⟩
  | .hbm, ⟨32, _⟩ => ⟨S2x2048, .bf16⟩
  | .hbm, ⟨33, _⟩ => ⟨S2x2048x7168, .i32⟩
  | .hbm, ⟨34, _⟩ => ⟨S2x2048x7168, .bf16⟩
  | .hbm, ⟨35, _⟩ => ⟨S2x2048x1, .bf16⟩
  | .hbm, ⟨36, _⟩ => ⟨S2x2048x7168, .bf16⟩
  | .hbm, ⟨37, _⟩ => ⟨S2x2048x7168, .bf16⟩
  | .hbm, ⟨38, _⟩ => ⟨S2x2048x1, .bf16⟩
  | .hbm, ⟨39, _⟩ => ⟨S2x2048x7168, .bf16⟩
  | .hbm, ⟨40, _⟩ => ⟨S2x2048x7168, .bf16⟩
  | .hbm, ⟨41, _⟩ => ⟨S2x2048x7168, .f32⟩
  | .hbm, ⟨42, _⟩ => ⟨S2x2048x7168, .f32⟩
  | .hbm, ⟨43, _⟩ => ⟨S_, .f32⟩
  | .hbm, ⟨44, _⟩ => ⟨S2x2048, .f32⟩
  | .hbm, ⟨45, _⟩ => ⟨S2x2048x1, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S2x2048x7168, .f32⟩
  | .hbm, ⟨54, _⟩ => ⟨S2x2048x7168, .f32⟩
  | .hbm, ⟨55, _⟩ => ⟨S7168, .f32⟩
  | .hbm, ⟨56, _⟩ => ⟨S1x1x7168, .f32⟩
  | .hbm, ⟨57, _⟩ => ⟨S2x2048x7168, .f32⟩
  | .hbm, ⟨58, _⟩ => ⟨S2x2048x7168, .f32⟩
  | .hbm, ⟨59, _⟩ => ⟨S2x2048x7168, .bf16⟩
  | .hbm, ⟨60, _⟩ => ⟨S512x8x7168, .bf16⟩
  | .hbm, ⟨61, _⟩ => ⟨S512x8x7168, .bf16⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-! ## The views of the two rings -/

theorem inbC (n : ℕ) (s : Fin n) : ∀ a, (![s.val] : Fin 1 → Nat) a + S1.size a ≤ (⟨1, ![n]⟩ : Shape).size a := by
  have := s.isLt; intro a; fin_cases a
  show s.val + 1 ≤ n; omega
theorem inb7 (s : Fin 64) : ∀ a, (![s.val, 0, 0] : Fin 3 → Nat) a + S1x8x7168.size a ≤ S64x8x7168.size a := by
  have := s.isLt; intro a; fin_cases a
  · show s.val + 1 ≤ 64; omega
  · show 0 + 8 ≤ 8; omega
  · show 0 + 7168 ≤ 7168; omega
theorem inbRow (s : Fin 64) (r : Fin 8) : ∀ a, (![s.val, r.val, 0] : Fin 3 → Nat) a + S1x1x7168.size a ≤ S64x8x7168.size a := by
  have := s.isLt; have := r.isLt; intro a; fin_cases a
  · show s.val + 1 ≤ 64; omega
  · show r.val + 1 ≤ 8; omega
  · show 0 + 7168 ≤ 7168; omega
theorem inbSrc (q : Fin 8000) : ∀ a, (![q.val, 0] : Fin 2 → Nat) a + S1x7168.size a ≤ S8000x7168.size a := by
  have := q.isLt; intro a; fin_cases a
  · show q.val + 1 ≤ 8000; omega
  · show 0 + 7168 ≤ 7168; omega

/-- The semaphore of input slot `s`. -/
def inSem (s : Fin 64) : DmaSem sig := ((cc0_scratch6.slice (Rect.unit (s := S64) ![s.val] S1.size (inbC 64 s))).squeeze S_ squeezes_S1_S_).sem
/-- Input slot `s`. -/
def slot7 (s : Fin 64) : Memref sig .tc .vmem S8x7168 .i32 :=
  ((Memref.whole cc0_scratch0).slice (Rect.unit (s := S64x8x7168) ![s.val, 0, 0] S1x8x7168.size (inb7 s)) (fun _ => rfl)).squeeze S8x7168 squeezes_S1x8x7168_S8x7168
/-- Row `r` of input slot `s`. -/
def row7 (s : Fin 64) (r : Fin 8) : Memref sig .tc .vmem S1x7168 .i32 :=
  ((Memref.whole cc0_scratch0).slice (Rect.unit (s := S64x8x7168) ![s.val, r.val, 0] S1x1x7168.size (inbRow s r)) (fun _ => rfl)).squeeze S1x7168 squeezes_S1x1x7168_S1x7168
/-- Row `q` of the table of words. -/
def src7 (q : Fin 8000) : Memref sig .tc .hbm S1x7168 .i32 :=
  (Memref.whole main_v6).slice (Rect.unit (s := S8000x7168) ![q.val, 0] S1x7168.size (inbSrc q)) (fun _ => rfl)

/-- The table of words, and the token ids. -/
abbrev Tab : Type := S8000x7168.Idx → BitVec 32
abbrev Ids : Type := S4096.Idx → BitVec 32

/-- Token `n`'s id. -/
def idAt (ids : Ids) (n : ℕ) : BitVec 32 := ids (ix1 ⟨n % 4096, Nat.mod_lt _ (by decide)⟩)
/-- The word row holding token `r` of group `g`. -/
def rid (ids : Ids) (g : ℕ) (r : Fin 8) : Fin 8000 := ⟨(idAt ids (8 * g + r.val) >>> 2).toNat % 8000, Nat.mod_lt _ (by decide)⟩
/-- The slot of group `g`. -/
def sl64 (g : ℕ) : Fin 64 := ⟨g % 64, Nat.mod_lt _ (by decide)⟩
/-- What group `g`'s slot holds once its eight rows have arrived. -/
def slotW (tab : Tab) (ids : Ids) (g : ℕ) : S64x8x7168.Idx → BitVec 32 := fun i => tab (ix2 (rid ids g (i 1)) (i 2))

theorem row7_emb (s : Fin 64) (r : Fin 8) (x : S1x7168.Idx) : (row7 s r).view.emb x = ix3 s r (x 1) := by
  have h1 : (row7 s r).view.emb x = (Rect.unit (s := S64x8x7168) ![s.val, r.val, 0] S1x1x7168.size (inbRow s r)).emb
      (Shape.reshapeEquiv squeezes_S1x1x7168_S1x7168.numel_eq x) := rfl
  rw [h1, Shape.reshapeEquiv_cons_one]
  funext a
  apply Fin.ext
  rw [Rect.emb_apply]
  have h0 : (x 0).val = 0 := by have := (x 0).isLt; change (x 0).val < 1 at this; omega
  match a with
  | ⟨0, _⟩ => show s.val + 1 * 0 = s.val; omega
  | ⟨1, _⟩ => show r.val + 1 * (x 0).val = r.val; omega
  | ⟨2, _⟩ => show 0 + 1 * (x 1).val = (x 1).val; omega

theorem src7_emb (q : Fin 8000) (x : S1x7168.Idx) : (src7 q).view.emb x = ix2 q (x 1) := by
  have h1 : (src7 q).view.emb x = (Rect.unit (s := S8000x7168) ![q.val, 0] S1x7168.size (inbSrc q)).emb x := rfl
  rw [h1]
  funext a
  apply Fin.ext
  rw [Rect.emb_apply]
  have h0 : (x 0).val = 0 := by have := (x 0).isLt; change (x 0).val < 1 at this; omega
  match a with
  | ⟨0, _⟩ => show q.val + 1 * (x 0).val = q.val; omega
  | ⟨1, _⟩ => show 0 + 1 * (x 1).val = (x 1).val; omega

theorem slot7_emb (s : Fin 64) (x : S8x7168.Idx) : (slot7 s).view.emb x = ix3 s (x 0) (x 1) := by
  have h1 : (slot7 s).view.emb x = (Rect.unit (s := S64x8x7168) ![s.val, 0, 0] S1x8x7168.size (inb7 s)).emb
      (Shape.reshapeEquiv squeezes_S1x8x7168_S8x7168.numel_eq x) := rfl
  rw [h1, Shape.reshapeEquiv_cons_one]
  funext a
  apply Fin.ext
  rw [Rect.emb_apply]
  match a with
  | ⟨0, _⟩ => show s.val + 1 * 0 = s.val; omega
  | ⟨1, _⟩ => show 0 + 1 * (x 0).val = (x 0).val; omega
  | ⟨2, _⟩ => show 0 + 1 * (x 1).val = (x 1).val; omega

/-- A row of a slot is the elements with its two leading coordinates. -/
theorem mem_row7 (s : Fin 64) (r : Fin 8) (i : S64x8x7168.Idx) : i ∈ (row7 s r).view.set ↔ i 0 = s ∧ i 1 = r := by
  constructor
  · intro h
    obtain ⟨x, -, hx⟩ := Finset.mem_map.mp h
    have hx' : ix3 s r (x 1) = i := (row7_emb s r x).symm.trans hx
    subst hx'; exact ⟨rfl, rfl⟩
  · intro h
    refine Finset.mem_map.mpr ⟨ix2 0 (i 2), Finset.mem_univ _, (row7_emb s r _).trans ?_⟩
    funext a; apply Fin.ext
    match a with
    | ⟨0, _⟩ => exact congrArg Fin.val h.1.symm
    | ⟨1, _⟩ => exact congrArg Fin.val h.2.symm
    | ⟨2, _⟩ => rfl
theorem mem_slot7 (s : Fin 64) (i : S64x8x7168.Idx) : i ∈ (slot7 s).view.set ↔ i 0 = s := by
  constructor
  · intro h
    obtain ⟨x, -, hx⟩ := Finset.mem_map.mp h
    have hx' : ix3 s (x 0) (x 1) = i := (slot7_emb s x).symm.trans hx
    subst hx'; rfl
  · intro h
    refine Finset.mem_map.mpr ⟨ix2 (i 1) (i 2), Finset.mem_univ _, (slot7_emb s _).trans ?_⟩
    funext a; apply Fin.ext
    match a with
    | ⟨0, _⟩ => exact congrArg Fin.val h.symm
    | ⟨1, _⟩ => rfl
    | ⟨2, _⟩ => rfl

/-! ## Points-tos at plain index types -/

/-- Elements of the input ring's buffer. -/
def ringPt (c : Dev nD) (S : Finset S64x8x7168.Idx) (f : S64x8x7168.Idx → BitVec 32) : sProp 𝕄 :=
  (View.loc (c : Thread nD τ) (Memref.whole cc0_scratch0 : Memref sig .tc .vmem S64x8x7168 .i32).view) ↦[S]{fullShare} f
/-- Elements of the table of words, at its `n`-th read share. -/
def tabPt (c : Dev nD) (S : Finset S8000x7168.Idx) (n : ℕ) (tab : Tab) : sProp 𝕄 :=
  (View.loc (c : Thread nD τ) (Memref.whole main_v6 : Memref sig .tc .hbm S8000x7168 .i32).view) ↦[S]{Transfers.shareTokN fullShare n} tab
instance ringPt_storable (c : Dev nD) (S : Finset S64x8x7168.Idx) (f : S64x8x7168.Idx → BitVec 32) :
    Storable (upEmb : UEmb _ 𝕄) (ringPt (F := F) c S f) := by unfold ringPt; infer_instance
instance tabPt_storable (c : Dev nD) (S : Finset S8000x7168.Idx) (n : ℕ) (tab : Tab) :
    Storable (upEmb : UEmb _ 𝕄) (tabPt (F := F) c S n tab) := by unfold tabPt; infer_instance

/-- The elements of a slot, of a row, of a table row. -/
def slotSet (s : Fin 64) : Finset S64x8x7168.Idx := (slot7 s).view.set
def rowSet (s : Fin 64) (r : Fin 8) : Finset S64x8x7168.Idx := (row7 s r).view.set
def srcSet (q : Fin 8000) : Finset S8000x7168.Idx := (src7 q).view.set

/-- A slot is its eight rows. -/
theorem slot7_rows (c : Dev nD) (s : Fin 64) (f : S64x8x7168.Idx → BitVec 32) :
    ringPt (F := F) c (slotSet s) f = bigSep Finset.univ fun r : Fin 8 => ringPt (F := F) c (rowSet s r) f := by
  have hd : ∀ a b : Fin 8, a ≠ b → Disjoint (rowSet s a) (rowSet s b) := fun a b hab =>
    Finset.disjoint_left.mpr fun i h1 h2 => hab (((mem_row7 s a i).mp h1).2.symm.trans ((mem_row7 s b i).mp h2).2)
  have hc : (Finset.univ.biUnion fun r : Fin 8 => rowSet s r) = slotSet s := Finset.ext fun i =>
    ⟨fun h => by
        obtain ⟨r, -, h⟩ := Finset.mem_biUnion.mp h
        exact (mem_slot7 s i).mpr ((mem_row7 s r i).mp h).1,
      fun h => Finset.mem_biUnion.mpr ⟨(i 1 : Fin 8), Finset.mem_univ _, (mem_row7 s (i 1 : Fin 8) i).mpr ⟨(mem_slot7 s i).mp h, rfl⟩⟩⟩
  exact Ring.pointsTo_sub_blocks (nD := nD) (τ := τ) (sig := sig) (Ix := Unit) (Val := Elt F) (Name := ℕ) (U := Pipeline.UC sig nD τ) (Lvl := ℕ)
    (ℓ := View.loc (c : Thread nD τ) (Memref.whole cc0_scratch0 : Memref sig .tc .vmem S64x8x7168 .i32).view) (fun r : Fin 8 => rowSet s r) hd (slotSet s) hc (q := fullShare) f

/-- What a row's transfer leaves in its row is the group's canonical contents there. -/
theorem row7_write (tab : Tab) (ids : Ids) (g : ℕ) (s : Fin 64) (r : Fin 8) (f : S64x8x7168.Idx → BitVec 32) :
    ∀ i ∈ (row7 s r).view.set, (row7 s r).view.write (Elt F) f (ReadAs.same.apply ((src7 (rid ids g r)).view.read (Elt F) tab)) Finset.univ i
      = slotW tab ids g i := by
  intro i hi
  obtain ⟨x, -, rfl⟩ := Finset.mem_map.mp hi
  have h := View.read_write_of_mem (v := (row7 s r).view) (Val := Elt F) f (ReadAs.same.apply ((src7 (rid ids g r)).view.read (Elt F) tab)) (Finset.mem_univ x)
  refine (show _ = _ from h).trans ?_
  show tab ((src7 (rid ids g r)).view.emb x) = slotW tab ids g ((row7 s r).view.emb x)
  exact (congrArg tab (src7_emb _ x)).trans (congrArg (slotW tab ids g) (row7_emb s r x)).symm

/-! ## The input ring's batches -/

/-- One row's transfer, arrived: the row of the slot at the group's contents, and the table's row back. -/
def rowD (c : Dev nD) (tab : Tab) (ids : Ids) (g : ℕ) (r : Fin 8) : sProp 𝕄 :=
  iprop(ringPt (F := F) c (rowSet (sl64 g) r) (slotW tab ids g) ∗ tabPt (F := F) c (srcSet (rid ids g r)) (8 * (sl64 g).val + r.val) tab)
instance rowD_storable (c : Dev nD) (tab : Tab) (ids : Ids) (g : ℕ) (r : Fin 8) :
    Storable (upEmb : UEmb _ 𝕄) (rowD (F := F) c tab ids g r) := by unfold rowD; infer_instance

/-- The table's share for row `r` of slot `s`, whole. -/
def tok7 (c : Dev nD) (tab : Tab) (s : Fin 64) (r : Fin 8) : sProp 𝕄 := tabPt (F := F) c Finset.univ (8 * s.val + r.val) tab
/-- What is left of it while the row is read. -/
def rest7 (c : Dev nD) (tab : Tab) (ids : Ids) (g : ℕ) (r : Fin 8) : sProp 𝕄 :=
  tabPt (F := F) c (Finset.univ \ srcSet (rid ids g r)) (8 * (sl64 g).val + r.val) tab
/-- Row `r` of slot `s`, at any contents. -/
def free7 (c : Dev nD) (s : Fin 64) (r : Fin 8) : sProp 𝕄 := iprop(∃ f, ringPt (F := F) c (rowSet s r) f)
/-- Row `r` of group `g` with its first `j` rows' transfers issued. -/
def rowSt (c : Dev nD) (tab : Tab) (ids : Ids) (g j : ℕ) (r : Fin 8) : sProp 𝕄 :=
  if r.val < j then rest7 (F := F) c tab ids g r else iprop(free7 (F := F) c (sl64 g) r ∗ tok7 (F := F) c tab (sl64 g) r)

/-- Group `g` with its first `j` rows' transfers issued. -/
def Starting (c : Dev nD) (tab : Tab) (ids : Ids) (g j : ℕ) : sProp 𝕄 :=
  iprop(Transfers.Batch EC (c : Thread nD τ) (.dma (inSem (sl64 g))) () 896 (rowD (F := F) c tab ids g) j 0
    ∗ bigSep Finset.univ (rowSt (F := F) c tab ids g j))

/-- Slot `s` idle: its semaphore at zero, its elements, its shares of the table. -/
def FreeIn (c : Dev nD) (tab : Tab) (s : Fin 64) : sProp 𝕄 :=
  iprop(semVal ((c : Thread nD τ), .dma (inSem s)) 0
    ∗ (∃ f, ringPt (F := F) c (slotSet s) f)
    ∗ bigSep Finset.univ (tok7 (F := F) c tab s))

/-- Taking one index out of a product and putting back what another product has there. -/
theorem bigSep_swap {ι : Type} [Fintype ι] [DecidableEq ι] (Φ Ψ : ι → sProp 𝕄) (i : ι) (h : ∀ j, j ≠ i → Φ j = Ψ j) :
    bigSep Finset.univ Φ ⊢ iprop(Φ i ∗ (Ψ i -∗ bigSep Finset.univ Ψ)) := by
  have e : bigSep (Finset.univ.erase i) Φ = bigSep (Finset.univ.erase i) Ψ := BI.bigSep_congr fun j hj => h j (Finset.ne_of_mem_erase hj)
  have e1 : bigSep Finset.univ Φ = iprop(Φ i ∗ bigSep (Finset.univ.erase i) Ψ) := (bigSep_erase (Finset.mem_univ i)).trans (congrArg (fun X => iprop(Φ i ∗ X)) e)
  have e2 : bigSep Finset.univ Ψ = iprop(Ψ i ∗ bigSep (Finset.univ.erase i) Ψ) := bigSep_erase (Finset.mem_univ i)
  rw [e1, e2]
  iintro ⟨H, HR⟩
  isplitl [H]; · iexact H
  iintro H; isplitl [H]; · iexact H
  iexact HR

/-- Opening a group's batch on an idle slot. -/
theorem start_open (c : Dev nD) (tab : Tab) (ids : Ids) (g : ℕ) :
    FreeIn (F := F) c tab (sl64 g) ⊢ |={Set.univ}=> Starting (F := F) c tab ids g 0 := by
  have e : rowSt (F := F) c tab ids g 0 = fun r => iprop(free7 (F := F) c (sl64 g) r ∗ tok7 (F := F) c tab (sl64 g) r) :=
    funext fun r => if_neg (Nat.not_lt_zero _)
  have hs : ∀ f, ringPt (F := F) c (slotSet (sl64 g)) f ⊢ bigSep Finset.univ fun r : Fin 8 => free7 (F := F) c (sl64 g) r := fun f => by
    rw [slot7_rows]
    exact BI.bigSep_mono fun r _ => show ringPt (F := F) c (rowSet (sl64 g) r) f ⊢ free7 (F := F) c (sl64 g) r by unfold free7; iintro H; iexists f; iexact H
  unfold FreeIn Starting
  rw [e, bigSep_sep']
  iintro ⟨Hc, ⟨%f, Hs⟩, Ht⟩
  imod (Transfers.batch_alloc' (Lvl := ℕ) EC (c : Thread nD τ) () 896 (rowD (F := F) c tab ids g) (sm := .dma (inSem (sl64 g))) (E := Set.univ)) $$ Hc with HB
  imodintro
  isplitl [HB]; · iexact HB
  isplitl [Hs]
  · iapply (hs f) $$ Hs
  · iexact Ht

/-- Issuing the transfer of row `r`. -/
theorem start_row (c : Dev nD) (tab : Tab) (ids : Ids) (g : ℕ) (r : Fin 8)
    {offc : Fin 1 → ℕ} {offd : Fin 3 → ℕ} {offs : Fin 2 → ℕ}
    (hc : ∀ a, offc a + S1.size a ≤ S64.size a) (hd : ∀ a, offd a + S1x1x7168.size a ≤ S64x8x7168.size a)
    (hs : ∀ a, offs a + S1x7168.size a ≤ S8000x7168.size a)
    (ec : offc = ![(sl64 g).val]) (ed : offd = ![(sl64 g).val, r.val, 0]) (es : offs = ![(rid ids g r).val, 0])
    (h1 h2 h3) {α : Type} {k : PUnit → Prog (TpuEff nD τ sig (Elt F) Λ₀ .tc) α} {Q : α → sProp 𝕄} :
    Starting (F := F) c tab ids g r.val
    ⊢ iprop((Starting (F := F) c tab ids g (r.val + 1) -∗ wp frame (wpE defs₀ Variants.none (c : Thread nD τ) none) Set.univ (k ⟨⟩) Q)
      -∗ wp frame (wpE defs₀ Variants.none (c : Thread nD τ) none) Set.univ
        (.op (.enqueueDma ((Memref.whole main_v6).slice (Rect.unit (s := S8000x7168) offs S1x7168.size hs) (fun _ => rfl))
          (.here (((Memref.whole cc0_scratch0).slice (Rect.unit (s := S64x8x7168) offd S1x1x7168.size hd) (fun _ => rfl)).squeeze S1x7168 squeezes_S1x1x7168_S1x7168))
          (.dma ((cc0_scratch6.slice (Rect.unit (s := S64) offc S1.size hc)).squeeze S_ squeezes_S1_S_).sem) h1 h2 h3) k) Q) := by
  subst ec ed es
  have hsw := bigSep_swap (F := F) (rowSt (F := F) c tab ids g r.val) (rowSt (F := F) c tab ids g (r.val + 1)) r (by
    intro j hj
    have : j.val ≠ r.val := fun h => hj (Fin.ext h)
    unfold rowSt
    by_cases h : j.val < r.val
    · rw [if_pos h, if_pos (by omega)]
    · rw [if_neg h, if_neg (by omega)])
  have e1 : rowSt (F := F) c tab ids g r.val r = iprop(free7 (F := F) c (sl64 g) r ∗ tok7 (F := F) c tab (sl64 g) r) := if_neg (lt_irrefl _)
  have e2 : rowSt (F := F) c tab ids g (r.val + 1) r = rest7 (F := F) c tab ids g r := if_pos (Nat.lt_succ_self _)
  rw [e1, e2] at hsw
  have hsplit : tok7 (F := F) c tab (sl64 g) r ⊢ iprop(((src7 (rid ids g r)).view.loc (c : Thread nD τ) ↦[(src7 (rid ids g r)).view.set]{Transfers.shareTokN fullShare (8 * (sl64 g).val + r.val)} tab)
      ∗ rest7 (F := F) c tab ids g r) := (pointsTo_split_subset (Finset.subset_univ _)).1
  unfold Starting
  iintro ⟨HB, HR⟩ Hk
  icases hsw $$ HR with ⟨⟨Hd, Ht⟩, HR⟩
  icases hsplit $$ Ht with ⟨Ht, Hrest⟩
  unfold free7
  icases Hd with ⟨%f, Hd⟩
  have hr : ringPt (F := F) c (rowSet (sl64 g) r) f ⊢ ((row7 (sl64 g) r).view.loc (c : Thread nD τ) ↦[(row7 (sl64 g) r).view.set]{fullShare} f) := .rfl
  have hD : iprop(((row7 (sl64 g) r).view.loc (c : Thread nD τ) ↦[(row7 (sl64 g) r).view.set]{fullShare}
        ((row7 (sl64 g) r).view.write (Elt F) f (ReadAs.same.apply ((src7 (rid ids g r)).view.read (Elt F) tab)) Finset.univ))
      ∗ ((src7 (rid ids g r)).view.loc (c : Thread nD τ) ↦[(src7 (rid ids g r)).view.set]{Transfers.shareTokN fullShare (8 * (sl64 g).val + r.val)} tab))
      ⊢ rowD (F := F) c tab ids g ⟨r.val, r.isLt⟩ :=
    sep_mono (Entails.of_eq (pointsTo_congr (row7_write tab ids g (sl64 g) r f))) .rfl
  ihave Hd' := hr $$ Hd
  iapply (Transfers.wp_dmaBatch EC (Λ := Λ₀) (defs := defs₀) Variants.none (c : Thread nD τ) none (src := src7 (rid ids g r)) (via := ReadAs.same) (dst := row7 (sl64 g) r)
    (sm := .dma (inSem (sl64 g))) (Sd := (row7 (sl64 g) r).view.set) (fd := f) (fs := tab) (q := Transfers.shareTokN fullShare (8 * (sl64 g).val + r.val))
    (D := rowD (F := F) c tab ids g) (j := r.val) (u := 0) () 896 rfl (Finset.Subset.refl _) r.isLt (Nat.zero_le _) hD) $$ [Ht Hd' HB]
  · isplitl [Ht]; · iexact Ht
    isplitl [Hd']; · iexact Hd'
    iexact HB
  iintro HB
  iapply Hk
  isplitl [HB]; · iexact HB
  iapply HR; iexact Hrest

/-- The wait for a group: its slot at the group's contents, the semaphore back at zero, the table's shares whole. -/
theorem wait_group (c : Dev nD) (tab : Tab) (ids : Ids) (g : ℕ)
    {offc : Fin 1 → ℕ} (hc : ∀ a, offc a + S1.size a ≤ S64.size a) (ec : offc = ![(sl64 g).val])
    {srcw : Memref sig .tc .hbm S8x7168 .i32} {dstw : Memref sig .tc .vmem S8x7168 .i32} (hw : dstw.view.dmaCredit = 7168)
    (h1 h2) {α : Type} {k : PUnit → Prog (TpuEff nD τ sig (Elt F) Λ₀ .tc) α} {Q : α → sProp 𝕄} {W : Waits sig Unit} :
    iprop(Starting (F := F) c tab ids g 8 ∗ owes (c : Thread nD τ) 0 W)
    ⊢ iprop((iprop(ringPt (F := F) c (slotSet (sl64 g)) (slotW tab ids g) ∗ semVal ((c : Thread nD τ), .dma (inSem (sl64 g))) 0
          ∗ bigSep Finset.univ (tok7 (F := F) c tab (sl64 g)) ∗ (∃ W', owes (c : Thread nD τ) 0 W'))
        -∗ wp frame (wpE defs₀ Variants.none (c : Thread nD τ) none) Set.univ (k ⟨⟩) Q)
      -∗ wp frame (wpE defs₀ Variants.none (c : Thread nD τ) none) Set.univ
        (.op (.waitDma2 ((cc0_scratch6.slice (Rect.unit (s := S64) offc S1.size hc)).squeeze S_ squeezes_S1_S_).sem srcw dstw h1 h2) k) Q) := by
  subst ec
  have e : rowSt (F := F) c tab ids g 8 = rest7 (F := F) c tab ids g := funext fun r => if_pos r.isLt
  have hj : iprop(bigSep Finset.univ (rowD (F := F) c tab ids g) ∗ bigSep Finset.univ (rest7 (F := F) c tab ids g))
      ⊢ iprop(ringPt (F := F) c (slotSet (sl64 g)) (slotW tab ids g) ∗ bigSep Finset.univ (tok7 (F := F) c tab (sl64 g))) := by
    rw [slot7_rows, ← bigSep_sep', ← bigSep_sep']
    refine BI.bigSep_mono fun r _ => ?_
    unfold rowD rest7 tok7
    exact sep_assoc.1.trans (sep_mono .rfl (pointsTo_split_subset (Finset.subset_univ _)).2)
  unfold Starting
  rw [e]
  iintro ⟨⟨HB, HR⟩, HO⟩ Hk
  iapply (Transfers.wp_waitBatchAll EC (Λ := Λ₀) (defs := defs₀) Variants.none (c : Thread nD τ) none (sem := inSem (sl64 g)) (srcw := srcw) (dstw := dstw)
    (D := rowD (F := F) c tab ids g) (N := 896) (J := 7168) (u := 0) () hw (by decide) (by decide)) $$ [HB HO]
  · isplitl [HB]; · iexact HB
    iexact HO
  iintro ⟨HD, Hv, HO⟩
  icases hj $$ [HD HR] with ⟨Hs, Ht⟩
  · isplitl [HD]; · iexact HD
    iexact HR
  iapply Hk
  isplitl [Hs]; · iexact Hs
  isplitl [Hv]; · iexact Hv
  isplitl [Ht]; · iexact Ht
  iexists _; iexact HO

/-! ## The two result rings

Stated for any pair of a ring buffer of eight slots and a result array of 512 blocks, with the ring's eight semaphores. -/

theorem inb11 (s : Fin 8) : ∀ a, (![s.val, 0, 0] : Fin 3 → Nat) a + S1x8x7168.size a ≤ S8x8x7168.size a := by
  have := s.isLt; intro a; fin_cases a
  · show s.val + 1 ≤ 8; omega
  · show 0 + 8 ≤ 8; omega
  · show 0 + 7168 ≤ 7168; omega
theorem inbBlk (g : Fin 512) : ∀ a, (![g.val, 0, 0] : Fin 3 → Nat) a + S1x8x7168.size a ≤ S512x8x7168.size a := by
  have := g.isLt; intro a; fin_cases a
  · show g.val + 1 ≤ 512; omega
  · show 0 + 8 ≤ 8; omega
  · show 0 + 7168 ≤ 7168; omega

/-- The semaphore of result slot `s`. -/
def oSem (A : DmaSems sig S8) (s : Fin 8) : DmaSem sig := ((A.slice (Rect.unit (s := S8) ![s.val] S1.size (inbC 8 s))).squeeze S_ squeezes_S1_S_).sem
/-- Result slot `s`. -/
def oSlot (M : Memref sig .tc .vmem S8x8x7168 .bf16) (s : Fin 8) : Memref sig .tc .vmem S8x7168 .bf16 :=
  (M.slice (Rect.unit (s := S8x8x7168) ![s.val, 0, 0] S1x8x7168.size (inb11 s)) (fun _ => rfl)).squeeze S8x7168 squeezes_S1x8x7168_S8x7168
/-- Block `g` of a result. -/
def oBlk (H : Memref sig .tc .hbm S512x8x7168 .bf16) (g : Fin 512) : Memref sig .tc .hbm S8x7168 .bf16 :=
  (H.slice (Rect.unit (s := S512x8x7168) ![g.val, 0, 0] S1x8x7168.size (inbBlk g)) (fun _ => rfl)).squeeze S8x7168 squeezes_S1x8x7168_S8x7168
/-- The slot of block `g`. -/
def sl8 (g : ℕ) : Fin 8 := ⟨g % 8, Nat.mod_lt _ (by decide)⟩

/-- What a result's blocks come to hold. -/
abbrev Blks (F : FTy → Type) : Type := Fin 512 → S8x7168.Idx → Elt F .bf16

variable (A : DmaSems sig S8) (M : Memref sig .tc .vmem S8x8x7168 .bf16) (H : Memref sig .tc .hbm S512x8x7168 .bf16)

/-- A block's transfer, arrived: the block at its final contents, and the slot back. -/
def oD (c : Dev nD) (X : Blks F) (g : Fin 512) : sProp 𝕄 :=
  iprop(owns (c : Thread nD τ) (oBlk H g) fullShare (X g) ∗ owns (c : Thread nD τ) (oSlot M (sl8 g.val)) fullShare (X g))
instance oD_storable (c : Dev nD) (X : Blks F) (g : Fin 512) : Storable (upEmb : UEmb _ 𝕄) (oD (F := F) M H c X g) := by
  unfold oD; infer_instance
/-- A block's transfer, on its way. -/
def oFly (c : Dev nD) (X : Blks F) (g : Fin 512) : sProp 𝕄 :=
  Transfers.Batch EC (c : Thread nD τ) (.dma (oSem A (sl8 g.val))) () 3584 (fun _ : Fin 1 => oD (F := F) M H c X g) 1 0
/-- Slot `s` idle, at any contents. -/
def oFree (c : Dev nD) (s : Fin 8) : sProp 𝕄 :=
  iprop(semVal ((c : Thread nD τ), .dma (oSem A s)) 0 ∗ (∃ X : S8x7168.Idx → Elt F .bf16, owns (c : Thread nD τ) (oSlot M s) fullShare X))

/-- Issuing block `g`'s transfer from its slot. -/
theorem out_start (c : Dev nD) (X : Blks F) (g : Fin 512)
    {offc : Fin 1 → ℕ} {offs offd : Fin 3 → ℕ}
    (hc : ∀ a, offc a + S1.size a ≤ S8.size a) (hs : ∀ a, offs a + S1x8x7168.size a ≤ S8x8x7168.size a)
    (hd : ∀ a, offd a + S1x8x7168.size a ≤ S512x8x7168.size a)
    (ec : offc = ![(sl8 g.val).val]) (es : offs = ![(sl8 g.val).val, 0, 0]) (ed : offd = ![g.val, 0, 0])
    (h1 h2 h3) {α : Type} {k : PUnit → Prog (TpuEff nD τ sig (Elt F) Λ₀ .tc) α} {Q : α → sProp 𝕄} :
    iprop(semVal ((c : Thread nD τ), .dma (oSem A (sl8 g.val))) 0 ∗ owns (c : Thread nD τ) (oSlot M (sl8 g.val)) fullShare (X g)
      ∗ (∃ Y : S8x7168.Idx → Elt F .bf16, owns (c : Thread nD τ) (oBlk H g) fullShare Y))
    ⊢ iprop((oFly (F := F) A M H c X g -∗ wp frame (wpE defs₀ Variants.none (c : Thread nD τ) none) Set.univ (k ⟨⟩) Q)
      -∗ wp frame (wpE defs₀ Variants.none (c : Thread nD τ) none) Set.univ
        (.op (.enqueueDma ((M.slice (Rect.unit (s := S8x8x7168) offs S1x8x7168.size hs) (fun _ => rfl)).squeeze S8x7168 squeezes_S1x8x7168_S8x7168)
          (.here ((H.slice (Rect.unit (s := S512x8x7168) offd S1x8x7168.size hd) (fun _ => rfl)).squeeze S8x7168 squeezes_S1x8x7168_S8x7168))
          (.dma ((A.slice (Rect.unit (s := S8) offc S1.size hc)).squeeze S_ squeezes_S1_S_).sem) h1 h2 h3) k) Q) := by
  subst ec ed es
  iintro ⟨Hc, HS, ⟨%Y, HB⟩⟩ Hk
  imod (Transfers.batch_alloc' (Lvl := ℕ) EC (c : Thread nD τ) () 3584 (fun _ : Fin 1 => oD (F := F) M H c X g) (sm := .dma (oSem A (sl8 g.val))) (E := Set.univ)) $$ Hc with Hb
  unfold owns
  icases HS with ⟨%fs, %hfs, HS⟩
  icases HB with ⟨%fd, %hfd, HB⟩
  have hD : iprop(((oBlk H g).view.loc (c : Thread nD τ) ↦[(oBlk H g).view.set]{fullShare}
        ((oBlk H g).view.write (Elt F) fd (ReadAs.same.apply ((oSlot M (sl8 g.val)).view.read (Elt F) fs)) Finset.univ))
      ∗ ((oSlot M (sl8 g.val)).view.loc (c : Thread nD τ) ↦[(oSlot M (sl8 g.val)).view.set]{fullShare} fs))
      ⊢ oD (F := F) M H c X g := by
    unfold oD owns
    iintro ⟨H1, H2⟩
    isplitl [H1]
    · iexists _
      isplitr
      · ipureintro
        exact (funext fun x => View.read_write_of_mem (v := (oBlk H g).view) (Val := Elt F) fd _ (Finset.mem_univ x)).trans hfs
      · iexact H1
    · iexists fs
      isplitr; · ipureintro; exact hfs
      iexact H2
  iapply (Transfers.wp_dmaBatch EC (Λ := Λ₀) (defs := defs₀) Variants.none (c : Thread nD τ) none (src := oSlot M (sl8 g.val)) (via := ReadAs.same) (dst := oBlk H g)
    (sm := .dma (oSem A (sl8 g.val))) (Sd := (oBlk H g).view.set) (fd := fd) (fs := fs) (q := fullShare)
    (D := fun _ : Fin 1 => oD (F := F) M H c X g) (j := 0) (u := 0) () 3584 rfl (Finset.Subset.refl _) Nat.one_pos (Nat.zero_le _) hD) $$ [HS HB Hb]
  · isplitl [HS]; · iexact HS
    isplitl [HB]; · iexact HB
    iexact Hb
  iintro Hb
  iapply Hk
  unfold oFly; iexact Hb

/-- The wait for block `g`'s transfer: the block at its final contents, its slot and semaphore idle. -/
theorem out_wait (c : Dev nD) (X : Blks F) (g : Fin 512)
    {offc : Fin 1 → ℕ} (hc : ∀ a, offc a + S1.size a ≤ S8.size a) (ec : offc = ![(sl8 g.val).val])
    {srcw : Memref sig .tc .vmem S8x7168 .bf16} {dstw : Memref sig .tc .hbm S8x7168 .bf16} (hw : dstw.view.dmaCredit = 3584)
    (h1 h2) {α : Type} {k : PUnit → Prog (TpuEff nD τ sig (Elt F) Λ₀ .tc) α} {Q : α → sProp 𝕄} {W : Waits sig Unit} :
    iprop(oFly (F := F) A M H c X g ∗ owes (c : Thread nD τ) 0 W)
    ⊢ iprop((iprop(owns (c : Thread nD τ) (oBlk H g) fullShare (X g) ∗ oFree (F := F) A M c (sl8 g.val) ∗ (∃ W', owes (c : Thread nD τ) 0 W'))
        -∗ wp frame (wpE defs₀ Variants.none (c : Thread nD τ) none) Set.univ (k ⟨⟩) Q)
      -∗ wp frame (wpE defs₀ Variants.none (c : Thread nD τ) none) Set.univ
        (.op (.waitDma2 ((A.slice (Rect.unit (s := S8) offc S1.size hc)).squeeze S_ squeezes_S1_S_).sem srcw dstw h1 h2) k) Q) := by
  subst ec
  unfold oFly
  iintro ⟨HB, HO⟩ Hk
  iapply (Transfers.wp_waitBatchAll EC (Λ := Λ₀) (defs := defs₀) Variants.none (c : Thread nD τ) none (sem := oSem A (sl8 g.val)) (srcw := srcw) (dstw := dstw)
    (D := fun _ : Fin 1 => oD (F := F) M H c X g) (N := 3584) (J := 3584) (u := 0) () hw (by decide) (by decide)) $$ [HB HO]
  · isplitl [HB]; · iexact HB
    iexact HO
  have h1 : bigSep Finset.univ (fun _ : Fin 1 => oD (F := F) M H c X g) ⊢ oD (F := F) M H c X g :=
    BI.bigSep_elim (Finset.mem_univ (0 : Fin 1))
  iintro ⟨HD, Hv, HO⟩
  ihave HD' := h1 $$ HD
  unfold oD
  icases HD' with ⟨HB, HS⟩
  iapply Hk
  isplitl [HB]; · iexact HB
  isplitl [HS Hv]
  · unfold oFree
    isplitl [Hv]; · iexact Hv
    iexists _; iexact HS
  iexists _; iexact HO

/-! ## The rings' states between trips -/

theorem Ico_left {a b : ℕ} (h : a < b) : Finset.Ico a b = insert a (Finset.Ico (a + 1) b) := by
  ext x; simp only [Finset.mem_Ico, Finset.mem_insert]; omega
theorem Ico_right {a b : ℕ} (h : a ≤ b) : Finset.Ico a (b + 1) = insert b (Finset.Ico a b) := by
  ext x; simp only [Finset.mem_Ico, Finset.mem_insert]; omega
theorem bigSep_Ico_left {a b : ℕ} (h : a < b) (Φ : ℕ → sProp 𝕄) :
    bigSep (Finset.Ico a b) Φ = iprop(Φ a ∗ bigSep (Finset.Ico (a + 1) b) Φ) := by
  rw [Ico_left h]; exact bigSep_insert (by simp)
theorem bigSep_Ico_right {a b : ℕ} (h : a ≤ b) (Φ : ℕ → sProp 𝕄) :
    bigSep (Finset.Ico a (b + 1)) Φ = iprop(Φ b ∗ bigSep (Finset.Ico a b) Φ) := by
  rw [Ico_right h]; exact bigSep_insert (by simp)

/-- The input ring with groups `lo` up to `hi` on their way and the slots of groups `hi` up to `top` idle. -/
def inRing (c : Dev nD) (tab : Tab) (ids : Ids) (lo hi top : ℕ) : sProp 𝕄 :=
  iprop(bigSep (Finset.Ico lo hi) (fun g => Starting (F := F) c tab ids g 8) ∗ bigSep (Finset.Ico hi top) (fun g => FreeIn (F := F) c tab (sl64 g)))

theorem in_take (c : Dev nD) (tab : Tab) (ids : Ids) {lo hi top : ℕ} (h : lo < hi) :
    inRing (F := F) c tab ids lo hi top ⊢ iprop(Starting (F := F) c tab ids lo 8 ∗ inRing (F := F) c tab ids (lo + 1) hi top) := by
  unfold inRing; rw [bigSep_Ico_left h]; exact sep_assoc.1
theorem in_put (c : Dev nD) (tab : Tab) (ids : Ids) {lo hi top : ℕ} (h : hi ≤ top) {s : Fin 64} (hs : sl64 top = s) :
    iprop(inRing (F := F) c tab ids lo hi top ∗ FreeIn (F := F) c tab s) ⊢ inRing (F := F) c tab ids lo hi (top + 1) := by
  subst hs
  unfold inRing; rw [bigSep_Ico_right h]
  iintro ⟨⟨H1, H2⟩, H3⟩
  isplitl [H1]; · iexact H1
  isplitl [H3]; · iexact H3
  iexact H2
theorem in_issue (c : Dev nD) (tab : Tab) (ids : Ids) {lo hi top : ℕ} (h : lo ≤ hi) (h' : hi < top) :
    inRing (F := F) c tab ids lo hi top ⊢ iprop(FreeIn (F := F) c tab (sl64 hi) ∗ (Starting (F := F) c tab ids hi 8 -∗ inRing (F := F) c tab ids lo (hi + 1) top)) := by
  unfold inRing; rw [bigSep_Ico_left h', bigSep_Ico_right h]
  iintro ⟨H1, H2, H3⟩
  isplitl [H2]; · iexact H2
  iintro H
  isplitl [H H1]
  · isplitl [H]; · iexact H
    iexact H1
  iexact H3

/-- A block's number, as an index. -/
def bl (g : ℕ) : Fin 512 := ⟨g % 512, Nat.mod_lt _ (by decide)⟩
/-- A result ring with blocks below `lo` arrived and blocks below `hi` issued. -/
def oRing (c : Dev nD) (X : Blks F) (lo hi : ℕ) : sProp 𝕄 :=
  iprop(bigSep (Finset.Ico 0 lo) (fun g => owns (c : Thread nD τ) (oBlk H (bl g)) fullShare (X (bl g)))
    ∗ bigSep (Finset.Ico lo hi) (fun g => oFly (F := F) A M H c X (bl g))
    ∗ bigSep (Finset.Ico hi 512) (fun g => iprop(∃ Y : S8x7168.Idx → Elt F .bf16, owns (c : Thread nD τ) (oBlk H (bl g)) fullShare Y))
    ∗ bigSep (Finset.Ico hi (lo + 8)) (fun g => oFree (F := F) A M c (sl8 g)))

theorem o_wait (c : Dev nD) (X : Blks F) {lo hi : ℕ} (h : lo < hi) (h' : hi ≤ lo + 8) (hl : lo < 512) :
    oRing (F := F) A M H c X lo hi ⊢ iprop(oFly (F := F) A M H c X (bl lo)
      ∗ (iprop(owns (c : Thread nD τ) (oBlk H (bl lo)) fullShare (X (bl lo)) ∗ oFree (F := F) A M c (sl8 (bl lo).val)) -∗ oRing (F := F) A M H c X (lo + 1) hi)) := by
  have e : sl8 (bl lo).val = sl8 (lo + 8) := Fin.ext (by show lo % 512 % 8 = (lo + 8) % 8; omega)
  unfold oRing
  rw [e, bigSep_Ico_left h, bigSep_Ico_right (Nat.zero_le lo), show lo + 1 + 8 = (lo + 8) + 1 by omega, bigSep_Ico_right h']
  iintro ⟨H1, ⟨H2, H3⟩, H4, H5⟩
  isplitl [H2]; · iexact H2
  iintro ⟨H6, H7⟩
  isplitl [H6 H1]
  · isplitl [H6]; · iexact H6
    iexact H1
  isplitl [H3]; · iexact H3
  isplitl [H4]; · iexact H4
  isplitl [H7]; · iexact H7
  iexact H5
theorem o_issue (c : Dev nD) (X : Blks F) {lo hi : ℕ} (h : lo ≤ hi) (h' : hi < lo + 8) (hl : hi < 512) :
    oRing (F := F) A M H c X lo hi ⊢ iprop(oFree (F := F) A M c (sl8 (bl hi).val)
      ∗ (∃ Y : S8x7168.Idx → Elt F .bf16, owns (c : Thread nD τ) (oBlk H (bl hi)) fullShare Y)
      ∗ (oFly (F := F) A M H c X (bl hi) -∗ oRing (F := F) A M H c X lo (hi + 1))) := by
  have e : sl8 (bl hi).val = sl8 hi := Fin.ext (by show hi % 512 % 8 = hi % 8; omega)
  unfold oRing
  rw [e, bigSep_Ico_left h', bigSep_Ico_left hl, bigSep_Ico_right h]
  iintro ⟨H1, H2, ⟨H3, H4⟩, ⟨H5, H6⟩⟩
  isplitl [H5]; · iexact H5
  isplitl [H3]; · iexact H3
  iintro H
  isplitl [H1]; · iexact H1
  isplitl [H H2]
  · isplitl [H]; · iexact H
    iexact H2
  isplitl [H4]; · iexact H4
  iexact H6

end Cert.KernelIdeal.Hand
-- ==== Proof.Start.lean ====
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

set_option sl_exec.closedPieces true
set_option sl_exec.closedLoads true

/-- The token ids in their staging buffer. -/
def idsPt (c : Dev nD) (ids : Ids) : sProp 𝕄 :=
  (View.loc (c : Thread nD τ) (Memref.whole cc0_stg0_0 : Memref sig .tc .smem S4096 .i32).view) ↦{fullShare} ids

/-- The side condition of a row's transfer. -/
theorem chkRow (v : BitVec 32) (h : v.toNat < 32000) : ∀ a, (![(v >>> 2).toNat, 0] : Fin 2 → ℕ) a + S1x7168.size a ≤ S8000x7168.size a := by
  have e : (v >>> 2).toNat = v.toNat / 4 := by rw [BitVec.toNat_ushiftRight, Nat.shiftRight_eq_div_pow]
  intro a; fin_cases a
  · show (v >>> 2).toNat + 1 ≤ 8000; omega
  · show 0 + 7168 ≤ 7168; omega

/-- A word of the token ids, as the kernel loads it. -/
theorem rd_ids (ids : Ids) {off : Fin 1 → ℕ} (h : ∀ a, off a + S1.size a ≤ S4096.size a) {n : ℕ} (e : off = ![n]) (x) :
    (Memref.whole cc0_stg0_0 : Memref sig .tc .smem S4096 .i32).view.readAt (Elt F) (Rect.unit (s := S4096) off S1.size h).toLoadRect ids x = idAt ids n := by
  subst e
  have hn : n + 1 ≤ 4096 := h 0
  show ids _ = ids _
  refine congrArg ids (funext fun a => Fin.ext ?_)
  match a with
  | ⟨0, _⟩ =>
    have h0 : (x 0).val = 0 := by have := (x 0).isLt; change (x 0).val < 1 at this; omega
    show n + 1 * (x 0).val = n % 4096
    omega
/-- The row of the table a transfer reads, from the word loaded. -/
theorem src_ids (ids : Ids) (hid : ∀ i, (ids i).toNat < 32000) (g j n : ℕ) (hj : j < 8) (hn : n = 8 * g + j) {v : BitVec 32} (e : v = idAt ids n) :
    (![(v >>> 2).toNat, 0] : Fin 2 → ℕ) = ![(rid ids g ⟨j, hj⟩).val, 0] := by
  subst e hn
  have h : (idAt ids (8 * g + j)).toNat < 32000 := hid _
  have e : (idAt ids (8 * g + j) >>> 2).toNat = (idAt ids (8 * g + j)).toNat / 4 := by rw [BitVec.toNat_ushiftRight, Nat.shiftRight_eq_div_pow]
  have : (rid ids g ⟨j, hj⟩).val = (idAt ids (8 * g + j) >>> 2).toNat % 8000 := rfl
  rw [this, Nat.mod_eq_of_lt (by omega)]

/-- `start_row` with the slot and the row as numbers. -/
theorem start_at (c : Dev nD) (tab : Tab) (ids : Ids) (g s j : ℕ) (hj : j < 8) (hs : s = g % 64)
    {offc : Fin 1 → ℕ} {offd : Fin 3 → ℕ} {offs : Fin 2 → ℕ}
    (hc : ∀ a, offc a + S1.size a ≤ S64.size a) (hd : ∀ a, offd a + S1x1x7168.size a ≤ S64x8x7168.size a)
    (hs : ∀ a, offs a + S1x7168.size a ≤ S8000x7168.size a)
    (h1 h2 h3) {α : Type} {k : PUnit → Prog (TpuEff nD τ sig (Elt F) Λ₀ .tc) α} {Q : α → sProp 𝕄}
    (ec : offc = ![s]) (ed : offd = ![s, j, 0]) (es : offs = ![(rid ids g ⟨j, hj⟩).val, 0]) :
    Starting (F := F) c tab ids g j
    ⊢ iprop((Starting (F := F) c tab ids g (j + 1) -∗ wp frame (wpE defs₀ Variants.none (c : Thread nD τ) none) Set.univ (k ⟨⟩) Q)
      -∗ wp frame (wpE defs₀ Variants.none (c : Thread nD τ) none) Set.univ
        (.op (.enqueueDma ((Memref.whole main_v6).slice (Rect.unit (s := S8000x7168) offs S1x7168.size hs) (fun _ => rfl))
          (.here (((Memref.whole cc0_scratch0).slice (Rect.unit (s := S64x8x7168) offd S1x1x7168.size hd) (fun _ => rfl)).squeeze S1x7168 squeezes_S1x1x7168_S1x7168))
          (.dma ((cc0_scratch6.slice (Rect.unit (s := S64) offc S1.size hc)).squeeze S_ squeezes_S1_S_).sem) h1 h2 h3) k) Q) := by
  subst_vars
  exact start_row c tab ids g ⟨j, hj⟩ hc hd hs rfl rfl rfl h1 h2 h3

theorem t1_trip (c : Dev nD) (tab : Tab) (ids : Ids) (hid : ∀ i, (ids i).toNat < 32000) (i : Fin k0_t1_loop.trips)
    (arg1 harg1 arg3 harg3 arg4 harg4 arg5 harg5 arg6 harg6 arg8 harg8 arg9 harg9 arg10 harg10 arg11 harg11 arg12 harg12 arg14 arg15) (a : PUnit) (Q : PUnit → sProp 𝕄) :
    iprop(idsPt (F := F) c ids ∗ FreeIn (F := F) c tab (sl64 i.val) ∗ (iprop(idsPt (F := F) c ids ∗ Starting (F := F) c tab ids i.val 8) -∗ Q ⟨⟩))
    ⊢ wp frame (wpE defs₀ Variants.none (c : Thread nD τ) none) Set.univ
      (k0_t1_body (F := F) (Memref.whole cc0_stg0_0) (Memref.isWhole_whole _) arg1 harg1 (Memref.whole main_v6) (Memref.isWhole_whole _) arg3 harg3 arg4 harg4
        arg5 harg5 arg6 harg6 (Memref.whole cc0_scratch0) (Memref.isWhole_whole _) arg8 harg8 arg9 harg9 arg10 harg10 arg11 harg11 arg12 harg12 cc0_scratch6 arg14 arg15 i a) Q := by
  iintro ⟨Hids, HF, HQ⟩
  imod (start_open (F := F) c tab ids i.val) $$ HF with HF
  unfold idsPt
  sl_unfold [k0_t1_body, k0_part1_skel, k0_part2_skel]
  sl_exec (disch := exact chkRow _ (hid _))
  have hi : i.val < 63 := i.isLt
  iapply (start_at (F := F) c tab ids i.val i.val 0 (by decide) (by omega) _ _ _ _ _ _ (k0_off2_eq i) (k0_off3_eq i) ?es) $$ HF
  case es => exact src_ids ids hid i.val 0 _ (by decide) rfl (by unfold t1_trip.sl.r; exact rd_ids (F := F) ids _ rfl _)
  iintro HF
  sl_exec (disch := exact chkRow _ (hid _))
  iapply (start_at (F := F) c tab ids i.val i.val 1 (by decide) (by omega) _ _ _ _ _ _ (k0_off6_eq i) (k0_off7_eq i) ?es) $$ HF
  case es => exact src_ids ids hid i.val 1 _ (by decide) rfl (by unfold t1_trip.sl.r_1; exact rd_ids (F := F) ids _ rfl _)
  iintro HF
  sl_exec (disch := exact chkRow _ (hid _))
  iapply (start_at (F := F) c tab ids i.val i.val 2 (by decide) (by omega) _ _ _ _ _ _ (k0_off10_eq i) (k0_off11_eq i) ?es) $$ HF
  case es => exact src_ids ids hid i.val 2 _ (by decide) rfl (by unfold t1_trip.sl.r_2; exact rd_ids (F := F) ids _ rfl _)
  iintro HF
  sl_exec (disch := exact chkRow _ (hid _))
  iapply (start_at (F := F) c tab ids i.val i.val 3 (by decide) (by omega) _ _ _ _ _ _ (k0_off14_eq i) (k0_off15_eq i) ?es) $$ HF
  case es => exact src_ids ids hid i.val 3 _ (by decide) rfl (by unfold t1_trip.sl.r_3; exact rd_ids (F := F) ids _ rfl _)
  iintro HF
  sl_exec (disch := exact chkRow _ (hid _))
  iapply (start_at (F := F) c tab ids i.val i.val 4 (by decide) (by omega) _ _ _ _ _ _ (k0_off18_eq i) (k0_off19_eq i) ?es) $$ HF
  case es => exact src_ids ids hid i.val 4 _ (by decide) rfl (by unfold t1_trip.sl.r_4; exact rd_ids (F := F) ids _ rfl _)
  iintro HF
  sl_exec (disch := exact chkRow _ (hid _))
  iapply (start_at (F := F) c tab ids i.val i.val 5 (by decide) (by omega) _ _ _ _ _ _ (k0_off22_eq i) (k0_off23_eq i) ?es) $$ HF
  case es => exact src_ids ids hid i.val 5 _ (by decide) rfl (by unfold t1_trip.sl.r_5; exact rd_ids (F := F) ids _ rfl _)
  iintro HF
  sl_exec (disch := exact chkRow _ (hid _))
  iapply (start_at (F := F) c tab ids i.val i.val 6 (by decide) (by omega) _ _ _ _ _ _ (k0_off26_eq i) (k0_off27_eq i) ?es) $$ HF
  case es => exact src_ids ids hid i.val 6 _ (by decide) rfl (by unfold t1_trip.sl.r_6; exact rd_ids (F := F) ids _ rfl _)
  iintro HF
  sl_exec (disch := exact chkRow _ (hid _))
  iapply (start_at (F := F) c tab ids i.val i.val 7 (by decide) (by omega) _ _ _ _ _ _ (k0_off30_eq i) (k0_off31_eq i) ?es) $$ HF
  case es => exact src_ids ids hid i.val 7 _ (by decide) rfl (by unfold t1_trip.sl.r_7; exact rd_ids (F := F) ids _ rfl _)
  iintro HF
  sl_exec (disch := exact chkRow _ (hid _))
  sl_step
  iapply HQ
  isplitl [Hids]
  · iexact Hids
  · iexact HF

end Cert.KernelIdeal.Hand
-- ==== Proof.Slot.lean ====
module

public import proofs.«01_k».proof.Proof.Start

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-- Column `y` of the chunk at column `n`. -/
def cIx (n : ℕ) (y : Fin 128) : Fin 7168 := ⟨(n + y.val) % 7168, Nat.mod_lt _ (by decide)⟩
/-- The chunk of a block at column `n`. -/
def chunkOf {α : Type} (Z : S8x7168.Idx → α) (n : ℕ) : S1x8x128.Idx → α := fun x => Z (ix2 (x 1) (cIx n (x 2)))
/-- The same chunk without its leading axis. -/
def chunk2 {α : Type} (Z : S8x7168.Idx → α) (n : ℕ) : S8x128.Idx → α := fun x => Z (ix2 (x 0) (cIx n (x 1)))

theorem emb3 {m : ℕ} {off : Fin 3 → ℕ} (h : ∀ a, off a + S1x8x128.size a ≤ (⟨3, ![m, 8, 7168]⟩ : Shape).size a) (s : Fin m) (n : ℕ) (e : off = ![s.val, 0, n])
    (x : S1x8x128.Idx) : (Rect.unit (s := ⟨3, ![m, 8, 7168]⟩) off S1x8x128.size h).emb x = ix3 s (x 1) (cIx n (x 2)) := by
  subst e
  have hn : n + 128 ≤ 7168 := h 2
  have h0 : (x 0).val = 0 := by have := (x 0).isLt; change (x 0).val < 1 at this; omega
  have h2 : (x 2).val < 128 := (x 2).isLt
  funext a
  apply Fin.ext
  match a with
  | ⟨0, _⟩ => show s.val + 1 * (x 0).val = s.val; omega
  | ⟨1, _⟩ => show 0 + 1 * (x 1).val = (x 1).val; omega
  | ⟨2, _⟩ => show n + 1 * (x 2).val = (n + (x 2).val) % 7168; rw [Nat.mod_eq_of_lt (by omega)]; omega

/-- What group `g`'s slot holds, by row and column. -/
def words (tab : Tab) (ids : Ids) (g : ℕ) : S8x7168.Idx → BitVec 32 := fun x => tab (ix2 (rid ids g (x 0)) (x 1))

/-- A chunk loaded from an input slot. -/
theorem ld7 (c : Dev nD) (tab : Tab) (ids : Ids) (g : ℕ) {off : Fin 3 → ℕ} (co : ClosedOff off) (e : co.form = ![(sl64 g).val, 0, co.form 2])
    (h : ∀ a, off a + S1x8x128.size a ≤ S64x8x7168.size a) (hl) {α : Type}
    {k : (S1x8x128.Idx → BitVec 32) → Prog (TpuEff nD τ sig (Elt F) Λ₀ .tc) α} {Q : α → sProp 𝕄} :
    ringPt (F := F) c (slotSet (sl64 g)) (slotW tab ids g)
    ⊢ iprop((ringPt (F := F) c (slotSet (sl64 g)) (slotW tab ids g) -∗ wp frame (wpE defs₀ Variants.none (c : Thread nD τ) none) Set.univ (k (chunkOf (words tab ids g) (co.form 2))) Q)
      -∗ wp frame (wpE defs₀ Variants.none (c : Thread nD τ) none) Set.univ
        (.op (.load (Memref.whole cc0_scratch0) (Rect.unit (s := S64x8x7168) off S1x8x128.size h).toLoadRect hl) k) Q) := by
  have e' : off = ![(sl64 g).val, 0, co.form 2] := co.eq.trans e
  have hv : (Memref.whole cc0_scratch0 : Memref sig .tc .vmem S64x8x7168 .i32).view.readAt (Elt F) (Rect.unit (s := S64x8x7168) off S1x8x128.size h).toLoadRect (slotW tab ids g)
      = chunkOf (words tab ids g) (co.form 2) := funext fun x => by
    show slotW tab ids g ((Rect.unit (s := S64x8x7168) off S1x8x128.size h).emb x) = _
    rw [emb3 (m := 64) h (sl64 g) _ e' x]; rfl
  rw [← hv]
  unfold ringPt
  refine wp_load Variants.none (c : Thread nD τ) none Set.univ (m := Memref.whole cc0_scratch0) (S := slotSet (sl64 g)) ?_
  intro i hi
  obtain ⟨y, hy, rfl⟩ := Finset.mem_map.mp hi
  obtain ⟨x, rfl⟩ := (Rect.unit (s := S64x8x7168) off S1x8x128.size h).exists_idx_of_mem hy
  refine (mem_slot7 _ _).mpr ?_
  show ((Rect.unit (s := S64x8x7168) off S1x8x128.size h).emb x) 0 = _
  rw [emb3 (m := 64) h (sl64 g) _ e' x]

section
variable (M : Memref sig .tc .vmem S8x8x7168 .bf16)

theorem oSlot_emb (s : Fin 8) (x : S8x7168.Idx) : (oSlot M s).view.emb x = M.view.emb (ix3 s (x 0) (x 1)) := by
  have h1 : (oSlot M s).view.emb x = M.view.emb ((Rect.unit (s := S8x8x7168) ![s.val, 0, 0] S1x8x7168.size (inb11 s)).emb
      (Shape.reshapeEquiv squeezes_S1x8x7168_S8x7168.numel_eq x)) := rfl
  rw [h1, Shape.reshapeEquiv_cons_one]
  congr 1
  funext a
  apply Fin.ext
  rw [Rect.emb_apply]
  match a with
  | ⟨0, _⟩ => show s.val + 1 * 0 = s.val; omega
  | ⟨1, _⟩ => show 0 + 1 * (x 0).val = (x 0).val; omega
  | ⟨2, _⟩ => show 0 + 1 * (x 1).val = (x 1).val; omega

theorem oSlot_read (s : Fin 8) (f : M.view.ty.Contents (Elt F)) (x : S8x7168.Idx) : (oSlot M s).view.read (Elt F) f x = M.view.read (Elt F) f (ix3 s (x 0) (x 1)) := by
  have h := oSlot_emb M s x
  have hc : ∀ (a b : M.view.ty.Idx) (e : a = b) (h1 : M.view.ty.elt = .bf16), cast (congrArg (Elt F) h1) (f a) = cast (congrArg (Elt F) h1) (f b) := fun a b e h1 => by subst e; rfl
  exact hc _ _ h M.view.elt_eq

/-- The elements of a result slot. -/
def oSet (s : Fin 8) : Finset M.view.ty.Idx := (oSlot M s).view.set
/-- A result slot at contents `f` of the whole ring. -/
def oPt (c : Dev nD) (s : Fin 8) (f : M.view.ty.Contents (Elt F)) : sProp 𝕄 := (M.view.loc (c : Thread nD τ) ↦[oSet M s]{fullShare} f)

theorem owns_open (c : Dev nD) (s : Fin 8) (Z : S8x7168.Idx → Elt F .bf16) :
    owns (c : Thread nD τ) (oSlot M s) fullShare Z ⊢ iprop(∃ f : M.view.ty.Contents (Elt F), ⌜∀ x : S8x7168.Idx, M.view.read (Elt F) f (ix3 s (x 0) (x 1)) = Z x⌝ ∗ oPt (F := F) M c s f) := by
  iintro H
  unfold owns
  icases H with ⟨%f, %hf, H⟩
  iexists f
  isplitr
  · ipureintro; intro x; exact (oSlot_read M s f x).symm.trans (congrFun hf x)
  unfold oPt
  iexact H
theorem owns_close (c : Dev nD) (s : Fin 8) (Z : S8x7168.Idx → Elt F .bf16) (f : M.view.ty.Contents (Elt F))
    (hf : ∀ x : S8x7168.Idx, M.view.read (Elt F) f (ix3 s (x 0) (x 1)) = Z x) :
    oPt (F := F) M c s f ⊢ owns (c : Thread nD τ) (oSlot M s) fullShare Z := by
  iintro H
  unfold owns
  iexists f
  isplitr
  · ipureintro; funext x; exact (oSlot_read M s f x).trans (hf x)
  unfold oPt
  iexact H

theorem chunk_sub (s : Fin 8) {off : Fin 3 → ℕ} (n : ℕ) (h : ∀ a, off a + S1x8x128.size a ≤ S8x8x7168.size a) (e : off = ![s.val, 0, n]) :
    (M.access (Rect.unit (s := S8x8x7168) off S1x8x128.size h)).set ⊆ oSet M s := by
  intro i hi
  obtain ⟨x, -, rfl⟩ := Finset.mem_map.mp hi
  refine Finset.mem_map.mpr ⟨ix2 (x 1) (cIx n (x 2)), Finset.mem_univ _, ?_⟩
  refine (oSlot_emb M s _).trans ?_
  show M.view.emb _ = M.view.emb ((Rect.unit (s := S8x8x7168) off S1x8x128.size h).emb x)
  rw [emb3 (m := 8) h s n e x]
  rfl

/-- A chunk loaded from a result slot. -/
theorem ldO (c : Dev nD) (s : Fin 8) (Z : S8x7168.Idx → Elt F .bf16) {off : Fin 3 → ℕ} (co : ClosedOff off) (e : co.form = ![s.val, 0, co.form 2])
    (h : ∀ a, off a + S1x8x128.size a ≤ S8x8x7168.size a) (hl) {α : Type}
    {k : (S1x8x128.Idx → Elt F .bf16) → Prog (TpuEff nD τ sig (Elt F) Λ₀ .tc) α} {Q : α → sProp 𝕄} :
    owns (c : Thread nD τ) (oSlot M s) fullShare Z
    ⊢ iprop((owns (c : Thread nD τ) (oSlot M s) fullShare Z -∗ wp frame (wpE defs₀ Variants.none (c : Thread nD τ) none) Set.univ (k (chunkOf Z (co.form 2))) Q)
      -∗ wp frame (wpE defs₀ Variants.none (c : Thread nD τ) none) Set.univ
        (.op (.load M (Rect.unit (s := S8x8x7168) off S1x8x128.size h).toLoadRect hl) k) Q) := by
  have e' : off = ![s.val, 0, co.form 2] := co.eq.trans e
  iintro H Hk
  ihave H := (owns_open (F := F) M c s Z) $$ H
  icases H with ⟨%f, %hf, H⟩
  have hv : M.view.readAt (Elt F) (Rect.unit (s := S8x8x7168) off S1x8x128.size h).toLoadRect f
      = chunkOf Z (co.form 2) := funext fun x => by
    show M.view.read (Elt F) f ((Rect.unit (s := S8x8x7168) off S1x8x128.size h).emb x) = Z (ix2 (x 1) (cIx (co.form 2) (x 2)))
    rw [emb3 (m := 8) h s _ e' x, ← hf]; rfl
  rw [← hv]
  unfold oPt
  iapply (wp_load_rect Variants.none (c : Thread nD τ) none Set.univ (m := M) (r := Rect.unit (s := S8x8x7168) off S1x8x128.size h) (S := oSet M s) (f := f) (chunk_sub M s _ h e')) $$ H
  iintro H
  iapply Hk
  iapply (owns_close (F := F) M c s Z f hf)
  unfold oPt
  iexact H

/-- A result slot that holds `X` in its columns below `n`. -/
def upTo (c : Dev nD) (s : Fin 8) (X : S8x7168.Idx → Elt F .bf16) (n : ℕ) : sProp 𝕄 :=
  iprop(∃ Z, ⌜∀ x : S8x7168.Idx, (x 1).val < n → Z x = X x⌝ ∗ owns (c : Thread nD τ) (oSlot M s) fullShare Z)

theorem upTo_zero (c : Dev nD) (s : Fin 8) (X Z : S8x7168.Idx → Elt F .bf16) : owns (c : Thread nD τ) (oSlot M s) fullShare Z ⊢ upTo (F := F) M c s X 0 := by
  unfold upTo
  iintro H
  iexists Z
  isplitr; · ipureintro; exact fun x h => absurd h (Nat.not_lt_zero _)
  iexact H
theorem upTo_full (c : Dev nD) (s : Fin 8) (X : S8x7168.Idx → Elt F .bf16) : upTo (F := F) M c s X 7168 ⊢ owns (c : Thread nD τ) (oSlot M s) fullShare X := by
  unfold upTo
  iintro ⟨%Z, %hZ, H⟩
  have e : Z = X := funext fun x => hZ x (x 1).isLt
  subst e
  iexact H

/-- A load whose value is not used. -/
theorem ldD (c : Dev nD) (s : Fin 8) (X : S8x7168.Idx → Elt F .bf16) (n : ℕ) {off : Fin 3 → ℕ} (co : ClosedOff off) (e : co.form = ![s.val, 0, co.form 2])
    (h : ∀ a, off a + S1x8x128.size a ≤ S8x8x7168.size a) (hl) {α : Type}
    {k : (S1x8x128.Idx → Elt F .bf16) → Prog (TpuEff nD τ sig (Elt F) Λ₀ .tc) α} {Q : α → sProp 𝕄} :
    upTo (F := F) M c s X n
    ⊢ iprop((∀ v, upTo (F := F) M c s X n -∗ wp frame (wpE defs₀ Variants.none (c : Thread nD τ) none) Set.univ (k v) Q)
      -∗ wp frame (wpE defs₀ Variants.none (c : Thread nD τ) none) Set.univ
        (.op (.load M (Rect.unit (s := S8x8x7168) off S1x8x128.size h).toLoadRect hl) k) Q) := by
  iintro H Hk
  unfold upTo
  icases H with ⟨%Z, %hZ, H⟩
  iapply (ldO M c s Z co e h hl) $$ H
  iintro H
  iapply Hk $$ %_
  iexists Z
  isplitr; · ipureintro; exact hZ
  iexact H

/-- The store of the next chunk. -/
theorem stO (c : Dev nD) (s : Fin 8) (X : S8x7168.Idx → Elt F .bf16) (n : ℕ) {off : Fin 3 → ℕ} (co : ClosedOff off) (e : co.form = ![s.val, 0, n])
    (h : ∀ a, off a + S1x8x128.size a ≤ S8x8x7168.size a) (w : S1x8x128.Idx → Elt F .bf16) (hw : w = chunkOf X n) (h1 h2) {α : Type}
    {k : PUnit → Prog (TpuEff nD τ sig (Elt F) Λ₀ .tc) α} {Q : α → sProp 𝕄} :
    upTo (F := F) M c s X n
    ⊢ iprop((upTo (F := F) M c s X (n + 128) -∗ wp frame (wpE defs₀ Variants.none (c : Thread nD τ) none) Set.univ (k ⟨⟩) Q)
      -∗ wp frame (wpE defs₀ Variants.none (c : Thread nD τ) none) Set.univ
        (.op (.store M (Rect.unit (s := S8x8x7168) off S1x8x128.size h) w Finset.univ h1 h2) k) Q) := by
  have e' : off = ![s.val, 0, n] := co.eq.trans e
  subst hw
  iintro H Hk
  unfold upTo
  icases H with ⟨%Z, %hZ, H⟩
  ihave H := (owns_open (F := F) M c s Z) $$ H
  icases H with ⟨%f, %hf, H⟩
  unfold oPt
  iapply (wp_store Variants.none (c : Thread nD τ) none Set.univ (m := M) (r := Rect.unit (s := S8x8x7168) off S1x8x128.size h) (S := oSet M s) (f := f) (chunk_sub M s n h e')) $$ H
  iintro H
  iapply Hk
  iexists (fun x : S8x7168.Idx => M.view.read (Elt F) ((M.access (Rect.unit (s := S8x8x7168) off S1x8x128.size h)).write (Elt F) f (chunkOf X n) Finset.univ) (ix3 s (x 0) (x 1)))
  isplitr
  swap
  · iapply (owns_close (F := F) M c s _ _ (fun _ => rfl))
    unfold oPt
    iexact H
  · ipureintro
    intro x hx
    have hn : n + 128 ≤ 7168 := by subst e'; exact h 2
    by_cases hlt : (x 1).val < n
    · refine (View.read_slice_write_of_not_mem (v := M.view) (Rect.unit (s := S8x8x7168) off S1x8x128.size h) f _ _ ?_).trans ((hf x).trans (hZ x hlt))
      intro hm
      obtain ⟨y, -, hy⟩ := Finset.mem_map.mp hm
      have h3 := (emb3 (m := 8) h s n e' y).symm.trans hy
      have h4 : cIx n (y 2) = x 1 := congrFun h3 2
      have h5 : (n + (y 2).val) % 7168 = (x 1).val := congrArg Fin.val h4
      have h6 : (y 2).val < 128 := (y 2).isLt
      rw [Nat.mod_eq_of_lt (by omega)] at h5
      omega
    · have h6 : (x 1).val - n < 128 := by omega
      have hc : cIx n (⟨(x 1).val - n, h6⟩ : Fin 128) = x 1 := Fin.ext (by
          show (n + ((x 1).val - n)) % 7168 = (x 1).val
          have : (x 1).val < 7168 := (x 1).isLt
          rw [Nat.mod_eq_of_lt (by omega)]; omega)
      have hx' : (Rect.unit (s := S8x8x7168) off S1x8x128.size h).emb (ix3 (0 : Fin 1) (x 0) (⟨(x 1).val - n, h6⟩ : Fin 128)) = ix3 s (x 0) (x 1) := by
        rw [emb3 (m := 8) h s n e']
        show ix3 s (x 0) (cIx n (⟨(x 1).val - n, h6⟩ : Fin 128)) = _
        rw [hc]
        rfl
      refine (congrArg (M.view.read (Elt F) _) hx'.symm).trans ?_
      refine (View.read_slice_write_emb (v := M.view) (Rect.unit (s := S8x8x7168) off S1x8x128.size h) f _ (Finset.mem_univ _)).trans ?_
      show X (ix2 (x 0) (cIx n (⟨(x 1).val - n, h6⟩ : Fin 128))) = X x
      rw [hc]
      congr 1
      funext a; match a with | ⟨0, _⟩ => rfl | ⟨1, _⟩ => rfl
end
end Cert.KernelIdeal.Hand
-- ==== Proof.Vals.lean ====
module

public import proofs.«01_k».proof.Proof.Slot
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-- A block from its chunks. -/
def glue {α : Type} (f : ℕ → S8x128.Idx → α) : S8x7168.Idx → α :=
  fun x => f ((x 1).val / 128) (ix2 (x 0) (⟨(x 1).val % 128, Nat.mod_lt _ (by decide)⟩ : Fin 128))

theorem cast_chunk {α : Type} (Z : S8x7168.Idx → α) (n : ℕ) : shapeCast S8x128 (chunkOf Z n) shapeCasts_S1x8x128_S8x128 = chunk2 Z n := by
  funext x
  show chunkOf Z n (Shape.reshapeEquiv _ x) = _
  rw [Shape.reshapeEquiv_cons_one]
  rfl

theorem cast_one {α : Type} (v : S8x128.Idx → α) (x : S1x8x128.Idx) : shapeCast S1x8x128 v shapeCasts_S8x128_S1x8x128 x = v (ix2 (x 1) (x 2)) := by
  have h : x = ix3 (0 : Fin 1) (x 1) (x 2) := by
    funext a
    match a with
    | ⟨0, _⟩ => exact Fin.ext (by have := (x 0).isLt; change (x 0).val < 1 at this; show (x 0).val = 0; omega)
    | ⟨1, _⟩ => rfl
    | ⟨2, _⟩ => rfl
  rw [h]
  exact ValueIdx.shapeCast_ab_1ab_apply v _ 0 (x 1) (x 2)

theorem glue_chunk {α : Type} (f : ℕ → S8x128.Idx → α) (c : ℕ) (hc : c < 56) :
    shapeCast S1x8x128 (f c) shapeCasts_S8x128_S1x8x128 = chunkOf (glue f) (128 * c) := by
  funext x
  rw [cast_one]
  have h2 : (x 2).val < 128 := (x 2).isLt
  have e : (128 * c + (x 2).val) % 7168 = 128 * c + (x 2).val := Nat.mod_eq_of_lt (by omega)
  show f c (ix2 (x 1) (x 2)) = f ((128 * c + (x 2).val) % 7168 / 128) (ix2 (x 1) (⟨(128 * c + (x 2).val) % 7168 % 128, _⟩ : Fin 128))
  have e1 : (128 * c + (x 2).val) % 7168 / 128 = c := by rw [e]; omega
  have e2 : (⟨(128 * c + (x 2).val) % 7168 % 128, Nat.mod_lt _ (by decide)⟩ : Fin 128) = x 2 := Fin.ext (by show (128 * c + (x 2).val) % 7168 % 128 = (x 2).val; rw [e]; omega)
  rw [e1, e2]

/-- One chunk of the dequantized rows. -/
def embC (sh : S8x128.Idx → BitVec 32) (sc z : FVec F S8x128 .f32) (w : S8x128.Idx → BitVec 32) : FVec F S8x128 .bf16 :=
  truncf .bf16 (mulf (subf (sitofp .f32 (shrsi (shli w sh) (broadcast S8x128 24#32))) z) sc) bitsLt_bf16_f32
/-- The dequantized rows of a group. -/
def embV (sh : S8x128.Idx → BitVec 32) (sc z : FVec F S8x128 .f32) (W : S8x7168.Idx → BitVec 32) : S8x7168.Idx → Elt F .bf16 :=
  glue fun c => embC sh sc z (chunk2 W (128 * c))
/-- The squares of the first chunks, added up by lane. -/
def accV (E : S8x7168.Idx → Elt F .bf16) : ℕ → FVec F S8x128 .f32
  | 0 => broadcast S8x128 (Scalar.ofBits .f32 0x00000000#32)
  | c + 1 => addf (accV E c) (mulf (extf .f32 (chunk2 E (128 * c) : FVec F S8x128 .bf16) bitsLt_bf16_f32) (extf .f32 (chunk2 E (128 * c) : FVec F S8x128 .bf16) bitsLt_bf16_f32))

theorem emb_pay (sh : S8x128.Idx → BitVec 32) (sc z : FVec F S8x128 .f32) (W : S8x7168.Idx → BitVec 32) (c : ℕ) (hc : c < 56) :
    shapeCast S1x8x128 (embC sh sc z (shapeCast S8x128 (chunkOf W (128 * c)) shapeCasts_S1x8x128_S8x128)) shapeCasts_S8x128_S1x8x128 = chunkOf (embV sh sc z W) (128 * c) := by
  rw [cast_chunk]
  exact glue_chunk (fun c => embC sh sc z (chunk2 W (128 * c))) c hc
end Cert.KernelIdeal.Hand
-- ==== Proof.Rows.lean ====
module

public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-- A row of a stored plane fits it. -/
theorem inbR (r : Fin 8) : ∀ a, (![r.val, 0] : Fin 2 → ℕ) a + S1x128.size a ≤ S8x128.size a := by
  intro a; have := r.isLt; fin_cases a
  · show r.val + 1 ≤ 8; omega
  · show 0 + 128 ≤ 128; omega
/-- The plane read back after its eight rows were stored, each of one value. -/
theorem rows_read {κ' : Kind} {sp : Space} {e : EltTy} (v : View sig κ' sp S8x128 e) (f : Fin 8 → Elt F e) (w : Fin 8 → S1x128.Idx → Elt F e) (hw : ∀ r, w r = fun _ => f r)
    (L : List (View.Piece (Elt F) S8x128 e)) (hL : L = List.ofFn fun r : Fin 8 => ⟨Rect.unit (s := S8x128) ![r.rev.val, 0] S1x128.size (inbR r.rev), w r.rev⟩)
    (h : ∀ a, (![0, 0] : Fin 2 → ℕ) a + S8x128.size a ≤ S8x128.size a) :
    v.readCov L (Rect.unit (s := S8x128) ![0, 0] S8x128.size h).toLoadRect = fun x => f (x 0) := by
  funext y
  have hy : (Rect.unit (s := S8x128) ![0, 0] S8x128.size h).toLoadRect.idx y = y := by
    funext a; apply Fin.ext
    fin_cases a
    · show 0 + 1 * (y 0).val = (y 0).val; omega
    · show 0 + 1 * (y 1).val = (y 1).val; omega
  show v.read (Elt F) (v.writes (Elt F) v.junk L) ((Rect.unit (s := S8x128) ![0, 0] S8x128.size h).toLoadRect.idx y) = _
  rw [hy]
  refine View.read_writes_apply_of_pieces v _ (fun x => f (x 0)) L ?_ y ?_
  · intro p hp x
    rw [hL, List.mem_ofFn] at hp
    obtain ⟨r, rfl⟩ := hp
    show w r.rev x = _
    rw [hw]
    refine congrArg f (Fin.ext ?_)
    have h0 : (x 0).val < 1 := (x 0).isLt
    show r.rev.val = r.rev.val + 1 * (x 0).val
    omega
  · refine ⟨⟨Rect.unit (s := S8x128) ![(y 0 : Fin 8).rev.rev.val, 0] S1x128.size (inbR (y 0 : Fin 8).rev.rev), w (y 0 : Fin 8).rev.rev⟩, hL ▸ List.mem_ofFn.mpr ⟨(y 0 : Fin 8).rev, rfl⟩, ?_⟩
    rw [Rect.mem_set_unit]
    intro a
    have h1 : (y 1).val < 128 := (y 1).isLt
    fin_cases a
    · show (y 0 : Fin 8).rev.rev.val ≤ (y 0).val ∧ (y 0).val < (y 0 : Fin 8).rev.rev.val + 1
      rw [Fin.rev_rev]; omega
    · show 0 ≤ (y 1).val ∧ (y 1).val < 0 + 128; omega
/-- `rows_read` with the eight rows spelled out. -/
theorem rows_read8 {κ' : Kind} {sp : Space} {e : EltTy} (v : View sig κ' sp S8x128 e) (f : Fin 8 → Elt F e) {w0 w1 w2 w3 w4 w5 w6 w7 : S1x128.Idx → Elt F e} (h0 : w0 = fun _ => f 0) (h1 : w1 = fun _ => f 1) (h2 : w2 = fun _ => f 2) (h3 : w3 = fun _ => f 3) (h4 : w4 = fun _ => f 4) (h5 : w5 = fun _ => f 5) (h6 : w6 = fun _ => f 6) (h7 : w7 = fun _ => f 7)
    {i0 i1 i2 i3 i4 i5 i6 i7} (h : ∀ a, (![0, 0] : Fin 2 → ℕ) a + S8x128.size a ≤ S8x128.size a) :
    v.readCov [⟨Rect.unit (s := S8x128) ![7, 0] S1x128.size i7, w7⟩, ⟨Rect.unit (s := S8x128) ![6, 0] S1x128.size i6, w6⟩, ⟨Rect.unit (s := S8x128) ![5, 0] S1x128.size i5, w5⟩, ⟨Rect.unit (s := S8x128) ![4, 0] S1x128.size i4, w4⟩, ⟨Rect.unit (s := S8x128) ![3, 0] S1x128.size i3, w3⟩, ⟨Rect.unit (s := S8x128) ![2, 0] S1x128.size i2, w2⟩, ⟨Rect.unit (s := S8x128) ![1, 0] S1x128.size i1, w1⟩, ⟨Rect.unit (s := S8x128) ![0, 0] S1x128.size i0, w0⟩] (Rect.unit (s := S8x128) ![0, 0] S8x128.size h).toLoadRect = fun x => f (x 0) := by
  subst h0 h1 h2 h3 h4 h5 h6 h7
  exact rows_read v f (fun r _ => f r) (fun _ => rfl) _ rfl h
/-- A number looked up at a word, as the kernel loads it. -/
theorem rd_look1 (tbl : S32000.Idx → Elt F .f32) {off : Fin 1 → ℕ} (h : ∀ a, off a + S1.size a ≤ S32000.size a) {u v : BitVec 32} (e : off = ![u.toNat]) (hu : u = v) (x) :
    (Memref.whole cc0_stg1_0 : Memref sig .tc .smem S32000 .f32).view.readAt (Elt F) (Rect.unit (s := S32000) off S1.size h).toLoadRect tbl x = tbl (ix1 ⟨v.toNat % 32000, Nat.mod_lt _ (by decide)⟩) := by
  subst e hu
  have hn : u.toNat + 1 ≤ 32000 := h 0
  show tbl _ = tbl _
  refine congrArg tbl (funext fun a => Fin.ext ?_)
  match a with
  | ⟨0, _⟩ =>
    have h0 : (x 0).val = 0 := by have := (x 0).isLt; change (x 0).val < 1 at this; omega
    show u.toNat + 1 * (x 0).val = u.toNat % 32000
    omega
/-- A number looked up at a word, as the kernel loads it. -/
theorem rd_look2 (tbl : S32000.Idx → Elt F .f32) {off : Fin 1 → ℕ} (h : ∀ a, off a + S1.size a ≤ S32000.size a) {u v : BitVec 32} (e : off = ![u.toNat]) (hu : u = v) (x) :
    (Memref.whole cc0_stg2_0 : Memref sig .tc .smem S32000 .f32).view.readAt (Elt F) (Rect.unit (s := S32000) off S1.size h).toLoadRect tbl x = tbl (ix1 ⟨v.toNat % 32000, Nat.mod_lt _ (by decide)⟩) := by
  subst e hu
  have hn : u.toNat + 1 ≤ 32000 := h 0
  show tbl _ = tbl _
  refine congrArg tbl (funext fun a => Fin.ext ?_)
  match a with
  | ⟨0, _⟩ =>
    have h0 : (x 0).val = 0 := by have := (x 0).isLt; change (x 0).val < 1 at this; omega
    show u.toNat + 1 * (x 0).val = u.toNat % 32000
    omega
end Cert.KernelIdeal.Hand
-- ==== Proof.Trip.lean ====
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

set_option sl_exec.closedPieces true
set_option sl_exec.closedLoads true

/-- The scale's, the zero point's and the weight's staging buffers. -/
abbrev scalePt (c : Dev nD) (v : S32000.Idx → Elt F .f32) : sProp 𝕄 :=
  (View.loc (c : Thread nD τ) (Memref.whole cc0_stg1_0 : Memref sig .tc .smem S32000 .f32).view) ↦{fullShare} v
abbrev zeroPt (c : Dev nD) (v : S32000.Idx → Elt F .f32) : sProp 𝕄 :=
  (View.loc (c : Thread nD τ) (Memref.whole cc0_stg2_0 : Memref sig .tc .smem S32000 .f32).view) ↦{fullShare} v
def wPt (c : Dev nD) (v : S8x7168.Idx → Elt F .f32) : sProp 𝕄 :=
  (View.loc (c : Thread nD τ) (Memref.whole cc0_stg3_0 : Memref sig .tc .vmem S8x7168 .f32).view) ↦{fullShare} v
abbrev scPt (c : Dev nD) (v : S8x128.Idx → Elt F .f32) : sProp 𝕄 :=
  (View.loc (c : Thread nD τ) (Memref.whole cc0_scratch1 : Memref sig .tc .vmem S8x128 .f32).view) ↦{fullShare} v
abbrev zrPt (c : Dev nD) (v : S8x128.Idx → Elt F .f32) : sProp 𝕄 :=
  (View.loc (c : Thread nD τ) (Memref.whole cc0_scratch2 : Memref sig .tc .vmem S8x128 .f32).view) ↦{fullShare} v
abbrev shPt (c : Dev nD) (v : S8x128.Idx → BitVec 32) : sProp 𝕄 :=
  (View.loc (c : Thread nD τ) (Memref.whole cc0_scratch3 : Memref sig .tc .vmem S8x128 .i32).view) ↦{fullShare} v

/-- A conditional whose two branches both end in the same continuation `J`. -/
theorem wp_join (c : Dev nD) {α : Type} {P R : sProp 𝕄} {Q : α → sProp 𝕄} {q : Prop} [Decidable q] {A : q → Prog (TpuEff nD τ sig (Elt F) Λ₀ .tc) α} {J : Prog (TpuEff nD τ sig (Elt F) Λ₀ .tc) α}
    (hA : ∀ h, P ⊢ iprop((R -∗ wp frame (wpE defs₀ Variants.none (c : Thread nD τ) none) Set.univ J Q) -∗ wp frame (wpE defs₀ Variants.none (c : Thread nD τ) none) Set.univ (A h) Q))
    (hB : ¬ q → P ⊢ R) :
    P ⊢ iprop((R -∗ wp frame (wpE defs₀ Variants.none (c : Thread nD τ) none) Set.univ J Q) -∗ wp frame (wpE defs₀ Variants.none (c : Thread nD τ) none) Set.univ (dite q A fun _ => J) Q) := by
  by_cases h : q
  · rw [dif_pos h]; exact hA h
  · rw [dif_neg h]
    iintro HP HJ
    iapply HJ
    iapply (hB h) $$ HP

/-- The semaphore cell a trip waits on before it reuses a result slot. -/
theorem off35_eq : ∀ t : Fin k0_t2_loop.trips, k0_cond1 t = 1#1 → k0_off35 t = ![(t.val - 8) % 8] := by decide +kernel
/-- The side condition of the table look-ups by token id. -/
theorem chkId (v : BitVec 32) (h : v.toNat < 32000) : ∀ a, (![v.toNat] : Fin 1 → ℕ) a + S1.size a ≤ S32000.size a := by
  intro a; fin_cases a
  show v.toNat + 1 ≤ 32000; omega
theorem cond1_iff (t : Fin k0_t2_loop.trips) : k0_cond1 t = 1#1 ↔ 8 ≤ t.val := by revert t; decide +kernel

section
variable (A : DmaSems sig S8) (M : Memref sig .tc .vmem S8x8x7168 .bf16) (H : Memref sig .tc .hbm S512x8x7168 .bf16)
theorem sl_bl {g : ℕ} (h : g < 512) : sl8 (bl g).val = sl8 g := Fin.ext (by show g % 512 % 8 = g % 8; omega)

/-- A result slot taken up for group `g`: its semaphore, the slot as nothing of `X` yet, and the group's block. -/
theorem o_take (c : Dev nD) (X : Blks F) {lo g : ℕ} (h : lo ≤ g) (h' : g < lo + 8) (hl : g < 512) :
    oRing (F := F) A M H c X lo g ⊢ iprop(semVal ((c : Thread nD τ), .dma (oSem A (sl8 g))) 0 ∗ upTo (F := F) M c (sl8 g) (X (bl g)) (128 * 0)
      ∗ (∃ Y : S8x7168.Idx → Elt F .bf16, owns (c : Thread nD τ) (oBlk H (bl g)) fullShare Y)
      ∗ (oFly (F := F) A M H c X (bl g) -∗ oRing (F := F) A M H c X lo (g + 1))) := by
  iintro HO
  ihave HO := (o_issue (F := F) A M H c X h h' hl) $$ HO
  rw [sl_bl hl]
  unfold oFree
  icases HO with ⟨⟨Hv, ⟨%Z, HD⟩⟩, HB, HO⟩
  isplitl [Hv]; · iexact Hv
  isplitl [HD]; · iapply (upTo_zero (F := F) M c (sl8 g) _ _) $$ HD
  isplitl [HB]; · iexact HB
  iexact HO

/-- `out_start` from the slot a trip names. -/
theorem o_start (c : Dev nD) (X : Blks F) {g : ℕ} (hl : g < 512)
    {offc : Fin 1 → ℕ} {offs offd : Fin 3 → ℕ}
    (hc : ∀ a, offc a + S1.size a ≤ S8.size a) (hs : ∀ a, offs a + S1x8x7168.size a ≤ S8x8x7168.size a)
    (hd : ∀ a, offd a + S1x8x7168.size a ≤ S512x8x7168.size a)
    (ec : offc = ![(sl8 g).val]) (es : offs = ![(sl8 g).val, 0, 0]) (ed : offd = ![g, 0, 0])
    (h1 h2 h3) {α : Type} {k : PUnit → Prog (TpuEff nD τ sig (Elt F) Λ₀ .tc) α} {Q : α → sProp 𝕄} :
    iprop(semVal ((c : Thread nD τ), .dma (oSem A (sl8 g))) 0 ∗ owns (c : Thread nD τ) (oSlot M (sl8 g)) fullShare (X (bl g))
      ∗ (∃ Y : S8x7168.Idx → Elt F .bf16, owns (c : Thread nD τ) (oBlk H (bl g)) fullShare Y))
    ⊢ iprop((oFly (F := F) A M H c X (bl g) -∗ wp frame (wpE defs₀ Variants.none (c : Thread nD τ) none) Set.univ (k ⟨⟩) Q)
      -∗ wp frame (wpE defs₀ Variants.none (c : Thread nD τ) none) Set.univ
        (.op (.enqueueDma ((M.slice (Rect.unit (s := S8x8x7168) offs S1x8x7168.size hs) (fun _ => rfl)).squeeze S8x7168 squeezes_S1x8x7168_S8x7168)
          (.here ((H.slice (Rect.unit (s := S512x8x7168) offd S1x8x7168.size hd) (fun _ => rfl)).squeeze S8x7168 squeezes_S1x8x7168_S8x7168))
          (.dma ((A.slice (Rect.unit (s := S8) offc S1.size hc)).squeeze S_ squeezes_S1_S_).sem) h1 h2 h3) k) Q) := by
  have eb : (bl g).val = g := Nat.mod_eq_of_lt hl
  rw [← sl_bl hl] at ec es ⊢
  exact out_start (F := F) A M H c X (bl g) hc hs hd ec es (by rw [eb]; exact ed) h1 h2 h3
end

/-- The shift of a row: its token's place in the word, from the top. -/
def shV (ids : Ids) (g : ℕ) : S8x128.Idx → BitVec 32 := fun x => Scalar.muli (Scalar.subi 3#32 (Scalar.andi (idAt ids (8 * g + (x 0).val)) 3#32)) 8#32
/-- A table of numbers looked up at each row's token. -/
def lookV (ids : Ids) (v : S32000.Idx → Elt F .f32) (g : ℕ) : FVec F S8x128 .f32 := fun x => v (ix1 ⟨(idAt ids (8 * g + (x 0).val)).toNat % 32000, Nat.mod_lt _ (by decide)⟩)
/-- The scales of a group's rows, rounded. -/
def scV (ids : Ids) (v : S32000.Idx → Elt F .f32) (g : ℕ) : FVec F S8x128 .f32 := extf .f32 (truncf .bf16 (lookV ids v g) bitsLt_bf16_f32) bitsLt_bf16_f32
/-- A group's dequantized rows. -/
def embG (tab : Tab) (ids : Ids) (scale zero : S32000.Idx → Elt F .f32) (g : ℕ) : S8x7168.Idx → Elt F .bf16 :=
  embV (shV ids g) (scV ids scale g) (lookV ids zero g) (words tab ids g)

/-- The store of a dequantized chunk. -/
theorem stE (M : Memref sig .tc .vmem S8x8x7168 .bf16) (c : Dev nD) (s : Fin 8) (tab : Tab) (ids : Ids) (scale zero : S32000.Idx → Elt F .f32) (g n : ℕ) {off : Fin 3 → ℕ} (co : ClosedOff off) (e : co.form = ![s.val, 0, 128 * n])
    (hn : n < 56) (h : ∀ a, off a + S1x8x128.size a ≤ S8x8x7168.size a) (w : S1x8x128.Idx → Elt F .bf16)
    (hw : w = shapeCast S1x8x128 (embC (shV ids g) (scV ids scale g) (lookV ids zero g) (shapeCast S8x128 (chunkOf (words tab ids g) (128 * n)) shapeCasts_S1x8x128_S8x128)) shapeCasts_S8x128_S1x8x128) (h1 h2) {α : Type}
    {k : PUnit → Prog (TpuEff nD τ sig (Elt F) Λ₀ .tc) α} {Q : α → sProp 𝕄} :
    upTo (F := F) M c s (embG tab ids scale zero g) (128 * n)
    ⊢ iprop((upTo (F := F) M c s (embG tab ids scale zero g) (128 * (n + 1)) -∗ wp frame (wpE defs₀ Variants.none (c : Thread nD τ) none) Set.univ (k ⟨⟩) Q)
      -∗ wp frame (wpE defs₀ Variants.none (c : Thread nD τ) none) Set.univ
        (.op (.store M (Rect.unit (s := S8x8x7168) off S1x8x128.size h) w Finset.univ h1 h2) k) Q) :=
  stO M c s _ _ co e h w (hw.trans (emb_pay _ _ _ _ n hn)) h1 h2

/-- The squares of a group's first chunks, added up by lane. -/
def accG (tab : Tab) (ids : Ids) (scale zero : S32000.Idx → Elt F .f32) (g : ℕ) : ℕ → FVec F S8x128 .f32
  | 0 => broadcast S8x128 (Scalar.ofBits .f32 0x00000000#32)
  | n + 1 => addf (accG tab ids scale zero g n)
      (mulf (extf .f32 (embC (shV ids g) (scV ids scale g) (lookV ids zero g) (shapeCast S8x128 (chunkOf (words tab ids g) (128 * n)) shapeCasts_S1x8x128_S8x128)) bitsLt_bf16_f32)
        (extf .f32 (embC (shV ids g) (scV ids scale g) (lookV ids zero g) (shapeCast S8x128 (chunkOf (words tab ids g) (128 * n)) shapeCasts_S1x8x128_S8x128)) bitsLt_bf16_f32))
/-- The factor a row is normalised by, from its lanes' sums of squares. -/
def rsV (acc : FVec F S8x128 .f32) : FVec F S8x128 .f32 :=
  broadcastTo S8x128 (shapeCast S8x1 (rsqrt (addf (mulf (shapeCast S8x1 (multiReduction .add [1] S8 acc 0x00000000#32 reduces_S8x128_S8 (.inl rfl) rfl) shapeCasts_S8_S8x1)
    (broadcast S8x1 (Named.named κ "inv_d" 0x39124925#32))) (broadcast S8x1 (Scalar.ofBits .f32 0x358637BD#32)))) shapeCasts_S8x1_S8x1) broadcasts_S8x1_S8x128
/-- One chunk of the normalised rows. -/
def outC (rs : FVec F S8x128 .f32) (e : FVec F S8x128 .bf16) (w : FVec F S8x128 .f32) : FVec F S8x128 .bf16 :=
  truncf .bf16 (mulf (mulf (extf .f32 e bitsLt_bf16_f32) rs) w) bitsLt_bf16_f32
/-- The normalised rows of a group. -/
def outV (rs : FVec F S8x128 .f32) (E : S8x7168.Idx → Elt F .bf16) (w : S8x7168.Idx → Elt F .f32) : S8x7168.Idx → Elt F .bf16 :=
  glue fun n => outC rs (chunk2 E (128 * n)) (chunk2 w (128 * n))
/-- A group's normalised rows. -/
def outG (tab : Tab) (ids : Ids) (scale zero : S32000.Idx → Elt F .f32) (w : S8x7168.Idx → Elt F .f32) (g : ℕ) : S8x7168.Idx → Elt F .bf16 :=
  outV (rsV (accG tab ids scale zero g 56)) (embG tab ids scale zero g) w

/-- The store of a normalised chunk. -/
theorem stN (M : Memref sig .tc .vmem S8x8x7168 .bf16) (c : Dev nD) (s : Fin 8) (rs : FVec F S8x128 .f32) (E : S8x7168.Idx → Elt F .bf16) (wt : S8x7168.Idx → Elt F .f32) (n : ℕ) {off : Fin 3 → ℕ} (co : ClosedOff off) (e : co.form = ![s.val, 0, 128 * n])
    (hn : n < 56) (h : ∀ a, off a + S1x8x128.size a ≤ S8x8x7168.size a) (w : S1x8x128.Idx → Elt F .bf16)
    (hw : w = shapeCast S1x8x128 (outC rs (shapeCast S8x128 (chunkOf E (128 * n)) shapeCasts_S1x8x128_S8x128) (shapeCast S8x128 (chunk2 wt (128 * n)) shapeCasts_S8x128_S8x128)) shapeCasts_S8x128_S1x8x128) (h1 h2) {α : Type}
    {k : PUnit → Prog (TpuEff nD τ sig (Elt F) Λ₀ .tc) α} {Q : α → sProp 𝕄} :
    upTo (F := F) M c s (outV rs E wt) (128 * n)
    ⊢ iprop((upTo (F := F) M c s (outV rs E wt) (128 * (n + 1)) -∗ wp frame (wpE defs₀ Variants.none (c : Thread nD τ) none) Set.univ (k ⟨⟩) Q)
      -∗ wp frame (wpE defs₀ Variants.none (c : Thread nD τ) none) Set.univ
        (.op (.store M (Rect.unit (s := S8x8x7168) off S1x8x128.size h) w Finset.univ h1 h2) k) Q) := by
  refine stO M c s _ _ co e h w (hw.trans ?_) h1 h2
  rw [cast_chunk, shapeCast_self]
  exact glue_chunk (fun n => outC rs (chunk2 E (128 * n)) (chunk2 wt (128 * n))) n hn

/-- A chunk loaded from the weight. -/
theorem ld4 (c : Dev nD) (w : S8x7168.Idx → Elt F .f32) (n : ℕ) {off : Fin 2 → ℕ} (e : off = ![0, n])
    (h : ∀ a, off a + S8x128.size a ≤ S8x7168.size a) (hl) {α : Type}
    {k : (S8x128.Idx → Elt F .f32) → Prog (TpuEff nD τ sig (Elt F) Λ₀ .tc) α} {Q : α → sProp 𝕄} :
    wPt (F := F) c w
    ⊢ iprop((wPt (F := F) c w -∗ wp frame (wpE defs₀ Variants.none (c : Thread nD τ) none) Set.univ (k (chunk2 w n)) Q)
      -∗ wp frame (wpE defs₀ Variants.none (c : Thread nD τ) none) Set.univ
        (.op (.load (Memref.whole cc0_stg3_0) (Rect.unit (s := S8x7168) off S8x128.size h).toLoadRect hl) k) Q) := by
  subst e
  have hv : (Memref.whole cc0_stg3_0 : Memref sig .tc .vmem S8x7168 .f32).view.readAt (Elt F) (Rect.unit (s := S8x7168) ![0, n] S8x128.size h).toLoadRect w = chunk2 w n := funext fun x => by
    show w ((Rect.unit (s := S8x7168) ![0, n] S8x128.size h).emb x) = w _
    congr 1
    have hn : n + 128 ≤ 7168 := h 1
    have h2 : (x 1).val < 128 := (x 1).isLt
    funext a
    apply Fin.ext
    match a with
    | ⟨0, _⟩ => show 0 + 1 * (x 0).val = (x 0).val; omega
    | ⟨1, _⟩ => show n + 1 * (x 1).val = (n + (x 1).val) % 7168; rw [Nat.mod_eq_of_lt (by omega)]; omega
  rw [← hv]
  unfold wPt
  exact wp_load Variants.none (c : Thread nD τ) none Set.univ (m := Memref.whole cc0_stg3_0) (S := Finset.univ) (Finset.subset_univ _)

/-- A conditional, by its two branches. -/
theorem wp_cases (c : Dev nD) {α : Type} {P : sProp 𝕄} {Q : α → sProp 𝕄} {q : Prop} [Decidable q] {A : q → Prog (TpuEff nD τ sig (Elt F) Λ₀ .tc) α} {B : ¬ q → Prog (TpuEff nD τ sig (Elt F) Λ₀ .tc) α}
    (hA : ∀ h, P ⊢ wp frame (wpE defs₀ Variants.none (c : Thread nD τ) none) Set.univ (A h) Q)
    (hB : ∀ h, P ⊢ wp frame (wpE defs₀ Variants.none (c : Thread nD τ) none) Set.univ (B h) Q) :
    P ⊢ wp frame (wpE defs₀ Variants.none (c : Thread nD τ) none) Set.univ (dite q A B) Q := by
  by_cases h : q
  · rw [dif_pos h]; exact hA h
  · rw [dif_neg h]; exact hB h
/-- The second conditional asks whether the group 63 ahead exists. -/
theorem cond2_iff (t : Fin k0_t2_loop.trips) : k0_cond2 t = 1#1 ↔ t.val + 63 < 512 := by
  revert t; decide +kernel
/-- A part's end hands its value on. -/
theorem wp_done (c : Dev nD) {α : Type} (x : α) {Q : α → sProp 𝕄} :
    Q x ⊢ wp frame (wpE defs₀ Variants.none (c : Thread nD τ) none) Set.univ ((Prog.ret PUnit.unit).bind fun _ => Pure.pure x : Prog (TpuEff nD τ sig (Elt F) Λ₀ .tc) α) Q := by
  show Q x ⊢ wp frame (wpE defs₀ Variants.none (c : Thread nD τ) none) Set.univ (Pure.pure x : Prog (TpuEff nD τ sig (Elt F) Λ₀ .tc) α) Q
  rw [wp_pure]; exact fupd_intro

set_option maxHeartbeats 4000000 in
/-- One group: its words are awaited, its rows dequantised and normalised, its two results sent, and the group 63 ahead asked for. -/
theorem trip (c : Dev nD) (tab : Tab) (ids : Ids) (hid : ∀ i, (ids i).toNat < 32000) (scale zero : S32000.Idx → Elt F .f32) (w : S8x7168.Idx → Elt F .f32)
    (OUT EMB : Blks F) (t : Fin k0_t2_loop.trips) (hE : EMB (bl t.val) = embG tab ids scale zero t.val) (hO : OUT (bl t.val) = outG tab ids scale zero w t.val) (sc zr : S8x128.Idx → Elt F .f32) (sh : S8x128.Idx → BitVec 32) (W : Waits sig Unit) (a : PUnit) (Q : PUnit → sProp 𝕄) :
    iprop(idsPt (F := F) c ids ∗ scalePt (F := F) c scale ∗ zeroPt (F := F) c zero ∗ wPt (F := F) c w ∗ scPt (F := F) c sc ∗ zrPt (F := F) c zr ∗ shPt (F := F) c sh
      ∗ inRing (F := F) c tab ids t.val (min (t.val + 63) 512) (t.val + 64)
      ∗ oRing (F := F) cc0_scratch7 (Memref.whole cc0_scratch4) (Memref.whole main_v8_0) c OUT (t.val - 8) t.val
      ∗ oRing (F := F) cc0_scratch8 (Memref.whole cc0_scratch5) (Memref.whole main_v8_1) c EMB (t.val - 8) t.val
      ∗ owes (c : Thread nD τ) 0 W
      ∗ (iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
        ∗ inRing (F := F) c tab ids (t.val + 1) (min (t.val + 1 + 63) 512) (t.val + 1 + 64)
        ∗ oRing (F := F) cc0_scratch7 (Memref.whole cc0_scratch4) (Memref.whole main_v8_0) c OUT (t.val + 1 - 8) (t.val + 1)
        ∗ oRing (F := F) cc0_scratch8 (Memref.whole cc0_scratch5) (Memref.whole main_v8_1) c EMB (t.val + 1 - 8) (t.val + 1)
        ∗ (∃ W', owes (c : Thread nD τ) 0 W')) -∗ Q ⟨⟩))
    ⊢ wp frame (wpE defs₀ Variants.none (c : Thread nD τ) none) Set.univ
      (k0_t2_body (F := F) (Memref.whole cc0_stg0_0) (Memref.isWhole_whole _) (Memref.whole cc0_stg1_0) (Memref.isWhole_whole _) (Memref.whole main_v6) (Memref.isWhole_whole _)
        (Memref.whole cc0_stg2_0) (Memref.isWhole_whole _) (Memref.whole cc0_stg3_0) (Memref.isWhole_whole _)
        (Memref.whole main_v8_0) (Memref.isWhole_whole _) (Memref.whole main_v8_1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 cc0_scratch7 cc0_scratch8 t a) Q := by
  have ht : t.val < 512 := t.isLt
  iintro ⟨Hids, Hs, Hz, Hw, H8, H9, H10, HI, HO1, HO2, HW, HQ⟩
  ihave HI := (in_take (F := F) c tab ids (lo := t.val) (hi := min (t.val + 63) 512) (top := t.val + 64) (by omega)) $$ HI
  icases HI with ⟨HS, HI⟩
  unfold idsPt
  sl_unfold [k0_t2_body]
  sl_exec (disch := exact chkId _ (hid _))
  iapply (wait_group (F := F) c tab ids t.val _ (k0_off33_eq t) rfl _ _) $$ [HS HW]
  · isplitl [HS]; · iexact HS
    iexact HW
  iintro ⟨H7, Hv7, Htok, ⟨%W1, HW⟩⟩
  sl_exec (disch := exact chkId _ (hid _))
  iapply (wp_join (F := F) c
    (P := iprop(oRing (F := F) cc0_scratch7 (Memref.whole cc0_scratch4) (Memref.whole main_v8_0) c OUT (t.val - 8) t.val
      ∗ oRing (F := F) cc0_scratch8 (Memref.whole cc0_scratch5) (Memref.whole main_v8_1) c EMB (t.val - 8) t.val ∗ (∃ W, owes (c : Thread nD τ) 0 W)))
    (R := iprop(oRing (F := F) cc0_scratch7 (Memref.whole cc0_scratch4) (Memref.whole main_v8_0) c OUT (t.val + 1 - 8) t.val
      ∗ oRing (F := F) cc0_scratch8 (Memref.whole cc0_scratch5) (Memref.whole main_v8_1) c EMB (t.val + 1 - 8) t.val ∗ (∃ W, owes (c : Thread nD τ) 0 W))) ?A ?B) $$ [HO1 HO2 HW]
  case A =>
    intro h
    have h8 : 8 ≤ t.val := (cond1_iff t).mp h
    have hb : (bl (t.val - 8)).val = t.val - 8 := Nat.mod_eq_of_lt (by omega)
    have ec : k0_off35 t = ![(sl8 (bl (t.val - 8)).val).val] := by rw [hb]; exact off35_eq t h
    have es : t.val - 8 + 1 = t.val + 1 - 8 := by omega
    iintro ⟨HO1, HO2, ⟨%W, HW⟩⟩ HJ
    sl_exec
    ihave HO1 := (o_wait (F := F) cc0_scratch7 (Memref.whole cc0_scratch4) (Memref.whole main_v8_0) c OUT (lo := t.val - 8) (hi := t.val) (by omega) (by omega) (by omega)) $$ HO1
    icases HO1 with ⟨HF, HO1⟩
    iapply (out_wait (F := F) cc0_scratch7 (Memref.whole cc0_scratch4) (Memref.whole main_v8_0) c OUT (bl (t.val - 8)) _ ec rfl _ _) $$ [HF HW]
    · isplitl [HF]; · iexact HF
      iexact HW
    iintro ⟨HB, HS, ⟨%W2, HW⟩⟩
    sl_exec
    ihave HO2 := (o_wait (F := F) cc0_scratch8 (Memref.whole cc0_scratch5) (Memref.whole main_v8_1) c EMB (lo := t.val - 8) (hi := t.val) (by omega) (by omega) (by omega)) $$ HO2
    icases HO2 with ⟨HF, HO2⟩
    iapply (out_wait (F := F) cc0_scratch8 (Memref.whole cc0_scratch5) (Memref.whole main_v8_1) c EMB (bl (t.val - 8)) _ ec rfl _ _) $$ [HF HW]
    · isplitl [HF]; · iexact HF
      iexact HW
    iintro ⟨HB2, HS2, ⟨%W3, HW⟩⟩
    iapply HJ
    rw [← es]
    isplitl [HO1 HB HS]
    · iapply HO1
      isplitl [HB]; · iexact HB
      iexact HS
    isplitl [HO2 HB2 HS2]
    · iapply HO2
      isplitl [HB2]; · iexact HB2
      iexact HS2
    iexists _; iexact HW
  case B =>
    intro h
    have h8 : ¬ 8 ≤ t.val := fun h' => h ((cond1_iff t).mpr h')
    rw [show t.val + 1 - 8 = t.val - 8 by omega]
  · isplitl [HO1]; · iexact HO1
    isplitl [HO2]; · iexact HO2
    iexists _; iexact HW
  iintro ⟨HO1, HO2, ⟨%W2, HW⟩⟩
  sl_exec (disch := exact chkId _ (hid _))
  have e301 : trip.sl.v301 (F := F) ids t = shV ids t.val := by
    unfold trip.sl.v301; sl_unfold_run_names
    refine rows_read8 (F := F) (e := .i32) _ (fun r : Fin 8 => Scalar.muli (Scalar.subi 3#32 (Scalar.andi (idAt ids (8 * t.val + r.val)) 3#32)) 8#32) ?_ ?_ ?_ ?_ ?_ ?_ ?_ ?_ _
    all_goals exact funext fun _ => congrArg (fun v => Scalar.muli (Scalar.subi 3#32 (Scalar.andi v 3#32)) 8#32) (rd_ids (F := F) ids _ rfl _)
  have e304 : trip.sl.v304 (F := F) ids hid scale t = scV ids scale t.val := by
    unfold trip.sl.v304 trip.sl.v303; sl_unfold_run_names
    refine congrArg (fun v => extf .f32 (truncf .bf16 v bitsLt_bf16_f32) bitsLt_bf16_f32) ?_
    refine rows_read8 (F := F) (e := .f32) _ (fun r : Fin 8 => scale (ix1 ⟨(idAt ids (8 * t.val + r.val)).toNat % 32000, Nat.mod_lt _ (by decide)⟩)) ?_ ?_ ?_ ?_ ?_ ?_ ?_ ?_ _
    all_goals exact funext fun _ => rd_look1 (F := F) scale _ rfl (rd_ids (F := F) ids _ rfl _) _
  have e305 : trip.sl.v305 (F := F) ids hid zero t = lookV ids zero t.val := by
    unfold trip.sl.v305; sl_unfold_run_names
    refine rows_read8 (F := F) (e := .f32) _ (fun r : Fin 8 => zero (ix1 ⟨(idAt ids (8 * t.val + r.val)).toNat % 32000, Nat.mod_lt _ (by decide)⟩)) ?_ ?_ ?_ ?_ ?_ ?_ ?_ ?_ _
    all_goals exact funext fun _ => rd_look2 (F := F) zero _ rfl (rd_ids (F := F) ids _ rfl _) _
  rw [e301, e304, e305]
  ihave HO2 := (o_take (F := F) cc0_scratch8 (Memref.whole cc0_scratch5) (Memref.whole main_v8_1) c EMB (lo := t.val + 1 - 8) (g := t.val) (by omega) (by omega) ht) $$ HO2
  icases HO2 with ⟨Hv2, HD2, HB2, HO2⟩
  rw [hE]
  iterate 56 (
    iapply (ld7 (F := F) c tab ids t.val ?co ?ce _ _) $$ H7
    case co => infer_instance
    case ce => exact rfl
    iintro H7
    try sl_exec
    iapply (ldD (F := F) (Memref.whole cc0_scratch5) c (sl8 t.val) _ _ ?co ?ce _ _) $$ HD2
    case co => infer_instance
    case ce => exact rfl
    iintro %v HD2
    try sl_exec
    iapply (stE (F := F) (Memref.whole cc0_scratch5) c (sl8 t.val) tab ids scale zero t.val _ ?co ?ce ?hn _ _ ?hw _ _) $$ HD2
    case co => infer_instance
    case ce => exact rfl
    case hn => decide
    case hw => exact rfl
    iintro HD2
    try sl_exec)
  have ers : k0_pay171 (trip.sl.v1241 (F := F) tab ids scale zero t) (trip.sl.v1251 (F := F) tab ids scale zero t) = rsV (accG tab ids scale zero t.val 56) := rfl
  ihave HO1 := (o_take (F := F) cc0_scratch7 (Memref.whole cc0_scratch4) (Memref.whole main_v8_0) c OUT (lo := t.val + 1 - 8) (g := t.val) (by omega) (by omega) ht) $$ HO1
  icases HO1 with ⟨Hv1, HD1, HB1, HO1⟩
  ihave HD2 := (upTo_full (F := F) (Memref.whole cc0_scratch5) c (sl8 t.val) (embG tab ids scale zero t.val)) $$ HD2
  have hO' : OUT (bl t.val) = outV (k0_pay171 (trip.sl.v1241 (F := F) tab ids scale zero t) (trip.sl.v1251 (F := F) tab ids scale zero t)) (embG tab ids scale zero t.val) w := hO.trans (by unfold outG; rw [ers])
  rw [hO']
  iterate 2 (
    iapply (ldO (F := F) (Memref.whole cc0_scratch5) c (sl8 t.val) _ ?co ?ce _ _) $$ HD2
    case co => infer_instance
    case ce => exact rfl
    iintro HD2
    try sl_exec
    iapply (ld4 (F := F) c w _ ?ce _ _) $$ Hw
    case ce => exact rfl
    iintro Hw
    try sl_exec
    iapply (ldD (F := F) (Memref.whole cc0_scratch4) c (sl8 t.val) _ _ ?co ?ce _ _) $$ HD1
    case co => infer_instance
    case ce => exact rfl
    iintro %v HD1
    try sl_exec
    iapply (stN (F := F) (Memref.whole cc0_scratch4) c (sl8 t.val) _ _ w _ ?co ?ce ?hn _ _ ?hw _ _) $$ HD1
    case co => infer_instance
    case ce => exact rfl
    case hn => decide
    case hw => exact rfl
    iintro HD1
    try sl_exec)
  iapply (wp_done (F := F) c)
  try sl_exec
  iterate 54 (
    iapply (ldO (F := F) (Memref.whole cc0_scratch5) c (sl8 t.val) _ ?co ?ce _ _) $$ HD2
    case co => infer_instance
    case ce => exact rfl
    iintro HD2
    try sl_exec
    iapply (ld4 (F := F) c w _ ?ce _ _) $$ Hw
    case ce => exact rfl
    iintro Hw
    try sl_exec
    iapply (ldD (F := F) (Memref.whole cc0_scratch4) c (sl8 t.val) _ _ ?co ?ce _ _) $$ HD1
    case co => infer_instance
    case ce => exact rfl
    iintro %v HD1
    try sl_exec
    iapply (stN (F := F) (Memref.whole cc0_scratch4) c (sl8 t.val) _ _ w _ ?co ?ce ?hn _ _ ?hw _ _) $$ HD1
    case co => infer_instance
    case ce => exact rfl
    case hn => decide
    case hw => exact rfl
    iintro HD1
    try sl_exec)
  ihave HD1 := (upTo_full (F := F) (Memref.whole cc0_scratch4) c (sl8 t.val) (outV (k0_pay171 (trip.sl.v1241 (F := F) tab ids scale zero t) (trip.sl.v1251 (F := F) tab ids scale zero t)) (embG tab ids scale zero t.val) w)) $$ HD1
  rw [← hO', ← hE]
  iapply (o_start (F := F) cc0_scratch7 (Memref.whole cc0_scratch4) (Memref.whole main_v8_0) c OUT ?hl _ _ _ (k0_off166_eq t) (k0_off168_eq t) (k0_off167_eq t) _ _ _) $$ [Hv1 HD1 HB1]
  case hl => exact ht
  · isplitl [Hv1]; · iexact Hv1
    isplitl [HD1]; · iexact HD1
    iexact HB1
  iintro HF
  ihave HO1 := HO1 $$ HF
  try sl_exec
  iapply (o_start (F := F) cc0_scratch8 (Memref.whole cc0_scratch5) (Memref.whole main_v8_1) c EMB ?hl _ _ _ (k0_off166_eq t) (k0_off168_eq t) (k0_off167_eq t) _ _ _) $$ [Hv2 HD2 HB2]
  case hl => exact ht
  · isplitl [Hv2]; · iexact Hv2
    isplitl [HD2]; · iexact HD2
    iexact HB2
  iintro HF
  ihave HO2 := HO2 $$ HF
  ihave HI := (in_put (F := F) c tab ids (lo := t.val + 1) (hi := min (t.val + 63) 512) (top := t.val + 64) (s := sl64 t.val) (by omega) (Fin.ext (show (t.val + 64) % 64 = t.val % 64 by omega))) $$ [HI H7 Hv7 Htok]
  · isplitl [HI]; · iexact HI
    unfold FreeIn
    isplitl [Hv7]; · iexact Hv7
    isplitl [H7]; · iexists _; iexact H7
    iexact Htok
  try sl_exec
  iapply (wp_cases (F := F) c (P := iprop(idsPt (F := F) c ids ∗ inRing (F := F) c tab ids (t.val + 1) (min (t.val + 63) 512) (t.val + 64 + 1)
    ∗ (iprop(idsPt (F := F) c ids ∗ inRing (F := F) c tab ids (t.val + 1) (min (t.val + 1 + 63) 512) (t.val + 1 + 64)) -∗ Q ⟨⟩))) ?A ?B) $$ [Hids HI Hs Hz Hw H8 H9 H10 HO1 HO2 HW HQ]
  case A =>
    intro h
    have h63 : t.val + 63 < 512 := (cond2_iff t).mp h
    rw [Nat.min_eq_left (show t.val + 63 ≤ 512 by omega), Nat.min_eq_left (show t.val + 1 + 63 ≤ 512 by omega)]
    iintro ⟨Hids, HI, HQ⟩
    ihave HI := (in_issue (F := F) c tab ids (lo := t.val + 1) (hi := t.val + 63) (top := t.val + 64 + 1) (by omega) (by omega)) $$ HI
    icases HI with ⟨HF, HI⟩
    imod (start_open (F := F) c tab ids (t.val + 63)) $$ HF with HF
    unfold idsPt
    sl_exec (disch := exact fun _ => chkRow _ (hid _))
    iapply (start_at (F := F) c tab ids (t.val + 63) ((t.val + 63) % 64) 0 (by decide) rfl _ _ _ _ _ _ (k0_off170_eq t) (k0_off171_eq t) ?es) $$ HF
    case es => exact src_ids ids hid (t.val + 63) 0 _ (by decide) (show 8 * t.val + 504 = 8 * (t.val + 63) + 0 by omega) (by unfold trip.sl.r_29; exact rd_ids (F := F) ids _ rfl _)
    iintro HF
    try sl_exec (disch := exact fun _ => chkRow _ (hid _))
    iapply (start_at (F := F) c tab ids (t.val + 63) ((t.val + 63) % 64) 1 (by decide) rfl _ _ _ _ _ _ (k0_off174_eq t) (k0_off175_eq t) ?es) $$ HF
    case es => exact src_ids ids hid (t.val + 63) 1 _ (by decide) (show 8 * t.val + 505 = 8 * (t.val + 63) + 1 by omega) (by unfold trip.sl.r_30; exact rd_ids (F := F) ids _ rfl _)
    iintro HF
    try sl_exec (disch := exact fun _ => chkRow _ (hid _))
    iapply (start_at (F := F) c tab ids (t.val + 63) ((t.val + 63) % 64) 2 (by decide) rfl _ _ _ _ _ _ (k0_off178_eq t) (k0_off179_eq t) ?es) $$ HF
    case es => exact src_ids ids hid (t.val + 63) 2 _ (by decide) (show 8 * t.val + 506 = 8 * (t.val + 63) + 2 by omega) (by unfold trip.sl.r_31; exact rd_ids (F := F) ids _ rfl _)
    iintro HF
    try sl_exec (disch := exact fun _ => chkRow _ (hid _))
    iapply (start_at (F := F) c tab ids (t.val + 63) ((t.val + 63) % 64) 3 (by decide) rfl _ _ _ _ _ _ (k0_off182_eq t) (k0_off183_eq t) ?es) $$ HF
    case es => exact src_ids ids hid (t.val + 63) 3 _ (by decide) (show 8 * t.val + 507 = 8 * (t.val + 63) + 3 by omega) (by unfold trip.sl.r_32; exact rd_ids (F := F) ids _ rfl _)
    iintro HF
    try sl_exec (disch := exact fun _ => chkRow _ (hid _))
    iapply (start_at (F := F) c tab ids (t.val + 63) ((t.val + 63) % 64) 4 (by decide) rfl _ _ _ _ _ _ (k0_off186_eq t) (k0_off187_eq t) ?es) $$ HF
    case es => exact src_ids ids hid (t.val + 63) 4 _ (by decide) (show 8 * t.val + 508 = 8 * (t.val + 63) + 4 by omega) (by unfold trip.sl.r_33; exact rd_ids (F := F) ids _ rfl _)
    iintro HF
    try sl_exec (disch := exact fun _ => chkRow _ (hid _))
    iapply (start_at (F := F) c tab ids (t.val + 63) ((t.val + 63) % 64) 5 (by decide) rfl _ _ _ _ _ _ (k0_off190_eq t) (k0_off191_eq t) ?es) $$ HF
    case es => exact src_ids ids hid (t.val + 63) 5 _ (by decide) (show 8 * t.val + 509 = 8 * (t.val + 63) + 5 by omega) (by unfold trip.sl.r_34; exact rd_ids (F := F) ids _ rfl _)
    iintro HF
    try sl_exec (disch := exact fun _ => chkRow _ (hid _))
    iapply (start_at (F := F) c tab ids (t.val + 63) ((t.val + 63) % 64) 6 (by decide) rfl _ _ _ _ _ _ (k0_off194_eq t) (k0_off195_eq t) ?es) $$ HF
    case es => exact src_ids ids hid (t.val + 63) 6 _ (by decide) (show 8 * t.val + 510 = 8 * (t.val + 63) + 6 by omega) (by unfold trip.sl.r_35; exact rd_ids (F := F) ids _ rfl _)
    iintro HF
    try sl_exec (disch := exact fun _ => chkRow _ (hid _))
    iapply (start_at (F := F) c tab ids (t.val + 63) ((t.val + 63) % 64) 7 (by decide) rfl _ _ _ _ _ _ (k0_off198_eq t) (k0_off199_eq t) ?es) $$ HF
    case es => exact src_ids ids hid (t.val + 63) 7 _ (by decide) (show 8 * t.val + 511 = 8 * (t.val + 63) + 7 by omega) (by unfold trip.sl.r_36; exact rd_ids (F := F) ids _ rfl _)
    iintro HF
    try sl_exec (disch := exact fun _ => chkRow _ (hid _))
    rw [show t.val + 1 + 63 = t.val + 63 + 1 by omega]
    sl_step
    iapply HQ
    isplitl [Hids]; · iexact Hids
    iapply HI $$ HF
  case B =>
    intro h
    have h63 : ¬ t.val + 63 < 512 := fun h' => h ((cond2_iff t).mpr h')
    rw [Nat.min_eq_right (show 512 ≤ t.val + 63 by omega), Nat.min_eq_right (show 512 ≤ t.val + 1 + 63 by omega)]
    iintro ⟨Hids, HI, HQ⟩
    sl_step
    iapply HQ
    isplitl [Hids]; · iexact Hids
    iexact HI
  · isplitl [Hids]; · unfold idsPt; iexact Hids
    isplitl [HI]; · iexact HI
    iintro ⟨Hids, HI⟩
    unfold idsPt
    iapply HQ
    isplitl [Hids]; · iexact Hids
    isplitl [Hs]; · iexact Hs
    isplitl [Hz]; · iexact Hz
    isplitl [Hw]; · iexact Hw
    isplitl [H8]; · iexists _; iexact H8
    isplitl [H9]; · iexists _; iexact H9
    isplitl [H10]; · iexists _; iexact H10
    isplitl [HI]; · iexact HI
    isplitl [HO1]; · iexact HO1
    isplitl [HO2]; · iexact HO2
    iexists _; iexact HW
end Cert.KernelIdeal.Hand
-- ==== Proof.Body.lean ====
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

section
variable (A : DmaSems sig S8) (M : Memref sig .tc .vmem S8x8x7168 .bf16) (H : Memref sig .tc .hbm S512x8x7168 .bf16)
/-- The wait for the oldest result still in flight. -/
theorem o_drain (c : Dev nD) (X : Blks F) (lo : ℕ) (hlo : lo < 512) (h8 : 512 ≤ lo + 8)
    {offc : Fin 1 → ℕ} (hc : ∀ a, offc a + S1.size a ≤ S8.size a) (ec : offc = ![lo % 8])
    {srcw : Memref sig .tc .vmem S8x7168 .bf16} {dstw : Memref sig .tc .hbm S8x7168 .bf16} (hw : dstw.view.dmaCredit = 3584)
    (h1 h2) {α : Type} {k : PUnit → Prog (TpuEff nD τ sig (Elt F) Λ₀ .tc) α} {Q : α → sProp 𝕄} :
    iprop(oRing (F := F) A M H c X lo 512 ∗ (∃ W, owes (c : Thread nD τ) 0 W))
    ⊢ iprop((iprop(oRing (F := F) A M H c X (lo + 1) 512 ∗ (∃ W', owes (c : Thread nD τ) 0 W')) -∗ wp frame (wpE defs₀ Variants.none (c : Thread nD τ) none) Set.univ (k ⟨⟩) Q)
      -∗ wp frame (wpE defs₀ Variants.none (c : Thread nD τ) none) Set.univ
        (.op (.waitDma2 ((A.slice (Rect.unit (s := S8) offc S1.size hc)).squeeze S_ squeezes_S1_S_).sem srcw dstw h1 h2) k) Q) := by
  have hb : (bl lo).val = lo := Nat.mod_eq_of_lt hlo
  iintro ⟨HO, ⟨%W, HW⟩⟩ HJ
  ihave HO := (o_wait (F := F) A M H c X (lo := lo) (hi := 512) hlo h8 hlo) $$ HO
  icases HO with ⟨HF, HO⟩
  iapply (out_wait (F := F) A M H c X (bl lo) hc (by rw [hb]; exact ec) hw h1 h2) $$ [HF HW]
  · isplitl [HF]; · iexact HF
    iexact HW
  iintro ⟨HB, HS, ⟨%W3, HW⟩⟩
  iapply HJ
  isplitl [HO HB HS]
  · iapply HO
    isplitl [HB]; · iexact HB
    iexact HS
  iexists _; iexact HW
end

/-- What holds before step `k` of the first loop: the groups before it are asked for. -/
def inv1 (c : Dev nD) (tab : Tab) (ids : Ids) (k : ℕ) (_ : PUnit.{1}) : sProp 𝕄 :=
  iprop(idsPt (F := F) c ids ∗ inRing (F := F) c tab ids 0 k 64)

/-- What holds before group `k` of the second loop. -/
def inv2 (c : Dev nD) (tab : Tab) (ids : Ids) (scale zero : S32000.Idx → Elt F .f32) (w : S8x7168.Idx → Elt F .f32) (OUT EMB : Blks F) (k : ℕ) (_ : PUnit.{1}) : sProp 𝕄 :=
  iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
    ∗ inRing (F := F) c tab ids k (min (k + 63) 512) (k + 64)
    ∗ oRing (F := F) cc0_scratch7 (Memref.whole cc0_scratch4) (Memref.whole main_v8_0) c OUT (k - 8) k
    ∗ oRing (F := F) cc0_scratch8 (Memref.whole cc0_scratch5) (Memref.whole main_v8_1) c EMB (k - 8) k
    ∗ (∃ W', owes (c : Thread nD τ) 0 W'))

/-- The whole kernel, from its tables, rings and blocks to every block of both results written. -/
theorem kernel (c : Dev nD) (tab : Tab) (ids : Ids) (hid : ∀ i, (ids i).toNat < 32000) (scale zero : S32000.Idx → Elt F .f32) (w : S8x7168.Idx → Elt F .f32)
    (OUT EMB : Blks F) (hE : ∀ t, t < 512 → EMB (bl t) = embG tab ids scale zero t) (hO : ∀ t, t < 512 → OUT (bl t) = outG tab ids scale zero w t) (W : Waits sig Unit) (Q : PUnit → sProp 𝕄) :
    iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
      ∗ inRing (F := F) c tab ids 0 0 64
      ∗ oRing (F := F) cc0_scratch7 (Memref.whole cc0_scratch4) (Memref.whole main_v8_0) c OUT 0 0
      ∗ oRing (F := F) cc0_scratch8 (Memref.whole cc0_scratch5) (Memref.whole main_v8_1) c EMB 0 0
      ∗ owes (c : Thread nD τ) 0 W
      ∗ (iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
        ∗ inRing (F := F) c tab ids 512 512 576
        ∗ oRing (F := F) cc0_scratch7 (Memref.whole cc0_scratch4) (Memref.whole main_v8_0) c OUT 512 512
        ∗ oRing (F := F) cc0_scratch8 (Memref.whole cc0_scratch5) (Memref.whole main_v8_1) c EMB 512 512
        ∗ (∃ W', owes (c : Thread nD τ) 0 W')) -∗ Q ⟨⟩))
    ⊢ wp frame (wpE defs₀ Variants.none (c : Thread nD τ) none) Set.univ
      (cc0_emb_rmsnorm (F := F) (Memref.whole cc0_stg0_0) (Memref.isWhole_whole _) (Memref.whole cc0_stg1_0) (Memref.isWhole_whole _) (Memref.whole main_v6) (Memref.isWhole_whole _)
        (Memref.whole cc0_stg2_0) (Memref.isWhole_whole _) (Memref.whole cc0_stg3_0) (Memref.isWhole_whole _)
        (Memref.whole main_v8_0) (Memref.isWhole_whole _) (Memref.whole main_v8_1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 cc0_scratch7 cc0_scratch8) Q := by
  iintro ⟨Hids, Hs, Hz, Hw, H8, H9, H10, HI, HO1, HO2, HW, HQ⟩
  simp only [cc0_emb_rmsnorm_eq_skeleton]; unfold cc0_emb_rmsnorm_skel
  try sl_exec
  sl_for (inv1 (F := F) c tab ids) $$ [Hids HI]
  case region =>
    intro k a
    unfold inv1
    iintro ⟨Hids, HI⟩
    have hk : k.val < 63 := k.isLt
    ihave HI := (in_issue (F := F) c tab ids (lo := 0) (hi := k.val) (top := 64) (by omega) (by omega)) $$ HI
    icases HI with ⟨HF, HI⟩
    iapply (t1_trip (F := F) c tab ids hid k) $$ [Hids HF HI]
    isplitl [Hids]; · iexact Hids
    isplitl [HF]; · iexact HF
    iintro ⟨Hids, HS⟩
    isplitl [Hids]; · iexact Hids
    iapply HI $$ HS
  · unfold inv1
    isplitl [Hids]; · iexact Hids
    iexact HI
  iintro %_ H
  unfold inv1
  icases H with ⟨Hids, HI⟩
  try sl_exec
  sl_for (inv2 (F := F) c tab ids scale zero w OUT EMB) $$ [Hids Hs Hz Hw H8 H9 H10 HI HO1 HO2 HW]
  case region =>
    intro k a
    unfold inv2
    iintro ⟨Hids, Hs, Hz, Hw, ⟨%sc, H8⟩, ⟨%zr, H9⟩, ⟨%sh, H10⟩, HI, HO1, HO2, ⟨%W, HW⟩⟩
    have hk : k.val < 512 := k.isLt
    iapply (trip (F := F) c tab ids hid scale zero w OUT EMB k (hE k.val hk) (hO k.val hk) sc zr sh W a) $$ [Hids Hs Hz Hw H8 H9 H10 HI HO1 HO2 HW]
    isplitl [Hids]; · iexact Hids
    isplitl [Hs]; · iexact Hs
    isplitl [Hz]; · iexact Hz
    isplitl [Hw]; · iexact Hw
    isplitl [H8]; · iexact H8
    isplitl [H9]; · iexact H9
    isplitl [H10]; · iexact H10
    isplitl [HI]; · iexact HI
    isplitl [HO1]; · iexact HO1
    isplitl [HO2]; · iexact HO2
    isplitl [HW]; · iexact HW
    iintro H; iexact H
  · unfold inv2
    isplitl [Hids]; · iexact Hids
    isplitl [Hs]; · iexact Hs
    isplitl [Hz]; · iexact Hz
    isplitl [Hw]; · iexact Hw
    isplitl [H8]; · iexact H8
    isplitl [H9]; · iexact H9
    isplitl [H10]; · iexact H10
    isplitl [HI]; · iexact HI
    isplitl [HO1]; · iexact HO1
    isplitl [HO2]; · iexact HO2
    iexists _; iexact HW
  iintro %_ H
  have e2 : inv2 (F := F) c tab ids scale zero w OUT EMB k0_t2_loop.trips ⟨⟩ = inv2 (F := F) c tab ids scale zero w OUT EMB 512 ⟨⟩ := rfl
  unfold inv2
  icases H with ⟨Hids, Hs, Hz, Hw, H8, H9, H10, HI, HO1, HO2, HW⟩
  ihave HO1 := (show oRing (F := F) cc0_scratch7 (Memref.whole cc0_scratch4) (Memref.whole main_v8_0) c OUT (k0_t2_loop.trips - 8) k0_t2_loop.trips
    ⊢ oRing (F := F) cc0_scratch7 (Memref.whole cc0_scratch4) (Memref.whole main_v8_0) c OUT 504 512 from .rfl) $$ HO1
  ihave HO2 := (show oRing (F := F) cc0_scratch8 (Memref.whole cc0_scratch5) (Memref.whole main_v8_1) c EMB (k0_t2_loop.trips - 8) k0_t2_loop.trips
    ⊢ oRing (F := F) cc0_scratch8 (Memref.whole cc0_scratch5) (Memref.whole main_v8_1) c EMB 504 512 from .rfl) $$ HO2
  ihave HI := (show inRing (F := F) c tab ids k0_t2_loop.trips (min (k0_t2_loop.trips + 63) 512) (k0_t2_loop.trips + 64) ⊢ inRing (F := F) c tab ids 512 512 576 from .rfl) $$ HI
  try sl_exec
  iapply (o_drain (F := F) cc0_scratch7 (Memref.whole cc0_scratch4) (Memref.whole main_v8_0) c OUT 504 (by decide) (by decide) _ (k0_off201_eq 0) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 504 (by decide) (by decide) _ (k0_off201_eq 0) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 505 (by decide) (by decide) _ (k0_off201_eq 1) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 505 (by decide) (by decide) _ (k0_off201_eq 1) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 506 (by decide) (by decide) _ (k0_off201_eq 2) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 506 (by decide) (by decide) _ (k0_off201_eq 2) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 507 (by decide) (by decide) _ (k0_off201_eq 3) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 507 (by decide) (by decide) _ (k0_off201_eq 3) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 508 (by decide) (by decide) _ (k0_off201_eq 4) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 508 (by decide) (by decide) _ (k0_off201_eq 4) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 509 (by decide) (by decide) _ (k0_off201_eq 5) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 509 (by decide) (by decide) _ (k0_off201_eq 5) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 510 (by decide) (by decide) _ (k0_off201_eq 6) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 510 (by decide) (by decide) _ (k0_off201_eq 6) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 511 (by decide) (by decide) _ (k0_off201_eq 7) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 511 (by decide) (by decide) _ (k0_off201_eq 7) rfl _ _) $$ [HO2 HW]
  · isplitl [HO2]; · iexact HO2
    iexact HW
  iintro ⟨HO2, HW⟩
  try sl_exec
  sl_step
  iapply HQ
  isplitl [Hids]; · iexact Hids
  isplitl [Hs]; · iexact Hs
  isplitl [Hz]; · iexact Hz
  isplitl [Hw]; · iexact Hw
  isplitl [H8]; · iexact H8
  isplitl [H9]; · iexact H9
  isplitl [H10]; · iexact H10
  isplitl [HI]; · iexact HI
  isplitl [HO1]; · iexact HO1
  isplitl [HO2]; · iexact HO2
  iexact HW
end Cert.KernelIdeal.Hand
-- ==== Proof.Ends.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-! ## Reindexing -/

/-- The sets of a family indexed by the value of a map are disjoint. -/
theorem fib_disj {ι α : Type} (I : α → Finset ι) (p : ι → α) (h : ∀ a i, i ∈ I a ↔ p i = a) : ∀ a b, a ≠ b → Disjoint (I a) (I b) :=
  fun a b hab => Finset.disjoint_left.mpr fun i h1 h2 => hab (((h a i).mp h1).symm.trans ((h b i).mp h2))
/-- and together they are everything. -/
theorem fib_cover {ι α : Type} [Fintype ι] [DecidableEq ι] [Fintype α] (I : α → Finset ι) (p : ι → α) (h : ∀ a i, i ∈ I a ↔ p i = a) :
    Finset.univ.biUnion I = Finset.univ :=
  Finset.eq_univ_iff_forall.mpr fun i => Finset.mem_biUnion.mpr ⟨p i, Finset.mem_univ _, (h _ _).mpr rfl⟩

/-- A product over `n` consecutive numbers is the product over the `n` places they name. -/
theorem bigSep_Ico_fin (n k : ℕ) (Φ : Fin n → sProp 𝕄) (f : ℕ → Fin n) (hf : ∀ s : Fin n, f (k + s.val) = s) :
    bigSep (Finset.Ico k (k + n)) (fun g => Φ (f g)) = bigSep Finset.univ Φ := by
  have e : Finset.Ico k (k + n) = Finset.univ.map ⟨fun s : Fin n => k + s.val, fun a b h => Fin.ext (by simpa using h)⟩ := by
    ext x
    simp only [Finset.mem_Ico, Finset.mem_map, Finset.mem_univ, true_and, Function.Embedding.coeFn_mk]
    constructor
    · intro h; exact ⟨⟨x - k, by omega⟩, by show k + (x - k) = x; omega⟩
    · rintro ⟨s, rfl⟩; have := s.isLt; exact ⟨Nat.le_add_right _ _, Nat.add_lt_add_left this k⟩
  rw [e, Idealize.SL.BI.bigSep_map]
  exact BI.bigSep_congr fun s _ => congrArg Φ (hf s)

/-! ## The input ring -/

/-- The whole input ring's slots. -/
theorem ring_slots (c : Dev nD) : iprop(∃ f, ringPt (F := F) c Finset.univ f) ⊢ bigSep Finset.univ fun s : Fin 64 => iprop(∃ f, ringPt (F := F) c (slotSet s) f) := by
  have e : ∀ f, ringPt (F := F) c Finset.univ f ⊢ bigSep Finset.univ fun s : Fin 64 => ringPt (F := F) c (slotSet s) f := fun f => .of_eq
    (Ring.pointsTo_sub_blocks (nD := nD) (τ := τ) (sig := sig) (Ix := Unit) (Val := Elt F) (Name := ℕ) (U := Pipeline.UC sig nD τ) (Lvl := ℕ)
      (ℓ := View.loc (c : Thread nD τ) (Memref.whole cc0_scratch0 : Memref sig .tc .vmem S64x8x7168 .i32).view) (fun s : Fin 64 => slotSet s)
      (fib_disj slotSet (fun i => i 0) mem_slot7) Finset.univ (fib_cover slotSet (fun i => i 0) mem_slot7) (q := fullShare) f)
  have h : ∀ f, (bigSep Finset.univ fun s : Fin 64 => ringPt (F := F) c (slotSet s) f) ⊢ bigSep Finset.univ fun s : Fin 64 => iprop(∃ f, ringPt (F := F) c (slotSet s) f) := fun f =>
    BI.bigSep_mono fun s _ => show ringPt (F := F) c (slotSet s) f ⊢ iprop(∃ f, ringPt (F := F) c (slotSet s) f) by iintro H; iexists f; iexact H
  iintro ⟨%f, H⟩
  iapply ((e f).trans (h f)) $$ H
/-- The slots, back to the whole ring. -/
theorem slots_ring (c : Dev nD) : (bigSep Finset.univ fun s : Fin 64 => iprop(∃ f, ringPt (F := F) c (slotSet s) f)) ⊢ iprop(∃ f, ringPt (F := F) c Finset.univ f) :=
  Ring.pointsTo_sub_blocks_join_exists (nD := nD) (τ := τ) (sig := sig) (Ix := Unit) (Val := Elt F) (Name := ℕ) (U := Pipeline.UC sig nD τ) (Lvl := ℕ)
    (ℓ := View.loc (c : Thread nD τ) (Memref.whole cc0_scratch0 : Memref sig .tc .vmem S64x8x7168 .i32).view) (fun s : Fin 64 => slotSet s)
    (fib_disj slotSet (fun i => i 0) mem_slot7) Finset.univ (fib_cover slotSet (fun i => i 0) mem_slot7) (q := fullShare) (fun _ => (0 : BitVec 32))

/-- The table of words, whole. -/
def tabFull (c : Dev nD) (tab : Tab) : sProp 𝕄 :=
  (View.loc (c : Thread nD τ) (Memref.whole main_v6 : Memref sig .tc .hbm S8000x7168 .i32).view) ↦{fullShare} tab
/-- What is left of it once the 512 read shares are dealt. -/
def tabDrop (c : Dev nD) (tab : Tab) : sProp 𝕄 :=
  (View.loc (c : Thread nD τ) (Memref.whole main_v6 : Memref sig .tc .hbm S8000x7168 .i32).view) ↦[Finset.univ]{Transfers.shareDrop fullShare 512} tab

/-- The 512 read shares, slot by slot and row by row. -/
theorem toks_eq (c : Dev nD) (tab : Tab) :
    (bigSep Finset.univ fun s : Fin 64 => bigSep Finset.univ (tok7 (F := F) c tab s)) = bigSep Finset.univ fun i : Fin 512 => tabPt (F := F) c Finset.univ i.val tab := by
  rw [show (fun s : Fin 64 => bigSep Finset.univ (tok7 (F := F) c tab s))
      = fun s : Fin 64 => bigSep Finset.univ (fun r : Fin 8 => (fun p : Fin 64 × Fin 8 => tabPt (F := F) c Finset.univ (8 * p.1.val + p.2.val) tab) (s, r)) from rfl,
    ← Idealize.SL.BI.bigSep_univ_prod (fun p : Fin 64 × Fin 8 => tabPt (F := F) c Finset.univ (8 * p.1.val + p.2.val) tab)]
  have e : (Finset.univ : Finset (Fin 512)) = Finset.univ.map (finProdFinEquiv (m := 64) (n := 8)).toEmbedding := (Finset.map_univ_equiv _).symm
  rw [e, Idealize.SL.BI.bigSep_map]
  exact BI.bigSep_congr fun p _ => congrArg (fun n => tabPt (F := F) c Finset.univ n tab)
    (show 8 * p.1.val + p.2.val = p.2.val + 8 * p.1.val from Nat.add_comm _ _)

theorem tab_split (c : Dev nD) (tab : Tab) :
    tabFull (F := F) c tab ⊢ iprop(tabDrop (F := F) c tab ∗ bigSep Finset.univ fun s : Fin 64 => bigSep Finset.univ (tok7 (F := F) c tab s)) := by
  rw [toks_eq]; unfold tabFull tabDrop tabPt
  exact Transfers.pointsTo_toks_split fullShare 512
theorem tab_join (c : Dev nD) (tab : Tab) :
    iprop(tabDrop (F := F) c tab ∗ bigSep Finset.univ fun s : Fin 64 => bigSep Finset.univ (tok7 (F := F) c tab s)) ⊢ tabFull (F := F) c tab := by
  rw [toks_eq]; unfold tabFull tabDrop tabPt
  exact Transfers.pointsTo_toks_join fullShare 512

/-- The input ring's semaphores at zero. -/
def inSems (c : Dev nD) : sProp 𝕄 := bigSep Finset.univ fun s : Fin 64 => semVal ((c : Thread nD τ), .dma (inSem s)) 0

/-- A ring with nothing issued is its 64 idle slots. -/
theorem inRing_idle (c : Dev nD) (tab : Tab) (ids : Ids) (k : ℕ) (hk : k % 64 = 0) :
    inRing (F := F) c tab ids k k (k + 64) = iprop(BI.emp ∗ inSems (F := F) c ∗ (bigSep Finset.univ fun s : Fin 64 => iprop(∃ f, ringPt (F := F) c (slotSet s) f))
      ∗ bigSep Finset.univ fun s : Fin 64 => bigSep Finset.univ (tok7 (F := F) c tab s)) := by
  unfold inRing inSems
  rw [Finset.Ico_self, BI.bigSep_empty, bigSep_Ico_fin 64 k (FreeIn (F := F) c tab) sl64 (fun s => Fin.ext (by
    have := s.isLt; show (k + s.val) % 64 = s.val; omega))]
  rw [show FreeIn (F := F) c tab = fun s => iprop(semVal ((c : Thread nD τ), .dma (inSem s)) 0 ∗ (∃ f, ringPt (F := F) c (slotSet s) f) ∗ bigSep Finset.univ (tok7 (F := F) c tab s)) from rfl,
    bigSep_sep', bigSep_sep']

/-- The input ring, from the buffer, its semaphores and the table. -/
theorem in_open (c : Dev nD) (tab : Tab) (ids : Ids) :
    iprop(inSems (F := F) c ∗ (∃ f, ringPt (F := F) c Finset.univ f) ∗ tabFull (F := F) c tab)
    ⊢ iprop(inRing (F := F) c tab ids 0 0 64 ∗ tabDrop (F := F) c tab) := by
  rw [show (64 : ℕ) = 0 + 64 from rfl, inRing_idle c tab ids 0 rfl]
  iintro ⟨Hs, Hr, Ht⟩
  ihave Ht := (tab_split c tab) $$ Ht
  icases Ht with ⟨Hd, Ht⟩
  ihave Hr := (ring_slots c) $$ Hr
  isplitr [Hd]
  · isplitr; · iempintro
    isplitl [Hs]; · iexact Hs
    isplitl [Hr]; · iexact Hr
    iexact Ht
  · iexact Hd
/-- and back. -/
theorem in_close (c : Dev nD) (tab : Tab) (ids : Ids) :
    iprop(inRing (F := F) c tab ids 512 512 576 ∗ tabDrop (F := F) c tab)
    ⊢ iprop(inSems (F := F) c ∗ (∃ f, ringPt (F := F) c Finset.univ f) ∗ tabFull (F := F) c tab) := by
  rw [show (576 : ℕ) = 512 + 64 from rfl, inRing_idle c tab ids 512 rfl]
  iintro ⟨⟨-, Hs, Hr, Ht⟩, Hd⟩
  isplitl [Hs]; · iexact Hs
  isplitl [Hr]; · iapply (slots_ring c) $$ Hr
  iapply (tab_join c tab) $$ [Hd Ht]
  isplitl [Hd]; · iexact Hd
  iexact Ht

/-! ## The result rings -/

variable (A : DmaSems sig S8) (M : Memref sig .tc .vmem S8x8x7168 .bf16) (H : Memref sig .tc .hbm S512x8x7168 .bf16)

theorem mem_oSet (s : Fin 8) (i : M.view.ty.Idx) : i ∈ oSet M s ↔ ∃ y : S8x8x7168.Idx, y 0 = s ∧ M.view.emb y = i := by
  constructor
  · intro h
    obtain ⟨x, -, hx⟩ := Finset.mem_map.mp h
    exact ⟨ix3 s (x 0) (x 1), rfl, (oSlot_emb M s x).symm.trans hx⟩
  · rintro ⟨y, hy, rfl⟩
    refine Finset.mem_map.mpr ⟨ix2 (y 1) (y 2), Finset.mem_univ _, (oSlot_emb M s _).trans ?_⟩
    congr 1
    funext a; apply Fin.ext
    match a with
    | ⟨0, _⟩ => exact congrArg Fin.val hy.symm
    | ⟨1, _⟩ => rfl
    | ⟨2, _⟩ => rfl
theorem oSet_disj : ∀ a b : Fin 8, a ≠ b → Disjoint (oSet M a) (oSet M b) := fun a b hab =>
  Finset.disjoint_left.mpr fun i h1 h2 => by
    obtain ⟨y, hy, e⟩ := (mem_oSet M a i).mp h1
    obtain ⟨z, hz, e'⟩ := (mem_oSet M b i).mp h2
    have : y = z := M.view.emb.injective (e.trans e'.symm)
    subst this; exact hab (hy.symm.trans hz)
theorem oSet_cover : (Finset.univ.biUnion fun s : Fin 8 => oSet M s) = M.view.set := Finset.ext fun i => by
  constructor
  · intro h
    obtain ⟨s, -, h⟩ := Finset.mem_biUnion.mp h
    obtain ⟨y, -, e⟩ := (mem_oSet M s i).mp h
    exact Finset.mem_map.mpr ⟨y, Finset.mem_univ _, e⟩
  · intro h
    obtain ⟨y, -, e⟩ := Finset.mem_map.mp h
    exact Finset.mem_biUnion.mpr ⟨(y 0 : Fin 8), Finset.mem_univ _, (mem_oSet M _ i).mpr ⟨y, rfl, e⟩⟩

/-- A result ring's buffer, whole. -/
def slotsPt (c : Dev nD) (f : M.view.ty.Contents (Elt F)) : sProp 𝕄 := M.view.loc (c : Thread nD τ) ↦[M.view.set]{fullShare} f

/-- A whole result ring at some contents is its slots at some contents each. -/
theorem oslots_open (c : Dev nD) : iprop(∃ f : M.view.ty.Contents (Elt F), slotsPt (F := F) M c f)
    ⊢ bigSep Finset.univ fun s : Fin 8 => iprop(∃ X : S8x7168.Idx → Elt F .bf16, owns (c : Thread nD τ) (oSlot M s) fullShare X) := by
  have e : ∀ f, slotsPt (F := F) M c f ⊢ (bigSep Finset.univ fun s : Fin 8 => oPt (F := F) M c s f) := fun f => .of_eq
    (Ring.pointsTo_sub_blocks (nD := nD) (τ := τ) (sig := sig) (Ix := Unit) (Val := Elt F) (Name := ℕ) (U := Pipeline.UC sig nD τ) (Lvl := ℕ)
      (ℓ := M.view.loc (c : Thread nD τ)) (fun s : Fin 8 => oSet M s) (oSet_disj M) M.view.set (oSet_cover M) (q := fullShare) f)
  have h : ∀ f, (bigSep Finset.univ fun s : Fin 8 => oPt (F := F) M c s f)
      ⊢ bigSep Finset.univ fun s : Fin 8 => iprop(∃ X : S8x7168.Idx → Elt F .bf16, owns (c : Thread nD τ) (oSlot M s) fullShare X) := fun f =>
    BI.bigSep_mono fun s _ => show oPt (F := F) M c s f ⊢ iprop(∃ X : S8x7168.Idx → Elt F .bf16, owns (c : Thread nD τ) (oSlot M s) fullShare X) by
      iintro H; iexists _; iapply (owns_close M c s _ f (fun x => rfl)) $$ H
  iintro ⟨%f, H⟩
  iapply ((e f).trans (h f)) $$ H
theorem oslots_close [Nonempty (M.view.ty.Contents (Elt F))] (c : Dev nD) :
    (bigSep Finset.univ fun s : Fin 8 => iprop(∃ X : S8x7168.Idx → Elt F .bf16, owns (c : Thread nD τ) (oSlot M s) fullShare X))
    ⊢ iprop(∃ f : M.view.ty.Contents (Elt F), slotsPt (F := F) M c f) := by
  have h : (bigSep Finset.univ fun s : Fin 8 => iprop(∃ X : S8x7168.Idx → Elt F .bf16, owns (c : Thread nD τ) (oSlot M s) fullShare X))
      ⊢ bigSep Finset.univ fun s : Fin 8 => iprop(∃ f, oPt (F := F) M c s f) :=
    BI.bigSep_mono fun s _ => show iprop(∃ X : S8x7168.Idx → Elt F .bf16, owns (c : Thread nD τ) (oSlot M s) fullShare X) ⊢ iprop(∃ f, oPt (F := F) M c s f) by
      iintro ⟨%X, H⟩
      ihave H := (owns_open M c s X) $$ H
      icases H with ⟨%f, -, H⟩
      iexists f; iexact H
  exact h.trans (Ring.pointsTo_sub_blocks_join_exists (nD := nD) (τ := τ) (sig := sig) (Ix := Unit) (Val := Elt F) (Name := ℕ) (U := Pipeline.UC sig nD τ) (Lvl := ℕ)
      (ℓ := M.view.loc (c : Thread nD τ)) (fun s : Fin 8 => oSet M s) (oSet_disj M) M.view.set (oSet_cover M) (q := fullShare) (Classical.arbitrary _))

/-! ## The results' blocks -/

theorem oBlk_emb (g : Fin 512) (x : S8x7168.Idx) : (oBlk H g).view.emb x = H.view.emb (ix3 g (x 0) (x 1)) := by
  have h1 : (oBlk H g).view.emb x = H.view.emb ((Rect.unit (s := S512x8x7168) ![g.val, 0, 0] S1x8x7168.size (inbBlk g)).emb
      (Shape.reshapeEquiv squeezes_S1x8x7168_S8x7168.numel_eq x)) := rfl
  rw [h1, Shape.reshapeEquiv_cons_one]
  congr 1
  funext a
  apply Fin.ext
  rw [Rect.emb_apply]
  match a with
  | ⟨0, _⟩ => show g.val + 1 * 0 = g.val; omega
  | ⟨1, _⟩ => show 0 + 1 * (x 0).val = (x 0).val; omega
  | ⟨2, _⟩ => show 0 + 1 * (x 1).val = (x 1).val; omega
theorem oBlk_read (g : Fin 512) (f : H.view.ty.Contents (Elt F)) (x : S8x7168.Idx) : (oBlk H g).view.read (Elt F) f x = H.view.read (Elt F) f (ix3 g (x 0) (x 1)) := by
  have h := oBlk_emb H g x
  have hc : ∀ (a b : H.view.ty.Idx) (e : a = b) (h1 : H.view.ty.elt = .bf16), cast (congrArg (Elt F) h1) (f a) = cast (congrArg (Elt F) h1) (f b) := fun a b e h1 => by subst e; rfl
  exact hc _ _ h H.view.elt_eq

/-- The elements of a block. -/
def bSet (g : Fin 512) : Finset H.view.ty.Idx := (oBlk H g).view.set
/-- A block at contents `f` of the whole result. -/
def bPt (c : Dev nD) (g : Fin 512) (f : H.view.ty.Contents (Elt F)) : sProp 𝕄 := (H.view.loc (c : Thread nD τ) ↦[bSet H g]{fullShare} f)

theorem mem_bSet (g : Fin 512) (i : H.view.ty.Idx) : i ∈ bSet H g ↔ ∃ y : S512x8x7168.Idx, y 0 = g ∧ H.view.emb y = i := by
  constructor
  · intro h
    obtain ⟨x, -, hx⟩ := Finset.mem_map.mp h
    exact ⟨ix3 g (x 0) (x 1), rfl, (oBlk_emb H g x).symm.trans hx⟩
  · rintro ⟨y, hy, rfl⟩
    refine Finset.mem_map.mpr ⟨ix2 (y 1) (y 2), Finset.mem_univ _, (oBlk_emb H g _).trans ?_⟩
    congr 1
    funext a; apply Fin.ext
    match a with
    | ⟨0, _⟩ => exact congrArg Fin.val hy.symm
    | ⟨1, _⟩ => rfl
    | ⟨2, _⟩ => rfl
theorem bSet_disj : ∀ a b : Fin 512, a ≠ b → Disjoint (bSet H a) (bSet H b) := fun a b hab =>
  Finset.disjoint_left.mpr fun i h1 h2 => by
    obtain ⟨y, hy, e⟩ := (mem_bSet H a i).mp h1
    obtain ⟨z, hz, e'⟩ := (mem_bSet H b i).mp h2
    have : y = z := H.view.emb.injective (e.trans e'.symm)
    subst this; exact hab (hy.symm.trans hz)
theorem bSet_cover : (Finset.univ.biUnion fun g : Fin 512 => bSet H g) = H.view.set := Finset.ext fun i => by
  constructor
  · intro h
    obtain ⟨s, -, h⟩ := Finset.mem_biUnion.mp h
    obtain ⟨y, -, e⟩ := (mem_bSet H s i).mp h
    exact Finset.mem_map.mpr ⟨y, Finset.mem_univ _, e⟩
  · intro h
    obtain ⟨y, -, e⟩ := Finset.mem_map.mp h
    exact Finset.mem_biUnion.mpr ⟨(y 0 : Fin 512), Finset.mem_univ _, (mem_bSet H _ i).mpr ⟨y, rfl, e⟩⟩

/-- What a whole result holds once its blocks hold `X`. -/
def asm (X : Blks F) : S512x8x7168.Idx → Elt F .bf16 := fun i => X (i 0) (ix2 (i 1) (i 2))

/-- A whole result is its blocks at some contents each. -/
theorem blks_open (c : Dev nD) (f : H.view.ty.Contents (Elt F)) : (H.view.loc (c : Thread nD τ) ↦[H.view.set]{fullShare} f)
    ⊢ (bigSep Finset.univ fun g : Fin 512 => iprop(∃ Y : S8x7168.Idx → Elt F .bf16, owns (c : Thread nD τ) (oBlk H g) fullShare Y) : sProp 𝕄) := by
  rw [Ring.pointsTo_sub_blocks (nD := nD) (τ := τ) (sig := sig) (Ix := Unit) (Val := Elt F) (Name := ℕ) (U := Pipeline.UC sig nD τ) (Lvl := ℕ)
      (ℓ := H.view.loc (c : Thread nD τ)) (fun s : Fin 512 => bSet H s) (bSet_disj H) H.view.set (bSet_cover H) (q := fullShare) f]
  exact BI.bigSep_mono fun g _ => show bPt (F := F) H c g f ⊢ iprop(∃ Y : S8x7168.Idx → Elt F .bf16, owns (c : Thread nD τ) (oBlk H g) fullShare Y) by
    iintro H; iexists _; unfold owns; iexists f
    isplitr; · ipureintro; rfl
    unfold bPt; iexact H
/-- Blocks at contents `X` are the whole result at any contents that read as theirs. -/
theorem blks_close (c : Dev nD) (X : Blks F) (f : H.view.ty.Contents (Elt F)) (hf : H.view.read (Elt F) f = asm X) :
    (bigSep Finset.univ fun g : Fin 512 => owns (c : Thread nD τ) (oBlk H g) fullShare (X g))
    ⊢ (H.view.loc (c : Thread nD τ) ↦[H.view.set]{fullShare} f : sProp 𝕄) := by
  rw [Ring.pointsTo_sub_blocks (nD := nD) (τ := τ) (sig := sig) (Ix := Unit) (Val := Elt F) (Name := ℕ) (U := Pipeline.UC sig nD τ) (Lvl := ℕ)
      (ℓ := H.view.loc (c : Thread nD τ)) (fun s : Fin 512 => bSet H s) (bSet_disj H) H.view.set (bSet_cover H) (q := fullShare) f]
  exact BI.bigSep_mono fun g _ => show owns (c : Thread nD τ) (oBlk H g) fullShare (X g) ⊢ bPt (F := F) H c g f by
    iintro H
    unfold owns
    icases H with ⟨%f', %hf', H⟩
    have e : ∀ i ∈ bSet H g, f' i = f i := by
      intro i hi
      obtain ⟨x, -, rfl⟩ := Finset.mem_map.mp hi
      have h1 := congrFun hf' x
      have h2 : (oBlk H g).view.read (Elt F) f x = X g x := (oBlk_read H g f x).trans ((congrFun hf _).trans (congrArg (X g) (funext fun a => by
        match a with
        | ⟨0, _⟩ => rfl
        | ⟨1, _⟩ => rfl)))
      have h3 := h1.trans h2.symm
      exact eq_of_heq (((cast_heq _ _).symm.trans (heq_of_eq h3)).trans (cast_heq _ _))
    have e' : bPt (F := F) H c g f' ⊢ bPt (F := F) H c g f := .of_eq (pointsTo_congr e)
    iapply e'
    unfold bPt; iexact H

/-- A result ring's semaphores at zero. -/
def oSems (c : Dev nD) : sProp 𝕄 := bigSep Finset.univ fun s : Fin 8 => semVal ((c : Thread nD τ), .dma (oSem A s)) 0

theorem oFrees (c : Dev nD) (k : ℕ) (hk : k % 8 = 0) :
    (bigSep (Finset.Ico k (k + 8)) fun g => oFree (F := F) A M c (sl8 g))
      = iprop(oSems (F := F) A c ∗ bigSep Finset.univ fun s : Fin 8 => iprop(∃ X : S8x7168.Idx → Elt F .bf16, owns (c : Thread nD τ) (oSlot M s) fullShare X)) := by
  rw [bigSep_Ico_fin 8 k (oFree (F := F) A M c) sl8 (fun s => Fin.ext (by
    have := s.isLt; show (k + s.val) % 8 = s.val; omega))]
  unfold oFree oSems
  rw [bigSep_sep']

theorem bl_id (s : Fin 512) : bl (0 + s.val) = s := Fin.ext (by have := s.isLt; show (0 + s.val) % 512 = s.val; omega)

/-- A result ring with nothing issued, from its semaphores, its buffer and the result. -/
theorem o_open (c : Dev nD) (X : Blks F) (f : H.view.ty.Contents (Elt F)) :
    iprop(oSems (F := F) A c ∗ (∃ f : M.view.ty.Contents (Elt F), slotsPt (F := F) M c f)
      ∗ (H.view.loc (c : Thread nD τ) ↦[H.view.set]{fullShare} f))
    ⊢ oRing (F := F) A M H c X 0 0 := by
  unfold oRing
  rw [Finset.Ico_self, BI.bigSep_empty, BI.bigSep_empty, oFrees A M c 0 rfl,
    bigSep_Ico_fin 512 0 (fun g => iprop(∃ Y : S8x7168.Idx → Elt F .bf16, owns (c : Thread nD τ) (oBlk H g) fullShare Y)) bl bl_id]
  iintro ⟨Hs, Hm, Hh⟩
  ihave Hm := (oslots_open M c) $$ Hm
  ihave Hh := (blks_open H c f) $$ Hh
  isplitr; · iempintro
  isplitr; · iempintro
  isplitl [Hh]; · iexact Hh
  isplitl [Hs]; · iexact Hs
  iexact Hm
/-- A result ring with every block arrived is its semaphores, its buffer and the result at its final contents. -/
theorem o_close [Nonempty (M.view.ty.Contents (Elt F))] (c : Dev nD) (X : Blks F) (f : H.view.ty.Contents (Elt F)) (hf : H.view.read (Elt F) f = asm X) :
    oRing (F := F) A M H c X 512 512
    ⊢ iprop(oSems (F := F) A c ∗ (∃ f : M.view.ty.Contents (Elt F), slotsPt (F := F) M c f)
      ∗ (H.view.loc (c : Thread nD τ) ↦[H.view.set]{fullShare} f)) := by
  unfold oRing
  rw [Finset.Ico_self, BI.bigSep_empty, BI.bigSep_empty, oFrees A M c 512 rfl,
    bigSep_Ico_fin 512 0 (fun g => owns (c : Thread nD τ) (oBlk H g) fullShare (X g)) bl bl_id]
  iintro ⟨Hh, -, -, Hs, Hm⟩
  isplitl [Hs]; · iexact Hs
  isplitl [Hm]; · iapply (oslots_close M c) $$ Hm
  iapply (blks_close H c X f hf) $$ Hh

end Cert.KernelIdeal.Hand

end
-- ==== Proof.Frame.lean ====
module

public import proofs.«01_k».proof.Proof.Ends
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

open Idealize.ShloMosaic.Pipeline (Dat Cfg Window BodyObligation)

variable (m : (ℓ : Loc nD τ sig) → Buf (Elt F) ℓ) (ρ : Dev nD → PrngReg)

/-! ## What the kernel is entered with, and what it leaves -/

/-- The token ids, the table of words, the scales, the zero points and the weight, as the kernel finds them. -/
def idsOf (c : Dev nD) : Ids := V m c main_v0
def tabOf (c : Dev nD) : Tab := V m c main_v6
def scaleOf (c : Dev nD) : S32000.Idx → Elt F .f32 := V m c main_arg2
def zeroOf (c : Dev nD) : S32000.Idx → Elt F .f32 := V m c main_v7
def wOf (c : Dev nD) : S8x7168.Idx → Elt F .f32 := V m c main_v3
/-- The embedding rows of each group, and the normalized rows. -/
def embOf (c : Dev nD) : Blks F := fun g => embG (tabOf m c) (idsOf m c) (scaleOf m c) (zeroOf m c) g.val
def outOf (c : Dev nD) : Blks F := fun g => outG (tabOf m c) (idsOf m c) (scaleOf m c) (zeroOf m c) (wOf m c) g.val

/-- The buffers the kernel copies from and to itself. -/
def R0 : Finset (Ref sig .tc) := {main_v6, main_v8_0, main_v8_1}
theorem R0_sub : R0 ⊆ Pipeline.restRefs sig spec0 := by decide

/-- What the buffers hold at the end. -/
def Yof (c : Dev nD) : (b : Ref sig .tc) → Buf (Elt F) ((c : Thread nD τ).loc b) :=
  Function.update (Function.update (V m c) main_v8_0 (asm (outOf m c))) main_v8_1 (asm (embOf m c))

/-- The kernel's own semaphores: the input slots', and the two results' slots'. -/
def osem0 : Fin 64 ⊕ (Fin 8 ⊕ Fin 8) → SemLoc sig
  | .inl s => .dma (inSem s)
  | .inr (.inl s) => .dma (oSem cc0_scratch7 s)
  | .inr (.inr s) => .dma (oSem cc0_scratch8 s)
theorem ownSemFacts0 : Pipeline.OwnSemFacts spec0 osem0 := by decide +kernel

/-- What a kernel's ends hold, part by part. -/
def Parts (c : Dev nD) (W : (b : Ref sig .tc) → Buf (Elt F) ((c : Thread nD τ).loc b)) : sProp 𝕄 :=
  iprop((tabFull (F := F) c (W main_v6) ∗ (((c : Thread nD τ).loc main_v8_0) ↦{fullShare} W main_v8_0) ∗ (((c : Thread nD τ).loc main_v8_1) ↦{fullShare} W main_v8_1))
    ∗ (inSems (F := F) c ∗ oSems (F := F) cc0_scratch7 c ∗ oSems (F := F) cc0_scratch8 c)
    ∗ ((∃ f, ringPt (F := F) c Finset.univ f) ∗ (∃ v, scPt (F := F) c v) ∗ (∃ v, zrPt (F := F) c v) ∗ (∃ v, shPt (F := F) c v)
      ∗ (∃ f, slotsPt (F := F) (Memref.whole cc0_scratch4) c f) ∗ (∃ f, slotsPt (F := F) (Memref.whole cc0_scratch5) c f))
    ∗ (∃ r, prngReg c r))

theorem routed_eq (c : Dev nD) (W : (b : Ref sig .tc) → Buf (Elt F) ((c : Thread nD τ).loc b)) :
    (Pipeline.routed R0 c W : sProp 𝕄) = iprop(tabFull (F := F) c (W main_v6) ∗ (((c : Thread nD τ).loc main_v8_0) ↦{fullShare} W main_v8_0) ∗ (((c : Thread nD τ).loc main_v8_1) ↦{fullShare} W main_v8_1)) := by
  unfold Pipeline.routed
  exact bigSep_eq_bigSepL_of_eq [main_v6, main_v8_0, main_v8_1] (by decide) (by decide) _

theorem ownSems_eq (c : Dev nD) :
    (Pipeline.ownSems0 osem0 c : sProp 𝕄) = iprop(inSems (F := F) c ∗ oSems (F := F) cc0_scratch7 c ∗ oSems (F := F) cc0_scratch8 c) := by
  unfold Pipeline.ownSems0 inSems oSems
  rw [BI.bigSep_univ_sum, BI.bigSep_univ_sum]
  rfl

theorem scoped_eq (c : Dev nD) :
    (Pipeline.scopedRest (Ix := Unit) (Name := ℕ) (U := Pipeline.UC sig nD τ) (Lvl := ℕ) (Val := Elt F) spec0 c : sProp 𝕄)
      ⊣⊢ iprop((∃ f, ringPt (F := F) c Finset.univ f) ∗ (∃ v, scPt (F := F) c v) ∗ (∃ v, zrPt (F := F) c v) ∗ (∃ v, shPt (F := F) c v)
      ∗ (∃ f, slotsPt (F := F) (Memref.whole cc0_scratch4) c f) ∗ (∃ f, slotsPt (F := F) (Memref.whole cc0_scratch5) c f)) := by
  have e4 : (Memref.whole cc0_scratch4 : Memref sig .tc .vmem S8x8x7168 .bf16).view.set = Finset.univ := View.set_whole _
  have e5 : (Memref.whole cc0_scratch5 : Memref sig .tc .vmem S8x8x7168 .bf16).view.set = Finset.univ := View.set_whole _
  rw [scopedRest0_eq]
  unfold slotsPt ringPt
  rw [e4, e5]
  exact .rfl

theorem ends_open (c : Dev nD) (W : (b : Ref sig .tc) → Buf (Elt F) ((c : Thread nD τ).loc b)) : (Pipeline.Ends spec0 osem0 R0 c W : sProp 𝕄) ⊢ Parts (F := F) c W := by
  unfold Pipeline.Ends Parts
  rw [routed_eq, ownSems_eq]
  iintro ⟨H1, H2, H3, H4⟩
  ihave H3 := (scoped_eq (F := F) c).1 $$ H3
  isplitl [H1]; · iexact H1
  isplitl [H2]; · iexact H2
  isplitl [H3]; · iexact H3
  iexact H4
theorem ends_close (c : Dev nD) (W : (b : Ref sig .tc) → Buf (Elt F) ((c : Thread nD τ).loc b)) : Parts (F := F) c W ⊢ (Pipeline.Ends spec0 osem0 R0 c W : sProp 𝕄) := by
  unfold Pipeline.Ends Parts
  rw [routed_eq, ownSems_eq]
  iintro ⟨H1, H2, H3, H4⟩
  ihave H3 := (scoped_eq (F := F) c).2 $$ H3
  isplitl [H1]; · iexact H1
  isplitl [H2]; · iexact H2
  isplitl [H3]; · iexact H3
  iexact H4

theorem Y_v6 (c : Dev nD) : Yof m c main_v6 = V m c main_v6 := by
  unfold Yof
  rw [Function.update_of_ne (by decide), Function.update_of_ne (by decide)]
theorem Y_out (c : Dev nD) : Yof m c main_v8_0 = asm (outOf m c) := by
  unfold Yof
  rw [Function.update_of_ne (by decide), Function.update_self]
theorem Y_emb (c : Dev nD) : Yof m c main_v8_1 = asm (embOf m c) := by
  unfold Yof
  rw [Function.update_self]

/-! ## The run's data -/

/-- The proof data of the one region. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then Pipeline.Ends spec0 osem0 R0 c (V m c) else Pipeline.Ends spec0 osem0 R0 c (Yof m c)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

theorem idx : ∀ t : Fin cfg0.N, win0_0.index t = ![0] ∧ win0_1.index t = ![0] ∧ win0_2.index t = ![0] ∧ win0_3.index t = ![0, 0] :=
  (by decide +kernel : ∀ t : Fin grid0.N, _)

theorem iblk_0 (c : Dev nD) (t : Fin cfg0.N) : iblk m c 0 t = idsOf m c := by
  unfold idsOf; blk_ext! [iblk, idx t]
theorem iblk_1 (c : Dev nD) (t : Fin cfg0.N) : iblk m c 1 t = scaleOf m c := by
  unfold scaleOf; blk_ext! [iblk, idx t]
theorem iblk_2 (c : Dev nD) (t : Fin cfg0.N) : iblk m c 2 t = zeroOf m c := by
  unfold zeroOf; blk_ext! [iblk, idx t]
theorem iblk_3 (c : Dev nD) (t : Fin cfg0.N) : iblk m c 3 t = wOf m c := by
  unfold wOf; blk_ext! [iblk, idx t]

/-! ## The body -/

/-- The staged windows as the body finds and leaves them. -/
theorem stage_open (c : Dev nD) (t : Fin cfg0.N) :
    iprop((∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d)))
    ⊢ iprop(idsPt (F := F) c (idsOf m c) ∗ scalePt (F := F) c (scaleOf m c) ∗ zeroPt (F := F) c (zeroOf m c) ∗ wPt (F := F) c (wOf m c)) := by
  obtain rfl := fin_N0 t
  have h0 : ∀ d, owns (c : Thread nD τ) (st0_0 t0_0) fullShare ((dats m 0 c).before 0 t0_0 d) ⊢ idsPt (F := F) c (idsOf m c) := fun d => by
    rw [before0_0, iblk_0]; unfold idsPt; exact .of_eq (owns_whole _ _ _ _)
  have h1 : ∀ d, owns (c : Thread nD τ) (st0_1 t0_0) fullShare ((dats m 0 c).before 1 t0_0 d) ⊢ scalePt (F := F) c (scaleOf m c) := fun d => by
    rw [before0_1, iblk_1]; exact .of_eq (owns_whole _ _ _ _)
  have h2 : ∀ d, owns (c : Thread nD τ) (st0_2 t0_0) fullShare ((dats m 0 c).before 2 t0_0 d) ⊢ zeroPt (F := F) c (zeroOf m c) := fun d => by
    rw [before0_2, iblk_2]; exact .of_eq (owns_whole _ _ _ _)
  have h3 : ∀ d, owns (c : Thread nD τ) (st0_3 t0_0) fullShare ((dats m 0 c).before 3 t0_0 d) ⊢ wPt (F := F) c (wOf m c) := fun d => by
    rw [before0_3, iblk_3]; unfold wPt; exact .of_eq (owns_whole _ _ _ _)
  iintro ⟨⟨%d0, H0⟩, ⟨%d1, H1⟩, ⟨%d2, H2⟩, ⟨%d3, H3⟩⟩
  isplitl [H0]; · iapply (h0 d0) $$ H0
  isplitl [H1]; · iapply (h1 d1) $$ H1
  isplitl [H2]; · iapply (h2 d2) $$ H2
  iapply (h3 d3) $$ H3
theorem stage_close (c : Dev nD) (t : Fin cfg0.N) :
    iprop(idsPt (F := F) c (idsOf m c) ∗ scalePt (F := F) c (scaleOf m c) ∗ zeroPt (F := F) c (zeroOf m c) ∗ wPt (F := F) c (wOf m c))
    ⊢ iprop(owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)) := by
  obtain rfl := fin_N0 t
  have h0 : idsPt (F := F) c (idsOf m c) ⊢ owns (c : Thread nD τ) (st0_0 t0_0) fullShare ((dats m 0 c).after 0 t0_0) := by
    rw [after0_0, iblk_0]; unfold idsPt; exact .of_eq (owns_whole _ _ _ _).symm
  have h1 : scalePt (F := F) c (scaleOf m c) ⊢ owns (c : Thread nD τ) (st0_1 t0_0) fullShare ((dats m 0 c).after 1 t0_0) := by
    rw [after0_1, iblk_1]; exact .of_eq (owns_whole _ _ _ _).symm
  have h2 : zeroPt (F := F) c (zeroOf m c) ⊢ owns (c : Thread nD τ) (st0_2 t0_0) fullShare ((dats m 0 c).after 2 t0_0) := by
    rw [after0_2, iblk_2]; exact .of_eq (owns_whole _ _ _ _).symm
  have h3 : wPt (F := F) c (wOf m c) ⊢ owns (c : Thread nD τ) (st0_3 t0_0) fullShare ((dats m 0 c).after 3 t0_0) := by
    rw [after0_3, iblk_3]; unfold wPt; exact .of_eq (owns_whole _ _ _ _).symm
  iintro ⟨H0, H1, H2, H3⟩
  isplitl [H0]; · iapply h0 $$ H0
  isplitl [H1]; · iapply h1 $$ H1
  isplitl [H2]; · iapply h2 $$ H2
  iapply h3 $$ H3

theorem bl_lt (t : ℕ) (h : t < 512) : (bl t).val = t := Nat.mod_eq_of_lt h

/-- The body at the region's one point. -/
theorem body_run (c : Dev nD) (t : Fin cfg0.N) (hid : ∀ i, (idsOf m c i).toNat < 32000) (W : Waits sig Unit) (Q : PUnit → sProp 𝕄) :
    iprop((idsPt (F := F) c (idsOf m c) ∗ scalePt (F := F) c (scaleOf m c) ∗ zeroPt (F := F) c (zeroOf m c) ∗ wPt (F := F) c (wOf m c))
      ∗ Parts (F := F) c (V m c) ∗ owes (c : Thread nD τ) 0 W
      ∗ (iprop((idsPt (F := F) c (idsOf m c) ∗ scalePt (F := F) c (scaleOf m c) ∗ zeroPt (F := F) c (zeroOf m c) ∗ wPt (F := F) c (wOf m c))
        ∗ Parts (F := F) c (Yof m c) ∗ (∃ W', owes (c : Thread nD τ) 0 W')) -∗ Q ⟨⟩))
    ⊢ wp frame (wpE (defs₀ (F := F)) Variants.none (c : Thread nD τ) none) Set.univ (bodyAt0 t) Q := by
  obtain rfl := fin_N0 t
  have e0 : (Memref.whole main_v8_0 : Memref sig .tc .hbm S512x8x7168 .bf16).view.set = Finset.univ := View.set_whole _
  have e1 : (Memref.whole main_v8_1 : Memref sig .tc .hbm S512x8x7168 .bf16).view.set = Finset.univ := View.set_whole _
  have o0 := o_open (F := F) cc0_scratch7 (Memref.whole cc0_scratch4) (Memref.whole main_v8_0) c (outOf m c) (V m c main_v8_0)
  have o1 := o_open (F := F) cc0_scratch8 (Memref.whole cc0_scratch5) (Memref.whole main_v8_1) c (embOf m c) (V m c main_v8_1)
  haveI : Nonempty ((Memref.whole cc0_scratch4 : Memref sig .tc .vmem S8x8x7168 .bf16).view.ty.Contents (Elt F)) := ⟨fun i => Scalar.ofBits .bf16 0⟩
  haveI : Nonempty ((Memref.whole cc0_scratch5 : Memref sig .tc .vmem S8x8x7168 .bf16).view.ty.Contents (Elt F)) := ⟨fun i => Scalar.ofBits .bf16 0⟩
  have c0 := o_close (F := F) cc0_scratch7 (Memref.whole cc0_scratch4) (Memref.whole main_v8_0) c (outOf m c) (asm (outOf m c)) rfl
  have c1 := o_close (F := F) cc0_scratch8 (Memref.whole cc0_scratch5) (Memref.whole main_v8_1) c (embOf m c) (asm (embOf m c)) rfl
  rw [e0] at o0 c0
  rw [e1] at o1 c1
  unfold Parts
  rw [Y_v6, Y_out, Y_emb]
  iintro ⟨⟨Hi, Hs, Hz, Hw⟩, ⟨⟨Ht, Hy0, Hy1⟩, ⟨Hm, Hm0, Hm1⟩, ⟨Hr, H8, H9, H10, Hl0, Hl1⟩, Hg⟩, HW, HQ⟩
  ihave HI := (in_open (F := F) c (tabOf m c) (idsOf m c)) $$ [Hm Hr Ht]
  · isplitl [Hm]; · iexact Hm
    isplitl [Hr]; · iexact Hr
    iexact Ht
  icases HI with ⟨HI, Hd⟩
  ihave HO0 := o0 $$ [Hm0 Hl0 Hy0]
  · isplitl [Hm0]; · iexact Hm0
    isplitl [Hl0]; · iexact Hl0
    iexact Hy0
  ihave HO1 := o1 $$ [Hm1 Hl1 Hy1]
  · isplitl [Hm1]; · iexact Hm1
    isplitl [Hl1]; · iexact Hl1
    iexact Hy1
  iapply (kernel (F := F) c (tabOf m c) (idsOf m c) hid (scaleOf m c) (zeroOf m c) (wOf m c) (outOf m c) (embOf m c)
    (fun t h => by unfold embOf; rw [bl_lt t h]) (fun t h => by unfold outOf; rw [bl_lt t h]) W Q)
  isplitl [Hi]; · iexact Hi
  isplitl [Hs]; · iexact Hs
  isplitl [Hz]; · iexact Hz
  isplitl [Hw]; · iexact Hw
  isplitl [H8]; · iexact H8
  isplitl [H9]; · iexact H9
  isplitl [H10]; · iexact H10
  isplitl [HI]; · iexact HI
  isplitl [HO0]; · iexact HO0
  isplitl [HO1]; · iexact HO1
  isplitl [HW]; · iexact HW
  iintro ⟨Hi, Hs, Hz, Hw, H8, H9, H10, HI, HO0, HO1, HW⟩
  ihave HI := (in_close (F := F) c (tabOf m c) (idsOf m c)) $$ [HI Hd]
  · isplitl [HI]; · iexact HI
    iexact Hd
  icases HI with ⟨Hm, Hr, Ht⟩
  ihave HO0 := c0 $$ HO0
  ihave HO1 := c1 $$ HO1
  icases HO0 with ⟨Hm0, Hl0, Hy0⟩
  icases HO1 with ⟨Hm1, Hl1, Hy1⟩
  iapply HQ
  isplitl [Hi Hs Hz Hw]
  · isplitl [Hi]; · iexact Hi
    isplitl [Hs]; · iexact Hs
    isplitl [Hz]; · iexact Hz
    iexact Hw
  isplitr [HW]
  · isplitl [Ht Hy0 Hy1]
    · isplitl [Ht]; · iexact Ht
      isplitl [Hy0]; · iexact Hy0
      iexact Hy1
    isplitl [Hm Hm0 Hm1]
    · isplitl [Hm]; · iexact Hm
      isplitl [Hm0]; · iexact Hm0
      iexact Hm1
    isplitr [Hg]
    · isplitl [Hr]; · iexact Hr
      isplitl [H8]; · iexact H8
      isplitl [H9]; · iexact H9
      isplitl [H10]; · iexact H10
      isplitl [Hl0]; · iexact Hl0
      iexact Hl1
    iexact Hg
  · iexact HW

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

theorem Phi_first (c : Dev nD) (t : Fin cfg0.N) : (dats m 0 c).Φ t.castSucc = Pipeline.Ends spec0 osem0 R0 c (V m c) := by
  obtain rfl := fin_N0 t; dsimp only [dats]; exact if_pos rfl
theorem Phi_last (c : Dev nD) (t : Fin cfg0.N) : (dats m 0 c).Φ t.succ = Pipeline.Ends spec0 osem0 R0 c (Yof m c) := by
  dsimp only [dats]; exact if_neg (by rw [Fin.val_succ]; omega)

/-- The body, from the region's invariant before its point to that after it. -/
theorem sound_body (c : Dev nD) (t : Fin cfg0.N) (hid : ∀ i, (idsOf m c i).toNat < 32000) :
    bodyPre m c t ⊢ wp frame (wpE (defs₀ (F := F)) Variants.none (c : Thread nD τ) none) Set.univ (bodyAt0 t) (fun _ => bodyPost m c t) := by
  unfold bodyPre bodyPost
  rw [Phi_first, Phi_last]
  unfold Dat.owesAt Pipeline.owesWithin
  rw [show (dats m 0 c).owed t.castSucc = 0 from rfl, show (dats m 0 c).owed t.succ = 0 from rfl]
  iintro ⟨HΦ, ⟨%W, -, HW⟩, HS⟩
  ihave HS := (stage_open m c t) $$ HS
  ihave HΦ := (ends_open (F := F) c (V m c)) $$ HΦ
  iapply (body_run m c t hid W _)
  isplitl [HS]; · iexact HS
  isplitl [HΦ]; · iexact HΦ
  isplitl [HW]; · iexact HW
  iintro ⟨HS, HΦ, ⟨%W', HW⟩⟩
  isplitl [HΦ]; · iapply (ends_close (F := F) c (Yof m c)) $$ HΦ
  isplitl [HW]
  · iexists W'; isplitr; · ipureintro; exact fun _ _ => Or.inl trivial
    iexact HW
  iapply (stage_close m c t) $$ HS

theorem defs₀_row (t : Fin cfg0.N) :
    defs₀ (F := F) .tc cfg0.body (cfg0.bodyArgs t (cfg0.slots t)) = bodyAt0 t := by
  unfold defs₀; rw [Defs.onTc_tc]

theorem body_obligation (c : Dev nD) (hid : ∀ i, (idsOf m c i).toNat < 32000) : BodyObligation (dats (F := F) m 0 c) (defs₀ (F := F)) Variants.none () Set.univ := fun t => by
  rw [bigSep_W0, bigSep_W0, defs₀_row]
  exact triple_restated (sound_body m c t hid) rfl .rfl fun _ => .rfl

/-! ## The run -/

set_option maxHeartbeats 800000 in
theorem hmain' : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program's run: it terminates, and leaves every buffer as `RoutedPost` says and every semaphore at zero. -/
theorem run_main (hid : ∀ c i, (idsOf m c i).toNat < 32000) :
    θ_run defs (onTc (τ := τ) (main (F := F))) (s₀ m ρ) (fun r => Pipeline.RoutedPost cfgs (dats m) 0 R0 (V m) (Yof m) r ∧ r.2.sem = fun _ => 0) :=
  Pipeline.θ_run_frame_routed (Q' := _) cfgs (dats m) (0 : Fin 1) launch0 ownSemFacts0 defs₀ Variants.none m ρ main
    (hbody := fun c => (body_obligation m c (hid c)).loose) (hshare := fun c => (dats m 0 c).share_full fun _ => rfl)
    (howed := fun _ _ => rfl) (V := V m) (hmain := hmain' m) (hA := A_eq m) (R := R0) (hR := R0_sub) (Y := Yof m)
    (hin := fun c => (.of_eq (Phi_first m c t0_0).symm)) (hout := fun c => (.of_eq (Phi_last m c t0_0)))

/-- The program runs, its arguments end unchanged, its results end holding the rows the kernel computes, and every
    semaphore ends at zero. -/
theorem run_values (hid : ∀ c i, (idsOf m c i).toNat < 32000) :
    θ_run defs (onTc (τ := τ) (main (F := F))) ⟨m, fun _ => 0, ρ⟩ (fun r => (∀ c : Dev nD,
      r.2.mem ((c.tc : Thread nD τ).loc main_v8_0) = asm (outOf m c)
      ∧ r.2.mem ((c.tc : Thread nD τ).loc main_v8_1) = asm (embOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have rest : ∀ b : Ref sig .tc, b ∈ Pipeline.restRefs sig spec0 → b ∉ R0 → r.2.mem ((c.tc : Thread nD τ).loc b) = V m c b :=
      fun b hb hn => (h.1 c).2.2 b (Finset.mem_sdiff.mpr ⟨hb, hn⟩)
    ⟨((h.1 c).2.1 main_v8_0 (by decide)).trans (Y_out m c),
      ((h.1 c).2.1 main_v8_1 (by decide)).trans (Y_emb m c),
      (rest main_arg0 (Pipeline.mem_restRefs_of main_arg0 (by decide) (by decide)) (by decide)).trans (V_main_arg0 m c),
      (rest main_arg1 (Pipeline.mem_restRefs_of main_arg1 (by decide) (by decide)) (by decide)).trans (V_main_arg1 m c),
      ((h.1 c).1 1).trans (((dats m 0 c).arrAt_in 1 rfl _).trans ((A_eq m c 1).trans (V_main_arg2 m c))),
      (rest main_arg3 (Pipeline.mem_restRefs_of main_arg3 (by decide) (by decide)) (by decide)).trans (V_main_arg3 m c),
      (rest main_arg4 (Pipeline.mem_restRefs_of main_arg4 (by decide) (by decide)) (by decide)).trans (V_main_arg4 m c)⟩, h.2⟩) (run_main m ρ hid)

/-- The ids the kernel reads are the argument's. -/
theorem idsOf_lt (c : Dev nD) (h : ∀ i, BitVec.toNat (w := 32) (m ((c.tc : Thread nD τ).loc main_arg0) i) < 32000) : ∀ i, (idsOf m c i).toNat < 32000 := by
  have e : idsOf m c = shapeCast S4096 (m ((c.tc : Thread nD τ).loc main_arg0) : S2x2048.Idx → BitVec 32) shapeCasts_S2x2048_S4096 := by
    unfold idsOf; rfl
  intro i
  rw [e]
  exact h _

end Cert.KernelIdeal.Hand

end
-- ==== Proof.KBase.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Routed
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-! ## The views of the two rings -/

theorem inbC (n : ℕ) (s : Fin n) : ∀ a, (![s.val] : Fin 1 → Nat) a + S1.size a ≤ (⟨1, ![n]⟩ : Shape).size a := by
  have := s.isLt; intro a; fin_cases a
  show s.val + 1 ≤ n; omega
theorem inb7 (s : Fin 64) : ∀ a, (![s.val, 0, 0] : Fin 3 → Nat) a + S1x8x7168.size a ≤ S64x8x7168.size a := by
  have := s.isLt; intro a; fin_cases a
  · show s.val + 1 ≤ 64; omega
  · show 0 + 8 ≤ 8; omega
  · show 0 + 7168 ≤ 7168; omega
theorem inbRow (s : Fin 64) (r : Fin 8) : ∀ a, (![s.val, r.val, 0] : Fin 3 → Nat) a + S1x1x7168.size a ≤ S64x8x7168.size a := by
  have := s.isLt; have := r.isLt; intro a; fin_cases a
  · show s.val + 1 ≤ 64; omega
  · show r.val + 1 ≤ 8; omega
  · show 0 + 7168 ≤ 7168; omega
theorem inbSrc (q : Fin 8000) : ∀ a, (![q.val, 0] : Fin 2 → Nat) a + S1x7168.size a ≤ S8000x7168.size a := by
  have := q.isLt; intro a; fin_cases a
  · show q.val + 1 ≤ 8000; omega
  · show 0 + 7168 ≤ 7168; omega

/-- The semaphore of input slot `s`. -/
def inSem (s : Fin 64) : DmaSem sig := ((cc0_scratch6.slice (Rect.unit (s := S64) ![s.val] S1.size (inbC 64 s))).squeeze S_ squeezes_S1_S_).sem
/-- Input slot `s`. -/
def slot7 (s : Fin 64) : Memref sig .tc .vmem S8x7168 .i32 :=
  ((Memref.whole cc0_scratch0 : Memref sig .tc .vmem S64x8x7168 .i32).slice (Rect.unit (s := S64x8x7168) ![s.val, 0, 0] S1x8x7168.size (inb7 s)) (fun _ => rfl)).squeeze S8x7168 squeezes_S1x8x7168_S8x7168
/-- Row `r` of input slot `s`. -/
def row7 (s : Fin 64) (r : Fin 8) : Memref sig .tc .vmem S1x7168 .i32 :=
  ((Memref.whole cc0_scratch0 : Memref sig .tc .vmem S64x8x7168 .i32).slice (Rect.unit (s := S64x8x7168) ![s.val, r.val, 0] S1x1x7168.size (inbRow s r)) (fun _ => rfl)).squeeze S1x7168 squeezes_S1x1x7168_S1x7168
/-- Row `q` of the table of words. -/
def src7 (q : Fin 8000) : Memref sig .tc .hbm S1x7168 .i32 :=
  (Memref.whole main_v6).slice (Rect.unit (s := S8000x7168) ![q.val, 0] S1x7168.size (inbSrc q)) (fun _ => rfl)

/-- The table of words, and the token ids. -/
abbrev Tab : Type := S8000x7168.Idx → BitVec 32
abbrev Ids : Type := S4096.Idx → BitVec 32

/-- Token `n`'s id. -/
def idAt (ids : Ids) (n : ℕ) : BitVec 32 := ids (ix1 ⟨n % 4096, Nat.mod_lt _ (by decide)⟩)
/-- The word row holding token `r` of group `g`. -/
def rid (ids : Ids) (g : ℕ) (r : Fin 8) : Fin 8000 := ⟨(idAt ids (8 * g + r.val) >>> 2).toNat % 8000, Nat.mod_lt _ (by decide)⟩
/-- The slot of group `g`. -/
def sl64 (g : ℕ) : Fin 64 := ⟨g % 64, Nat.mod_lt _ (by decide)⟩
/-- What group `g`'s slot holds once its eight rows have arrived. -/
def slotW (tab : Tab) (ids : Ids) (g : ℕ) : S64x8x7168.Idx → BitVec 32 := fun i => tab (ix2 (rid ids g (i 1)) (i 2))

theorem row7_emb (s : Fin 64) (r : Fin 8) (x : S1x7168.Idx) : (row7 s r).view.emb x = ix3 s r (x 1) := by
  have h1 : (row7 s r).view.emb x = (Rect.unit (s := S64x8x7168) ![s.val, r.val, 0] S1x1x7168.size (inbRow s r)).emb
      (Shape.reshapeEquiv squeezes_S1x1x7168_S1x7168.numel_eq x) := rfl
  rw [h1, Shape.reshapeEquiv_cons_one]
  funext a
  apply Fin.ext
  rw [Rect.emb_apply]
  have h0 : (x 0).val = 0 := by have := (x 0).isLt; change (x 0).val < 1 at this; omega
  match a with
  | ⟨0, _⟩ => show s.val + 1 * 0 = s.val; omega
  | ⟨1, _⟩ => show r.val + 1 * (x 0).val = r.val; omega
  | ⟨2, _⟩ => show 0 + 1 * (x 1).val = (x 1).val; omega

theorem src7_emb (q : Fin 8000) (x : S1x7168.Idx) : (src7 q).view.emb x = ix2 q (x 1) := by
  have h1 : (src7 q).view.emb x = (Rect.unit (s := S8000x7168) ![q.val, 0] S1x7168.size (inbSrc q)).emb x := rfl
  rw [h1]
  funext a
  apply Fin.ext
  rw [Rect.emb_apply]
  have h0 : (x 0).val = 0 := by have := (x 0).isLt; change (x 0).val < 1 at this; omega
  match a with
  | ⟨0, _⟩ => show q.val + 1 * (x 0).val = q.val; omega
  | ⟨1, _⟩ => show 0 + 1 * (x 1).val = (x 1).val; omega

theorem slot7_emb (s : Fin 64) (x : S8x7168.Idx) : (slot7 s).view.emb x = ix3 s (x 0) (x 1) := by
  have h1 : (slot7 s).view.emb x = (Rect.unit (s := S64x8x7168) ![s.val, 0, 0] S1x8x7168.size (inb7 s)).emb
      (Shape.reshapeEquiv squeezes_S1x8x7168_S8x7168.numel_eq x) := rfl
  rw [h1, Shape.reshapeEquiv_cons_one]
  funext a
  apply Fin.ext
  rw [Rect.emb_apply]
  match a with
  | ⟨0, _⟩ => show s.val + 1 * 0 = s.val; omega
  | ⟨1, _⟩ => show 0 + 1 * (x 0).val = (x 0).val; omega
  | ⟨2, _⟩ => show 0 + 1 * (x 1).val = (x 1).val; omega

/-- A row of a slot is the elements with its two leading coordinates. -/
theorem mem_row7 (s : Fin 64) (r : Fin 8) (i : S64x8x7168.Idx) : i ∈ (row7 s r).view.set ↔ i 0 = s ∧ i 1 = r := by
  constructor
  · intro h
    obtain ⟨x, -, hx⟩ := Finset.mem_map.mp h
    have hx' : ix3 s r (x 1) = i := (row7_emb s r x).symm.trans hx
    subst hx'; exact ⟨rfl, rfl⟩
  · intro h
    refine Finset.mem_map.mpr ⟨ix2 0 (i 2), Finset.mem_univ _, (row7_emb s r _).trans ?_⟩
    funext a; apply Fin.ext
    match a with
    | ⟨0, _⟩ => exact congrArg Fin.val h.1.symm
    | ⟨1, _⟩ => exact congrArg Fin.val h.2.symm
    | ⟨2, _⟩ => rfl
theorem mem_slot7 (s : Fin 64) (i : S64x8x7168.Idx) : i ∈ (slot7 s).view.set ↔ i 0 = s := by
  constructor
  · intro h
    obtain ⟨x, -, hx⟩ := Finset.mem_map.mp h
    have hx' : ix3 s (x 0) (x 1) = i := (slot7_emb s x).symm.trans hx
    subst hx'; rfl
  · intro h
    refine Finset.mem_map.mpr ⟨ix2 (i 1) (i 2), Finset.mem_univ _, (slot7_emb s _).trans ?_⟩
    funext a; apply Fin.ext
    match a with
    | ⟨0, _⟩ => exact congrArg Fin.val h.symm
    | ⟨1, _⟩ => rfl
    | ⟨2, _⟩ => rfl

/-! ## Points-tos at plain index types -/

/-- Elements of the input ring's buffer. -/
def ringPt (c : Dev nD) (S : Finset S64x8x7168.Idx) (f : S64x8x7168.Idx → BitVec 32) : sProp 𝕄 :=
  (View.loc (c : Thread nD τ) (Memref.whole cc0_scratch0 : Memref sig .tc .vmem S64x8x7168 .i32).view) ↦[S]{fullShare} f
/-- Elements of the table of words, at its `n`-th read share. -/
def tabPt (c : Dev nD) (S : Finset S8000x7168.Idx) (n : ℕ) (tab : Tab) : sProp 𝕄 :=
  (View.loc (c : Thread nD τ) (Memref.whole main_v6 : Memref sig .tc .hbm S8000x7168 .i32).view) ↦[S]{Transfers.shareTokN fullShare n} tab
instance ringPt_storable (c : Dev nD) (S : Finset S64x8x7168.Idx) (f : S64x8x7168.Idx → BitVec 32) :
    Storable (upEmb : UEmb _ 𝕄) (ringPt (F := F) c S f) := by unfold ringPt; infer_instance
instance tabPt_storable (c : Dev nD) (S : Finset S8000x7168.Idx) (n : ℕ) (tab : Tab) :
    Storable (upEmb : UEmb _ 𝕄) (tabPt (F := F) c S n tab) := by unfold tabPt; infer_instance

/-- The elements of a slot, of a row, of a table row. -/
def slotSet (s : Fin 64) : Finset S64x8x7168.Idx := (slot7 s).view.set
def rowSet (s : Fin 64) (r : Fin 8) : Finset S64x8x7168.Idx := (row7 s r).view.set
def srcSet (q : Fin 8000) : Finset S8000x7168.Idx := (src7 q).view.set

/-- A slot is its eight rows. -/
theorem slot7_rows (c : Dev nD) (s : Fin 64) (f : S64x8x7168.Idx → BitVec 32) :
    ringPt (F := F) c (slotSet s) f = bigSep Finset.univ fun r : Fin 8 => ringPt (F := F) c (rowSet s r) f := by
  have hd : ∀ a b : Fin 8, a ≠ b → Disjoint (rowSet s a) (rowSet s b) := fun a b hab =>
    Finset.disjoint_left.mpr fun i h1 h2 => hab (((mem_row7 s a i).mp h1).2.symm.trans ((mem_row7 s b i).mp h2).2)
  have hc : (Finset.univ.biUnion fun r : Fin 8 => rowSet s r) = slotSet s := Finset.ext fun i =>
    ⟨fun h => by
        obtain ⟨r, -, h⟩ := Finset.mem_biUnion.mp h
        exact (mem_slot7 s i).mpr ((mem_row7 s r i).mp h).1,
      fun h => Finset.mem_biUnion.mpr ⟨(i 1 : Fin 8), Finset.mem_univ _, (mem_row7 s (i 1 : Fin 8) i).mpr ⟨(mem_slot7 s i).mp h, rfl⟩⟩⟩
  exact Ring.pointsTo_sub_blocks (nD := nD) (τ := τ) (sig := sig) (Ix := Unit) (Val := Elt F) (Name := ℕ) (U := Pipeline.UC sig nD τ) (Lvl := ℕ)
    (ℓ := View.loc (c : Thread nD τ) (Memref.whole cc0_scratch0 : Memref sig .tc .vmem S64x8x7168 .i32).view) (fun r : Fin 8 => rowSet s r) hd (slotSet s) hc (q := fullShare) f

/-- What a row's transfer leaves in its row is the group's canonical contents there. -/
theorem row7_write (tab : Tab) (ids : Ids) (g : ℕ) (s : Fin 64) (r : Fin 8) (f : S64x8x7168.Idx → BitVec 32) :
    ∀ i ∈ (row7 s r).view.set, (row7 s r).view.write (Elt F) f (ReadAs.same.apply ((src7 (rid ids g r)).view.read (Elt F) tab)) Finset.univ i
      = slotW tab ids g i := by
  intro i hi
  obtain ⟨x, -, rfl⟩ := Finset.mem_map.mp hi
  have h := View.read_write_of_mem (v := (row7 s r).view) (Val := Elt F) f (ReadAs.same.apply ((src7 (rid ids g r)).view.read (Elt F) tab)) (Finset.mem_univ x)
  refine (show _ = _ from h).trans ?_
  show tab ((src7 (rid ids g r)).view.emb x) = slotW tab ids g ((row7 s r).view.emb x)
  exact (congrArg tab (src7_emb _ x)).trans (congrArg (slotW tab ids g) (row7_emb s r x)).symm

/-! ## The input ring's batches -/

/-- One row's transfer, arrived: the row of the slot at the group's contents, and the table's row back. -/
def rowD (c : Dev nD) (tab : Tab) (ids : Ids) (g : ℕ) (r : Fin 8) : sProp 𝕄 :=
  iprop(ringPt (F := F) c (rowSet (sl64 g) r) (slotW tab ids g) ∗ tabPt (F := F) c (srcSet (rid ids g r)) (8 * (sl64 g).val + r.val) tab)
instance rowD_storable (c : Dev nD) (tab : Tab) (ids : Ids) (g : ℕ) (r : Fin 8) :
    Storable (upEmb : UEmb _ 𝕄) (rowD (F := F) c tab ids g r) := by unfold rowD; infer_instance

/-- The table's share for row `r` of slot `s`, whole. -/
def tok7 (c : Dev nD) (tab : Tab) (s : Fin 64) (r : Fin 8) : sProp 𝕄 := tabPt (F := F) c Finset.univ (8 * s.val + r.val) tab
/-- What is left of it while the row is read. -/
def rest7 (c : Dev nD) (tab : Tab) (ids : Ids) (g : ℕ) (r : Fin 8) : sProp 𝕄 :=
  tabPt (F := F) c (Finset.univ \ srcSet (rid ids g r)) (8 * (sl64 g).val + r.val) tab
/-- Row `r` of slot `s`, at any contents. -/
def free7 (c : Dev nD) (s : Fin 64) (r : Fin 8) : sProp 𝕄 := iprop(∃ f, ringPt (F := F) c (rowSet s r) f)
/-- Row `r` of group `g` with its first `j` rows' transfers issued. -/
def rowSt (c : Dev nD) (tab : Tab) (ids : Ids) (g j : ℕ) (r : Fin 8) : sProp 𝕄 :=
  if r.val < j then rest7 (F := F) c tab ids g r else iprop(free7 (F := F) c (sl64 g) r ∗ tok7 (F := F) c tab (sl64 g) r)

/-- Group `g` with its first `j` rows' transfers issued. -/
def Starting (c : Dev nD) (tab : Tab) (ids : Ids) (g j : ℕ) : sProp 𝕄 :=
  iprop(Transfers.Batch EC (c : Thread nD τ) (.dma (inSem (sl64 g))) () 896 (rowD (F := F) c tab ids g) j 0
    ∗ bigSep Finset.univ (rowSt (F := F) c tab ids g j))

/-- Slot `s` idle: its semaphore at zero, its elements, its shares of the table. -/
def FreeIn (c : Dev nD) (tab : Tab) (s : Fin 64) : sProp 𝕄 :=
  iprop(semVal ((c : Thread nD τ), .dma (inSem s)) 0
    ∗ (∃ f, ringPt (F := F) c (slotSet s) f)
    ∗ bigSep Finset.univ (tok7 (F := F) c tab s))

/-- Taking one index out of a product and putting back what another product has there. -/
theorem bigSep_swap {ι : Type} [Fintype ι] [DecidableEq ι] (Φ Ψ : ι → sProp 𝕄) (i : ι) (h : ∀ j, j ≠ i → Φ j = Ψ j) :
    bigSep Finset.univ Φ ⊢ iprop(Φ i ∗ (Ψ i -∗ bigSep Finset.univ Ψ)) := by
  have e : bigSep (Finset.univ.erase i) Φ = bigSep (Finset.univ.erase i) Ψ := BI.bigSep_congr fun j hj => h j (Finset.ne_of_mem_erase hj)
  have e1 : bigSep Finset.univ Φ = iprop(Φ i ∗ bigSep (Finset.univ.erase i) Ψ) := (bigSep_erase (Finset.mem_univ i)).trans (congrArg (fun X => iprop(Φ i ∗ X)) e)
  have e2 : bigSep Finset.univ Ψ = iprop(Ψ i ∗ bigSep (Finset.univ.erase i) Ψ) := bigSep_erase (Finset.mem_univ i)
  rw [e1, e2]
  iintro ⟨H, HR⟩
  isplitl [H]; · iexact H
  iintro H; isplitl [H]; · iexact H
  iexact HR

/-- Opening a group's batch on an idle slot. -/
theorem start_open (c : Dev nD) (tab : Tab) (ids : Ids) (g : ℕ) :
    FreeIn (F := F) c tab (sl64 g) ⊢ |={Set.univ}=> Starting (F := F) c tab ids g 0 := by
  have e : rowSt (F := F) c tab ids g 0 = fun r => iprop(free7 (F := F) c (sl64 g) r ∗ tok7 (F := F) c tab (sl64 g) r) :=
    funext fun r => if_neg (Nat.not_lt_zero _)
  have hs : ∀ f, ringPt (F := F) c (slotSet (sl64 g)) f ⊢ bigSep Finset.univ fun r : Fin 8 => free7 (F := F) c (sl64 g) r := fun f => by
    rw [slot7_rows]
    exact BI.bigSep_mono fun r _ => show ringPt (F := F) c (rowSet (sl64 g) r) f ⊢ free7 (F := F) c (sl64 g) r by unfold free7; iintro H; iexists f; iexact H
  unfold FreeIn Starting
  rw [e, bigSep_sep']
  iintro ⟨Hc, ⟨%f, Hs⟩, Ht⟩
  imod (Transfers.batch_alloc' (Lvl := ℕ) EC (c : Thread nD τ) () 896 (rowD (F := F) c tab ids g) (sm := .dma (inSem (sl64 g))) (E := Set.univ)) $$ Hc with HB
  imodintro
  isplitl [HB]; · iexact HB
  isplitl [Hs]
  · iapply (hs f) $$ Hs
  · iexact Ht

/-- Issuing the transfer of row `r`. -/
theorem start_row (c : Dev nD) (tab : Tab) (ids : Ids) (g : ℕ) (r : Fin 8)
    {offc : Fin 1 → ℕ} {offd : Fin 3 → ℕ} {offs : Fin 2 → ℕ}
    (hc : ∀ a, offc a + S1.size a ≤ S64.size a) (hd : ∀ a, offd a + S1x1x7168.size a ≤ S64x8x7168.size a)
    (hs : ∀ a, offs a + S1x7168.size a ≤ S8000x7168.size a)
    (ec : offc = ![(sl64 g).val]) (ed : offd = ![(sl64 g).val, r.val, 0]) (es : offs = ![(rid ids g r).val, 0])
    (h1 h2 h3) {α : Type} {k : PUnit → Prog (TpuEff nD τ sig (Elt F) Λ₀ .tc) α} {Q : α → sProp 𝕄} :
    Starting (F := F) c tab ids g r.val
    ⊢ iprop((Starting (F := F) c tab ids g (r.val + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma ((Memref.whole main_v6).slice (Rect.unit (s := S8000x7168) offs S1x7168.size hs) (fun _ => rfl))
          (.here (((Memref.whole cc0_scratch0 : Memref sig .tc .vmem S64x8x7168 .i32).slice (Rect.unit (s := S64x8x7168) offd S1x1x7168.size hd) (fun _ => rfl)).squeeze S1x7168 squeezes_S1x1x7168_S1x7168))
          (.dma ((cc0_scratch6.slice (Rect.unit (s := S64) offc S1.size hc)).squeeze S_ squeezes_S1_S_).sem) h1 h2 h3) k) Q) := by
  subst ec ed es
  have hsw := bigSep_swap (F := F) (rowSt (F := F) c tab ids g r.val) (rowSt (F := F) c tab ids g (r.val + 1)) r (by
    intro j hj
    have : j.val ≠ r.val := fun h => hj (Fin.ext h)
    unfold rowSt
    by_cases h : j.val < r.val
    · rw [if_pos h, if_pos (by omega)]
    · rw [if_neg h, if_neg (by omega)])
  have e1 : rowSt (F := F) c tab ids g r.val r = iprop(free7 (F := F) c (sl64 g) r ∗ tok7 (F := F) c tab (sl64 g) r) := if_neg (lt_irrefl _)
  have e2 : rowSt (F := F) c tab ids g (r.val + 1) r = rest7 (F := F) c tab ids g r := if_pos (Nat.lt_succ_self _)
  rw [e1, e2] at hsw
  have hsplit : tok7 (F := F) c tab (sl64 g) r ⊢ iprop(((src7 (rid ids g r)).view.loc (c : Thread nD τ) ↦[(src7 (rid ids g r)).view.set]{Transfers.shareTokN fullShare (8 * (sl64 g).val + r.val)} tab)
      ∗ rest7 (F := F) c tab ids g r) := (pointsTo_split_subset (Finset.subset_univ _)).1
  unfold Starting
  iintro ⟨HB, HR⟩ Hk
  icases hsw $$ HR with ⟨⟨Hd, Ht⟩, HR⟩
  icases hsplit $$ Ht with ⟨Ht, Hrest⟩
  unfold free7
  icases Hd with ⟨%f, Hd⟩
  have hr : ringPt (F := F) c (rowSet (sl64 g) r) f ⊢ ((row7 (sl64 g) r).view.loc (c : Thread nD τ) ↦[(row7 (sl64 g) r).view.set]{fullShare} f) := .rfl
  have hD : iprop(((row7 (sl64 g) r).view.loc (c : Thread nD τ) ↦[(row7 (sl64 g) r).view.set]{fullShare}
        ((row7 (sl64 g) r).view.write (Elt F) f (ReadAs.same.apply ((src7 (rid ids g r)).view.read (Elt F) tab)) Finset.univ))
      ∗ ((src7 (rid ids g r)).view.loc (c : Thread nD τ) ↦[(src7 (rid ids g r)).view.set]{Transfers.shareTokN fullShare (8 * (sl64 g).val + r.val)} tab))
      ⊢ rowD (F := F) c tab ids g ⟨r.val, r.isLt⟩ :=
    sep_mono (Entails.of_eq (pointsTo_congr (row7_write tab ids g (sl64 g) r f))) .rfl
  ihave Hd' := hr $$ Hd
  iapply (Transfers.wp_dmaBatch EC (Λ := Λ₀) (defs := defs₀) Variants.none (c : Thread nD τ) none (src := src7 (rid ids g r)) (via := ReadAs.same) (dst := row7 (sl64 g) r)
    (sm := .dma (inSem (sl64 g))) (Sd := (row7 (sl64 g) r).view.set) (fd := f) (fs := tab) (q := Transfers.shareTokN fullShare (8 * (sl64 g).val + r.val))
    (D := rowD (F := F) c tab ids g) (j := r.val) (u := 0) () 896 rfl (Finset.Subset.refl _) r.isLt (Nat.zero_le _) hD) $$ [Ht Hd' HB]
  · isplitl [Ht]; · iexact Ht
    isplitl [Hd']; · iexact Hd'
    iexact HB
  iintro HB
  iapply Hk
  isplitl [HB]; · iexact HB
  iapply HR; iexact Hrest

/-- The wait for a group: its slot at the group's contents, the semaphore back at zero, the table's shares whole. -/
theorem wait_group (c : Dev nD) (tab : Tab) (ids : Ids) (g : ℕ)
    {offc : Fin 1 → ℕ} (hc : ∀ a, offc a + S1.size a ≤ S64.size a) (ec : offc = ![(sl64 g).val])
    {srcw : Memref sig .tc .hbm S8x7168 .i32} {dstw : Memref sig .tc .vmem S8x7168 .i32} (hw : dstw.view.dmaCredit = 7168)
    (h1 h2) {α : Type} {k : PUnit → Prog (TpuEff nD τ sig (Elt F) Λ₀ .tc) α} {Q : α → sProp 𝕄} {W : Waits sig Unit} :
    iprop(Starting (F := F) c tab ids g 8 ∗ owes (c : Thread nD τ) 0 W)
    ⊢ iprop((iprop(ringPt (F := F) c (slotSet (sl64 g)) (slotW tab ids g) ∗ semVal ((c : Thread nD τ), .dma (inSem (sl64 g))) 0
          ∗ bigSep Finset.univ (tok7 (F := F) c tab (sl64 g)) ∗ (∃ W', owes (c : Thread nD τ) 0 W'))
        -∗ wp frame (wpE (defs₀ (F := F)) Variants.none (c : Thread nD τ) none) Set.univ (k ⟨⟩) Q)
      -∗ wp frame (wpE (defs₀ (F := F)) Variants.none (c : Thread nD τ) none) Set.univ
        (.op (.waitDma2 ((cc0_scratch6.slice (Rect.unit (s := S64) offc S1.size hc)).squeeze S_ squeezes_S1_S_).sem srcw dstw h1 h2) k) Q) := by
  subst ec
  have e : rowSt (F := F) c tab ids g 8 = rest7 (F := F) c tab ids g := funext fun r => if_pos r.isLt
  have hj : iprop(bigSep Finset.univ (rowD (F := F) c tab ids g) ∗ bigSep Finset.univ (rest7 (F := F) c tab ids g))
      ⊢ iprop(ringPt (F := F) c (slotSet (sl64 g)) (slotW tab ids g) ∗ bigSep Finset.univ (tok7 (F := F) c tab (sl64 g))) := by
    rw [slot7_rows, ← bigSep_sep', ← bigSep_sep']
    refine BI.bigSep_mono fun r _ => ?_
    unfold rowD rest7 tok7
    exact sep_assoc.1.trans (sep_mono .rfl (pointsTo_split_subset (Finset.subset_univ _)).2)
  unfold Starting
  rw [e]
  iintro ⟨⟨HB, HR⟩, HO⟩ Hk
  iapply (Transfers.wp_waitBatchAll EC (Λ := Λ₀) (defs := defs₀) Variants.none (c : Thread nD τ) none (sem := inSem (sl64 g)) (srcw := srcw) (dstw := dstw)
    (D := rowD (F := F) c tab ids g) (N := 896) (J := 7168) (u := 0) () hw (by decide) (by decide)) $$ [HB HO]
  · isplitl [HB]; · iexact HB
    iexact HO
  iintro ⟨HD, Hv, HO⟩
  icases hj $$ [HD HR] with ⟨Hs, Ht⟩
  · isplitl [HD]; · iexact HD
    iexact HR
  iapply Hk
  isplitl [Hs]; · iexact Hs
  isplitl [Hv]; · iexact Hv
  isplitl [Ht]; · iexact Ht
  iexists _; iexact HO

/-! ## The two result rings

Stated for any pair of a ring buffer of eight slots and a result array of 512 blocks, with the ring's eight semaphores. -/

theorem inb11 (s : Fin 8) : ∀ a, (![s.val, 0, 0] : Fin 3 → Nat) a + S1x8x7168.size a ≤ S8x8x7168.size a := by
  have := s.isLt; intro a; fin_cases a
  · show s.val + 1 ≤ 8; omega
  · show 0 + 8 ≤ 8; omega
  · show 0 + 7168 ≤ 7168; omega
theorem inbBlk (g : Fin 512) : ∀ a, (![g.val, 0, 0] : Fin 3 → Nat) a + S1x8x7168.size a ≤ S512x8x7168.size a := by
  have := g.isLt; intro a; fin_cases a
  · show g.val + 1 ≤ 512; omega
  · show 0 + 8 ≤ 8; omega
  · show 0 + 7168 ≤ 7168; omega

/-- The semaphore of result slot `s`. -/
def oSem (A : DmaSems sig S8) (s : Fin 8) : DmaSem sig := ((A.slice (Rect.unit (s := S8) ![s.val] S1.size (inbC 8 s))).squeeze S_ squeezes_S1_S_).sem
/-- Result slot `s`. -/
def oSlot (M : Memref sig .tc .vmem S8x8x7168 .bf16) (s : Fin 8) : Memref sig .tc .vmem S8x7168 .bf16 :=
  (M.slice (Rect.unit (s := S8x8x7168) ![s.val, 0, 0] S1x8x7168.size (inb11 s)) (fun _ => rfl)).squeeze S8x7168 squeezes_S1x8x7168_S8x7168
/-- Block `g` of a result. -/
def oBlk (H : Memref sig .tc .hbm S512x8x7168 .bf16) (g : Fin 512) : Memref sig .tc .hbm S8x7168 .bf16 :=
  (H.slice (Rect.unit (s := S512x8x7168) ![g.val, 0, 0] S1x8x7168.size (inbBlk g)) (fun _ => rfl)).squeeze S8x7168 squeezes_S1x8x7168_S8x7168
/-- The slot of block `g`. -/
def sl8 (g : ℕ) : Fin 8 := ⟨g % 8, Nat.mod_lt _ (by decide)⟩

/-- What a result's blocks come to hold. -/
abbrev Blks (F : FTy → Type) : Type := Fin 512 → S8x7168.Idx → Elt F .bf16

variable (A : DmaSems sig S8) (M : Memref sig .tc .vmem S8x8x7168 .bf16) (H : Memref sig .tc .hbm S512x8x7168 .bf16)

/-- A block's transfer, arrived: the block at its final contents, and the slot back. -/
def oD (c : Dev nD) (X : Blks F) (g : Fin 512) : sProp 𝕄 :=
  iprop(owns (c : Thread nD τ) (oBlk H g) fullShare (X g) ∗ owns (c : Thread nD τ) (oSlot M (sl8 g.val)) fullShare (X g))
instance oD_storable (c : Dev nD) (X : Blks F) (g : Fin 512) : Storable (upEmb : UEmb _ 𝕄) (oD (F := F) M H c X g) := by
  unfold oD; infer_instance
/-- A block's transfer, on its way. -/
def oFly (c : Dev nD) (X : Blks F) (g : Fin 512) : sProp 𝕄 :=
  Transfers.Batch EC (c : Thread nD τ) (.dma (oSem A (sl8 g.val))) () 3584 (fun _ : Fin 1 => oD (F := F) M H c X g) 1 0
/-- Slot `s` idle, at any contents. -/
def oFree (c : Dev nD) (s : Fin 8) : sProp 𝕄 :=
  iprop(semVal ((c : Thread nD τ), .dma (oSem A s)) 0 ∗ (∃ X : S8x7168.Idx → Elt F .bf16, owns (c : Thread nD τ) (oSlot M s) fullShare X))

/-- Issuing block `g`'s transfer from its slot. -/
theorem out_start (c : Dev nD) (X : Blks F) (g : Fin 512)
    {offc : Fin 1 → ℕ} {offs offd : Fin 3 → ℕ}
    (hc : ∀ a, offc a + S1.size a ≤ S8.size a) (hs : ∀ a, offs a + S1x8x7168.size a ≤ S8x8x7168.size a)
    (hd : ∀ a, offd a + S1x8x7168.size a ≤ S512x8x7168.size a)
    (ec : offc = ![(sl8 g.val).val]) (es : offs = ![(sl8 g.val).val, 0, 0]) (ed : offd = ![g.val, 0, 0])
    (h1 h2 h3) {α : Type} {k : PUnit → Prog (TpuEff nD τ sig (Elt F) Λ₀ .tc) α} {Q : α → sProp 𝕄} :
    iprop(semVal ((c : Thread nD τ), .dma (oSem A (sl8 g.val))) 0 ∗ owns (c : Thread nD τ) (oSlot M (sl8 g.val)) fullShare (X g)
      ∗ (∃ Y : S8x7168.Idx → Elt F .bf16, owns (c : Thread nD τ) (oBlk H g) fullShare Y))
    ⊢ iprop((oFly (F := F) A M H c X g -∗ wp frame (wpE (defs₀ (F := F)) Variants.none (c : Thread nD τ) none) Set.univ (k ⟨⟩) Q)
      -∗ wp frame (wpE (defs₀ (F := F)) Variants.none (c : Thread nD τ) none) Set.univ
        (.op (.enqueueDma ((M.slice (Rect.unit (s := S8x8x7168) offs S1x8x7168.size hs) (fun _ => rfl)).squeeze S8x7168 squeezes_S1x8x7168_S8x7168)
          (.here ((H.slice (Rect.unit (s := S512x8x7168) offd S1x8x7168.size hd) (fun _ => rfl)).squeeze S8x7168 squeezes_S1x8x7168_S8x7168))
          (.dma ((A.slice (Rect.unit (s := S8) offc S1.size hc)).squeeze S_ squeezes_S1_S_).sem) h1 h2 h3) k) Q) := by
  subst ec ed es
  iintro ⟨Hc, HS, ⟨%Y, HB⟩⟩ Hk
  imod (Transfers.batch_alloc' (Lvl := ℕ) EC (c : Thread nD τ) () 3584 (fun _ : Fin 1 => oD (F := F) M H c X g) (sm := .dma (oSem A (sl8 g.val))) (E := Set.univ)) $$ Hc with Hb
  unfold owns
  icases HS with ⟨%fs, %hfs, HS⟩
  icases HB with ⟨%fd, %hfd, HB⟩
  have hD : iprop(((oBlk H g).view.loc (c : Thread nD τ) ↦[(oBlk H g).view.set]{fullShare}
        ((oBlk H g).view.write (Elt F) fd (ReadAs.same.apply ((oSlot M (sl8 g.val)).view.read (Elt F) fs)) Finset.univ))
      ∗ ((oSlot M (sl8 g.val)).view.loc (c : Thread nD τ) ↦[(oSlot M (sl8 g.val)).view.set]{fullShare} fs))
      ⊢ oD (F := F) M H c X g := by
    unfold oD owns
    iintro ⟨H1, H2⟩
    isplitl [H1]
    · iexists _
      isplitr
      · ipureintro
        exact (funext fun x => View.read_write_of_mem (v := (oBlk H g).view) (Val := Elt F) fd _ (Finset.mem_univ x)).trans hfs
      · iexact H1
    · iexists fs
      isplitr; · ipureintro; exact hfs
      iexact H2
  iapply (Transfers.wp_dmaBatch EC (Λ := Λ₀) (defs := defs₀) Variants.none (c : Thread nD τ) none (src := oSlot M (sl8 g.val)) (via := ReadAs.same) (dst := oBlk H g)
    (sm := .dma (oSem A (sl8 g.val))) (Sd := (oBlk H g).view.set) (fd := fd) (fs := fs) (q := fullShare)
    (D := fun _ : Fin 1 => oD (F := F) M H c X g) (j := 0) (u := 0) () 3584 rfl (Finset.Subset.refl _) Nat.one_pos (Nat.zero_le _) hD) $$ [HS HB Hb]
  · isplitl [HS]; · iexact HS
    isplitl [HB]; · iexact HB
    iexact Hb
  iintro Hb
  iapply Hk
  unfold oFly; iexact Hb

/-- The wait for block `g`'s transfer: the block at its final contents, its slot and semaphore idle. -/
theorem out_wait (c : Dev nD) (X : Blks F) (g : Fin 512)
    {offc : Fin 1 → ℕ} (hc : ∀ a, offc a + S1.size a ≤ S8.size a) (ec : offc = ![(sl8 g.val).val])
    {srcw : Memref sig .tc .vmem S8x7168 .bf16} {dstw : Memref sig .tc .hbm S8x7168 .bf16} (hw : dstw.view.dmaCredit = 3584)
    (h1 h2) {α : Type} {k : PUnit → Prog (TpuEff nD τ sig (Elt F) Λ₀ .tc) α} {Q : α → sProp 𝕄} {W : Waits sig Unit} :
    iprop(oFly (F := F) A M H c X g ∗ owes (c : Thread nD τ) 0 W)
    ⊢ iprop((iprop(owns (c : Thread nD τ) (oBlk H g) fullShare (X g) ∗ oFree (F := F) A M c (sl8 g.val) ∗ (∃ W', owes (c : Thread nD τ) 0 W'))
        -∗ wp frame (wpE (defs₀ (F := F)) Variants.none (c : Thread nD τ) none) Set.univ (k ⟨⟩) Q)
      -∗ wp frame (wpE (defs₀ (F := F)) Variants.none (c : Thread nD τ) none) Set.univ
        (.op (.waitDma2 ((A.slice (Rect.unit (s := S8) offc S1.size hc)).squeeze S_ squeezes_S1_S_).sem srcw dstw h1 h2) k) Q) := by
  subst ec
  unfold oFly
  iintro ⟨HB, HO⟩ Hk
  iapply (Transfers.wp_waitBatchAll EC (Λ := Λ₀) (defs := defs₀) Variants.none (c : Thread nD τ) none (sem := oSem A (sl8 g.val)) (srcw := srcw) (dstw := dstw)
    (D := fun _ : Fin 1 => oD (F := F) M H c X g) (N := 3584) (J := 3584) (u := 0) () hw (by decide) (by decide)) $$ [HB HO]
  · isplitl [HB]; · iexact HB
    iexact HO
  have h1 : bigSep Finset.univ (fun _ : Fin 1 => oD (F := F) M H c X g) ⊢ oD (F := F) M H c X g :=
    BI.bigSep_elim (Finset.mem_univ (0 : Fin 1))
  iintro ⟨HD, Hv, HO⟩
  ihave HD' := h1 $$ HD
  unfold oD
  icases HD' with ⟨HB, HS⟩
  iapply Hk
  isplitl [HB]; · iexact HB
  isplitl [HS Hv]
  · unfold oFree
    isplitl [Hv]; · iexact Hv
    iexists _; iexact HS
  iexists _; iexact HO

/-! ## The rings' states between trips -/

theorem Ico_left {a b : ℕ} (h : a < b) : Finset.Ico a b = insert a (Finset.Ico (a + 1) b) := by
  ext x; simp only [Finset.mem_Ico, Finset.mem_insert]; omega
theorem Ico_right {a b : ℕ} (h : a ≤ b) : Finset.Ico a (b + 1) = insert b (Finset.Ico a b) := by
  ext x; simp only [Finset.mem_Ico, Finset.mem_insert]; omega
theorem bigSep_Ico_left {a b : ℕ} (h : a < b) (Φ : ℕ → sProp 𝕄) :
    bigSep (Finset.Ico a b) Φ = iprop(Φ a ∗ bigSep (Finset.Ico (a + 1) b) Φ) := by
  rw [Ico_left h]; exact bigSep_insert (by simp)
theorem bigSep_Ico_right {a b : ℕ} (h : a ≤ b) (Φ : ℕ → sProp 𝕄) :
    bigSep (Finset.Ico a (b + 1)) Φ = iprop(Φ b ∗ bigSep (Finset.Ico a b) Φ) := by
  rw [Ico_right h]; exact bigSep_insert (by simp)

/-- The input ring with groups `lo` up to `hi` on their way and the slots of groups `hi` up to `top` idle. -/
def inRing (c : Dev nD) (tab : Tab) (ids : Ids) (lo hi top : ℕ) : sProp 𝕄 :=
  iprop(bigSep (Finset.Ico lo hi) (fun g => Starting (F := F) c tab ids g 8) ∗ bigSep (Finset.Ico hi top) (fun g => FreeIn (F := F) c tab (sl64 g)))

theorem in_take (c : Dev nD) (tab : Tab) (ids : Ids) {lo hi top : ℕ} (h : lo < hi) :
    inRing (F := F) c tab ids lo hi top ⊢ iprop(Starting (F := F) c tab ids lo 8 ∗ inRing (F := F) c tab ids (lo + 1) hi top) := by
  unfold inRing; rw [bigSep_Ico_left h]; exact sep_assoc.1
theorem in_put (c : Dev nD) (tab : Tab) (ids : Ids) {lo hi top : ℕ} (h : hi ≤ top) {s : Fin 64} (hs : sl64 top = s) :
    iprop(inRing (F := F) c tab ids lo hi top ∗ FreeIn (F := F) c tab s) ⊢ inRing (F := F) c tab ids lo hi (top + 1) := by
  subst hs
  unfold inRing; rw [bigSep_Ico_right h]
  iintro ⟨⟨H1, H2⟩, H3⟩
  isplitl [H1]; · iexact H1
  isplitl [H3]; · iexact H3
  iexact H2
theorem in_issue (c : Dev nD) (tab : Tab) (ids : Ids) {lo hi top : ℕ} (h : lo ≤ hi) (h' : hi < top) :
    inRing (F := F) c tab ids lo hi top ⊢ iprop(FreeIn (F := F) c tab (sl64 hi) ∗ (Starting (F := F) c tab ids hi 8 -∗ inRing (F := F) c tab ids lo (hi + 1) top)) := by
  unfold inRing; rw [bigSep_Ico_left h', bigSep_Ico_right h]
  iintro ⟨H1, H2, H3⟩
  isplitl [H2]; · iexact H2
  iintro H
  isplitl [H H1]
  · isplitl [H]; · iexact H
    iexact H1
  iexact H3

/-- A block's number, as an index. -/
def bl (g : ℕ) : Fin 512 := ⟨g % 512, Nat.mod_lt _ (by decide)⟩
/-- A result ring with blocks below `lo` arrived and blocks below `hi` issued. -/
def oRing (c : Dev nD) (X : Blks F) (lo hi : ℕ) : sProp 𝕄 :=
  iprop(bigSep (Finset.Ico 0 lo) (fun g => owns (c : Thread nD τ) (oBlk H (bl g)) fullShare (X (bl g)))
    ∗ bigSep (Finset.Ico lo hi) (fun g => oFly (F := F) A M H c X (bl g))
    ∗ bigSep (Finset.Ico hi 512) (fun g => iprop(∃ Y : S8x7168.Idx → Elt F .bf16, owns (c : Thread nD τ) (oBlk H (bl g)) fullShare Y))
    ∗ bigSep (Finset.Ico hi (lo + 8)) (fun g => oFree (F := F) A M c (sl8 g)))

theorem o_wait (c : Dev nD) (X : Blks F) {lo hi : ℕ} (h : lo < hi) (h' : hi ≤ lo + 8) (hl : lo < 512) :
    oRing (F := F) A M H c X lo hi ⊢ iprop(oFly (F := F) A M H c X (bl lo)
      ∗ (iprop(owns (c : Thread nD τ) (oBlk H (bl lo)) fullShare (X (bl lo)) ∗ oFree (F := F) A M c (sl8 (bl lo).val)) -∗ oRing (F := F) A M H c X (lo + 1) hi)) := by
  have e : sl8 (bl lo).val = sl8 (lo + 8) := Fin.ext (by show lo % 512 % 8 = (lo + 8) % 8; omega)
  unfold oRing
  rw [e, bigSep_Ico_left h, bigSep_Ico_right (Nat.zero_le lo), show lo + 1 + 8 = (lo + 8) + 1 by omega, bigSep_Ico_right h']
  iintro ⟨H1, ⟨H2, H3⟩, H4, H5⟩
  isplitl [H2]; · iexact H2
  iintro ⟨H6, H7⟩
  isplitl [H6 H1]
  · isplitl [H6]; · iexact H6
    iexact H1
  isplitl [H3]; · iexact H3
  isplitl [H4]; · iexact H4
  isplitl [H7]; · iexact H7
  iexact H5
theorem o_issue (c : Dev nD) (X : Blks F) {lo hi : ℕ} (h : lo ≤ hi) (h' : hi < lo + 8) (hl : hi < 512) :
    oRing (F := F) A M H c X lo hi ⊢ iprop(oFree (F := F) A M c (sl8 (bl hi).val)
      ∗ (∃ Y : S8x7168.Idx → Elt F .bf16, owns (c : Thread nD τ) (oBlk H (bl hi)) fullShare Y)
      ∗ (oFly (F := F) A M H c X (bl hi) -∗ oRing (F := F) A M H c X lo (hi + 1))) := by
  have e : sl8 (bl hi).val = sl8 hi := Fin.ext (by show hi % 512 % 8 = hi % 8; omega)
  unfold oRing
  rw [e, bigSep_Ico_left h', bigSep_Ico_left hl, bigSep_Ico_right h]
  iintro ⟨H1, H2, ⟨H3, H4⟩, ⟨H5, H6⟩⟩
  isplitl [H5]; · iexact H5
  isplitl [H3]; · iexact H3
  iintro H
  isplitl [H1]; · iexact H1
  isplitl [H H2]
  · isplitl [H]; · iexact H
    iexact H2
  isplitl [H4]; · iexact H4
  iexact H6

end Cert.Kernel.Hand
-- ==== Proof.KStart.lean ====
module

public import proofs.«01_k».proof.Proof.KBase

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

set_option sl_exec.closedPieces true
set_option sl_exec.closedLoads true

/-- The token ids in their staging buffer. -/
def idsPt (c : Dev nD) (ids : Ids) : sProp 𝕄 :=
  (View.loc (c : Thread nD τ) (Memref.whole cc0_stg0_0 : Memref sig .tc .smem S4096 .i32).view) ↦{fullShare} ids

/-- The side condition of a row's transfer. -/
theorem chkRow (v : BitVec 32) (h : v.toNat < 32000) : ∀ a, (![(v >>> 2).toNat, 0] : Fin 2 → ℕ) a + S1x7168.size a ≤ S8000x7168.size a := by
  have e : (v >>> 2).toNat = v.toNat / 4 := by rw [BitVec.toNat_ushiftRight, Nat.shiftRight_eq_div_pow]
  intro a; fin_cases a
  · show (v >>> 2).toNat + 1 ≤ 8000; omega
  · show 0 + 7168 ≤ 7168; omega

/-- A word of the token ids, as the kernel loads it. -/
theorem rd_ids (ids : Ids) {off : Fin 1 → ℕ} (h : ∀ a, off a + S1.size a ≤ S4096.size a) {n : ℕ} (e : off = ![n]) (x) :
    (Memref.whole cc0_stg0_0 : Memref sig .tc .smem S4096 .i32).view.readAt (Elt F) (Rect.unit (s := S4096) off S1.size h).toLoadRect ids x = idAt ids n := by
  subst e
  have hn : n + 1 ≤ 4096 := h 0
  show ids _ = ids _
  refine congrArg ids (funext fun a => Fin.ext ?_)
  match a with
  | ⟨0, _⟩ =>
    have h0 : (x 0).val = 0 := by have := (x 0).isLt; change (x 0).val < 1 at this; omega
    show n + 1 * (x 0).val = n % 4096
    omega
/-- The row of the table a transfer reads, from the word loaded. -/
theorem src_ids (ids : Ids) (hid : ∀ i, (ids i).toNat < 32000) (g j n : ℕ) (hj : j < 8) (hn : n = 8 * g + j) {v : BitVec 32} (e : v = idAt ids n) :
    (![(v >>> 2).toNat, 0] : Fin 2 → ℕ) = ![(rid ids g ⟨j, hj⟩).val, 0] := by
  subst e hn
  have h : (idAt ids (8 * g + j)).toNat < 32000 := hid _
  have e : (idAt ids (8 * g + j) >>> 2).toNat = (idAt ids (8 * g + j)).toNat / 4 := by rw [BitVec.toNat_ushiftRight, Nat.shiftRight_eq_div_pow]
  have : (rid ids g ⟨j, hj⟩).val = (idAt ids (8 * g + j) >>> 2).toNat % 8000 := rfl
  rw [this, Nat.mod_eq_of_lt (by omega)]

/-- `start_row` with the slot and the row as numbers. -/
theorem start_at (c : Dev nD) (tab : Tab) (ids : Ids) (g s j : ℕ) (hj : j < 8) (hs : s = g % 64)
    {offc : Fin 1 → ℕ} {offd : Fin 3 → ℕ} {offs : Fin 2 → ℕ}
    (hc : ∀ a, offc a + S1.size a ≤ S64.size a) (hd : ∀ a, offd a + S1x1x7168.size a ≤ S64x8x7168.size a)
    (hs : ∀ a, offs a + S1x7168.size a ≤ S8000x7168.size a)
    (h1 h2 h3) {α : Type} {k : PUnit → Prog (TpuEff nD τ sig (Elt F) Λ₀ .tc) α} {Q : α → sProp 𝕄}
    (ec : offc = ![s]) (ed : offd = ![s, j, 0]) (es : offs = ![(rid ids g ⟨j, hj⟩).val, 0]) :
    Starting (F := F) c tab ids g j
    ⊢ iprop((Starting (F := F) c tab ids g (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma ((Memref.whole main_v6).slice (Rect.unit (s := S8000x7168) offs S1x7168.size hs) (fun _ => rfl))
          (.here (((Memref.whole cc0_scratch0 : Memref sig .tc .vmem S64x8x7168 .i32).slice (Rect.unit (s := S64x8x7168) offd S1x1x7168.size hd) (fun _ => rfl)).squeeze S1x7168 squeezes_S1x1x7168_S1x7168))
          (.dma ((cc0_scratch6.slice (Rect.unit (s := S64) offc S1.size hc)).squeeze S_ squeezes_S1_S_).sem) h1 h2 h3) k) Q) := by
  subst_vars
  exact start_row c tab ids g ⟨j, hj⟩ hc hd hs rfl rfl rfl h1 h2 h3

theorem t1_trip (c : Dev nD) (tab : Tab) (ids : Ids) (hid : ∀ i, (ids i).toNat < 32000) (i : Fin k0_t1_loop.trips)
    (arg1 harg1 arg3 harg3 arg4 harg4 arg5 harg5 arg6 harg6 arg8 harg8 arg9 harg9 arg10 harg10 arg11 harg11 arg12 harg12 arg14 arg15) (a : PUnit) (Q : PUnit → sProp 𝕄) :
    iprop(idsPt (F := F) c ids ∗ FreeIn (F := F) c tab (sl64 i.val) ∗ (iprop(idsPt (F := F) c ids ∗ Starting (F := F) c tab ids i.val 8) -∗ Q ⟨⟩))
    ⊢ wp frame (wpE (defs₀ (F := F)) Variants.none (c : Thread nD τ) none) Set.univ
      (k0_t1_body (F := F) (Memref.whole cc0_stg0_0) (Memref.isWhole_whole _) arg1 harg1 (Memref.whole main_v6) (Memref.isWhole_whole _) arg3 harg3 arg4 harg4
        arg5 harg5 arg6 harg6 (Memref.whole cc0_scratch0 : Memref sig .tc .vmem S64x8x7168 .i32) (Memref.isWhole_whole _) arg8 harg8 arg9 harg9 arg10 harg10 arg11 harg11 arg12 harg12 cc0_scratch6 arg14 arg15 i a) Q := by
  iintro ⟨Hids, HF, HQ⟩
  imod (start_open (F := F) c tab ids i.val) $$ HF with HF
  unfold idsPt
  sl_unfold [k0_t1_body, k0_part1_skel, k0_part2_skel]
  sl_exec (disch := exact chkRow _ (hid _))
  have hi : i.val < 63 := i.isLt
  iapply (start_at (F := F) c tab ids i.val i.val 0 (by decide) (by omega) _ _ _ _ _ _ (k0_off2_eq i) (k0_off3_eq i) ?es) $$ HF
  case es => exact src_ids ids hid i.val 0 _ (by decide) rfl (by unfold t1_trip.sl.r; exact rd_ids (F := F) ids _ rfl _)
  iintro HF
  sl_exec (disch := exact chkRow _ (hid _))
  iapply (start_at (F := F) c tab ids i.val i.val 1 (by decide) (by omega) _ _ _ _ _ _ (k0_off6_eq i) (k0_off7_eq i) ?es) $$ HF
  case es => exact src_ids ids hid i.val 1 _ (by decide) rfl (by unfold t1_trip.sl.r_1; exact rd_ids (F := F) ids _ rfl _)
  iintro HF
  sl_exec (disch := exact chkRow _ (hid _))
  iapply (start_at (F := F) c tab ids i.val i.val 2 (by decide) (by omega) _ _ _ _ _ _ (k0_off10_eq i) (k0_off11_eq i) ?es) $$ HF
  case es => exact src_ids ids hid i.val 2 _ (by decide) rfl (by unfold t1_trip.sl.r_2; exact rd_ids (F := F) ids _ rfl _)
  iintro HF
  sl_exec (disch := exact chkRow _ (hid _))
  iapply (start_at (F := F) c tab ids i.val i.val 3 (by decide) (by omega) _ _ _ _ _ _ (k0_off14_eq i) (k0_off15_eq i) ?es) $$ HF
  case es => exact src_ids ids hid i.val 3 _ (by decide) rfl (by unfold t1_trip.sl.r_3; exact rd_ids (F := F) ids _ rfl _)
  iintro HF
  sl_exec (disch := exact chkRow _ (hid _))
  iapply (start_at (F := F) c tab ids i.val i.val 4 (by decide) (by omega) _ _ _ _ _ _ (k0_off18_eq i) (k0_off19_eq i) ?es) $$ HF
  case es => exact src_ids ids hid i.val 4 _ (by decide) rfl (by unfold t1_trip.sl.r_4; exact rd_ids (F := F) ids _ rfl _)
  iintro HF
  sl_exec (disch := exact chkRow _ (hid _))
  iapply (start_at (F := F) c tab ids i.val i.val 5 (by decide) (by omega) _ _ _ _ _ _ (k0_off22_eq i) (k0_off23_eq i) ?es) $$ HF
  case es => exact src_ids ids hid i.val 5 _ (by decide) rfl (by unfold t1_trip.sl.r_5; exact rd_ids (F := F) ids _ rfl _)
  iintro HF
  sl_exec (disch := exact chkRow _ (hid _))
  iapply (start_at (F := F) c tab ids i.val i.val 6 (by decide) (by omega) _ _ _ _ _ _ (k0_off26_eq i) (k0_off27_eq i) ?es) $$ HF
  case es => exact src_ids ids hid i.val 6 _ (by decide) rfl (by unfold t1_trip.sl.r_6; exact rd_ids (F := F) ids _ rfl _)
  iintro HF
  sl_exec (disch := exact chkRow _ (hid _))
  iapply (start_at (F := F) c tab ids i.val i.val 7 (by decide) (by omega) _ _ _ _ _ _ (k0_off30_eq i) (k0_off31_eq i) ?es) $$ HF
  case es => exact src_ids ids hid i.val 7 _ (by decide) rfl (by unfold t1_trip.sl.r_7; exact rd_ids (F := F) ids _ rfl _)
  iintro HF
  sl_exec (disch := exact chkRow _ (hid _))
  sl_step
  iapply HQ
  isplitl [Hids]
  · iexact Hids
  · iexact HF

end Cert.Kernel.Hand
-- ==== Proof.KSlot.lean ====
module

public import proofs.«01_k».proof.Proof.KStart

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-- Column `y` of the chunk at column `n`. -/
def cIx (n : ℕ) (y : Fin 128) : Fin 7168 := ⟨(n + y.val) % 7168, Nat.mod_lt _ (by decide)⟩
/-- The chunk of a block at column `n`. -/
def chunkOf {α : Type} (Z : S8x7168.Idx → α) (n : ℕ) : S1x8x128.Idx → α := fun x => Z (ix2 (x 1) (cIx n (x 2)))
/-- The same chunk without its leading axis. -/
def chunk2 {α : Type} (Z : S8x7168.Idx → α) (n : ℕ) : S8x128.Idx → α := fun x => Z (ix2 (x 0) (cIx n (x 1)))

theorem emb3 {m : ℕ} {off : Fin 3 → ℕ} (h : ∀ a, off a + S1x8x128.size a ≤ (⟨3, ![m, 8, 7168]⟩ : Shape).size a) (s : Fin m) (n : ℕ) (e : off = ![s.val, 0, n])
    (x : S1x8x128.Idx) : (Rect.unit (s := ⟨3, ![m, 8, 7168]⟩) off S1x8x128.size h).emb x = ix3 s (x 1) (cIx n (x 2)) := by
  subst e
  have hn : n + 128 ≤ 7168 := h 2
  have h0 : (x 0).val = 0 := by have := (x 0).isLt; change (x 0).val < 1 at this; omega
  have h2 : (x 2).val < 128 := (x 2).isLt
  funext a
  apply Fin.ext
  match a with
  | ⟨0, _⟩ => show s.val + 1 * (x 0).val = s.val; omega
  | ⟨1, _⟩ => show 0 + 1 * (x 1).val = (x 1).val; omega
  | ⟨2, _⟩ => show n + 1 * (x 2).val = (n + (x 2).val) % 7168; rw [Nat.mod_eq_of_lt (by omega)]; omega

/-- What group `g`'s slot holds, by row and column. -/
def words (tab : Tab) (ids : Ids) (g : ℕ) : S8x7168.Idx → BitVec 32 := fun x => tab (ix2 (rid ids g (x 0)) (x 1))

/-- A chunk loaded from an input slot. -/
theorem ld7 (c : Dev nD) (tab : Tab) (ids : Ids) (g : ℕ) {off : Fin 3 → ℕ} (co : ClosedOff off) (e : co.form = ![(sl64 g).val, 0, co.form 2])
    (h : ∀ a, off a + S1x8x128.size a ≤ S64x8x7168.size a) (hl) {α : Type}
    {k : (S1x8x128.Idx → Elt F .i32) → Prog (TpuEff nD τ sig (Elt F) Λ₀ .tc) α} {Q : α → sProp 𝕄} :
    ringPt (F := F) c (slotSet (sl64 g)) (slotW tab ids g)
    ⊢ iprop((ringPt (F := F) c (slotSet (sl64 g)) (slotW tab ids g) -∗ wp frame (wpE (defs₀ (F := F)) Variants.none (c : Thread nD τ) none) Set.univ (k (chunkOf (words tab ids g) (co.form 2))) Q)
      -∗ wp frame (wpE (defs₀ (F := F)) Variants.none (c : Thread nD τ) none) Set.univ
        (.op (.load (Memref.whole cc0_scratch0 : Memref sig .tc .vmem S64x8x7168 .i32) (Rect.unit (s := S64x8x7168) off S1x8x128.size h).toLoadRect hl) k) Q) := by
  have e' : off = ![(sl64 g).val, 0, co.form 2] := co.eq.trans e
  have hv : (Memref.whole cc0_scratch0 : Memref sig .tc .vmem S64x8x7168 .i32).view.readAt (Elt F) (Rect.unit (s := S64x8x7168) off S1x8x128.size h).toLoadRect (slotW tab ids g)
      = chunkOf (words tab ids g) (co.form 2) := funext fun x => by
    show slotW tab ids g ((Rect.unit (s := S64x8x7168) off S1x8x128.size h).emb x) = _
    rw [emb3 (m := 64) h (sl64 g) _ e' x]; rfl
  rw [← hv]
  unfold ringPt
  refine wp_load Variants.none (c : Thread nD τ) none Set.univ (m := (Memref.whole cc0_scratch0 : Memref sig .tc .vmem S64x8x7168 .i32)) (S := slotSet (sl64 g)) ?_
  intro i hi
  obtain ⟨y, hy, rfl⟩ := Finset.mem_map.mp hi
  obtain ⟨x, rfl⟩ := (Rect.unit (s := S64x8x7168) off S1x8x128.size h).exists_idx_of_mem hy
  refine (mem_slot7 _ _).mpr ?_
  show ((Rect.unit (s := S64x8x7168) off S1x8x128.size h).emb x) 0 = _
  rw [emb3 (m := 64) h (sl64 g) _ e' x]

section
variable (M : Memref sig .tc .vmem S8x8x7168 .bf16)

theorem oSlot_emb (s : Fin 8) (x : S8x7168.Idx) : (oSlot M s).view.emb x = M.view.emb (ix3 s (x 0) (x 1)) := by
  have h1 : (oSlot M s).view.emb x = M.view.emb ((Rect.unit (s := S8x8x7168) ![s.val, 0, 0] S1x8x7168.size (inb11 s)).emb
      (Shape.reshapeEquiv squeezes_S1x8x7168_S8x7168.numel_eq x)) := rfl
  rw [h1, Shape.reshapeEquiv_cons_one]
  congr 1
  funext a
  apply Fin.ext
  rw [Rect.emb_apply]
  match a with
  | ⟨0, _⟩ => show s.val + 1 * 0 = s.val; omega
  | ⟨1, _⟩ => show 0 + 1 * (x 0).val = (x 0).val; omega
  | ⟨2, _⟩ => show 0 + 1 * (x 1).val = (x 1).val; omega

theorem oSlot_read (s : Fin 8) (f : M.view.ty.Contents (Elt F)) (x : S8x7168.Idx) : (oSlot M s).view.read (Elt F) f x = M.view.read (Elt F) f (ix3 s (x 0) (x 1)) := by
  have h := oSlot_emb M s x
  have hc : ∀ (a b : M.view.ty.Idx) (e : a = b) (h1 : M.view.ty.elt = .bf16), cast (congrArg (Elt F) h1) (f a) = cast (congrArg (Elt F) h1) (f b) := fun a b e h1 => by subst e; rfl
  exact hc _ _ h M.view.elt_eq

/-- The elements of a result slot. -/
def oSet (s : Fin 8) : Finset M.view.ty.Idx := (oSlot M s).view.set
/-- A result slot at contents `f` of the whole ring. -/
def oPt (c : Dev nD) (s : Fin 8) (f : M.view.ty.Contents (Elt F)) : sProp 𝕄 := (M.view.loc (c : Thread nD τ) ↦[oSet M s]{fullShare} f)

theorem owns_open (c : Dev nD) (s : Fin 8) (Z : S8x7168.Idx → Elt F .bf16) :
    owns (c : Thread nD τ) (oSlot M s) fullShare Z ⊢ iprop(∃ f : M.view.ty.Contents (Elt F), ⌜∀ x : S8x7168.Idx, M.view.read (Elt F) f (ix3 s (x 0) (x 1)) = Z x⌝ ∗ oPt (F := F) M c s f) := by
  iintro H
  unfold owns
  icases H with ⟨%f, %hf, H⟩
  iexists f
  isplitr
  · ipureintro; intro x; exact (oSlot_read M s f x).symm.trans (congrFun hf x)
  unfold oPt
  iexact H
theorem owns_close (c : Dev nD) (s : Fin 8) (Z : S8x7168.Idx → Elt F .bf16) (f : M.view.ty.Contents (Elt F))
    (hf : ∀ x : S8x7168.Idx, M.view.read (Elt F) f (ix3 s (x 0) (x 1)) = Z x) :
    oPt (F := F) M c s f ⊢ owns (c : Thread nD τ) (oSlot M s) fullShare Z := by
  iintro H
  unfold owns
  iexists f
  isplitr
  · ipureintro; funext x; exact (oSlot_read M s f x).trans (hf x)
  unfold oPt
  iexact H

theorem chunk_sub (s : Fin 8) {off : Fin 3 → ℕ} (n : ℕ) (h : ∀ a, off a + S1x8x128.size a ≤ S8x8x7168.size a) (e : off = ![s.val, 0, n]) :
    (M.access (Rect.unit (s := S8x8x7168) off S1x8x128.size h)).set ⊆ oSet M s := by
  intro i hi
  obtain ⟨x, -, rfl⟩ := Finset.mem_map.mp hi
  refine Finset.mem_map.mpr ⟨ix2 (x 1) (cIx n (x 2)), Finset.mem_univ _, ?_⟩
  refine (oSlot_emb M s _).trans ?_
  show M.view.emb _ = M.view.emb ((Rect.unit (s := S8x8x7168) off S1x8x128.size h).emb x)
  rw [emb3 (m := 8) h s n e x]
  rfl

/-- A chunk loaded from a result slot. -/
theorem ldO (c : Dev nD) (s : Fin 8) (Z : S8x7168.Idx → Elt F .bf16) {off : Fin 3 → ℕ} (co : ClosedOff off) (e : co.form = ![s.val, 0, co.form 2])
    (h : ∀ a, off a + S1x8x128.size a ≤ S8x8x7168.size a) (hl) {α : Type}
    {k : (S1x8x128.Idx → Elt F .bf16) → Prog (TpuEff nD τ sig (Elt F) Λ₀ .tc) α} {Q : α → sProp 𝕄} :
    owns (c : Thread nD τ) (oSlot M s) fullShare Z
    ⊢ iprop((owns (c : Thread nD τ) (oSlot M s) fullShare Z -∗ wp frame (wpE (defs₀ (F := F)) Variants.none (c : Thread nD τ) none) Set.univ (k (chunkOf Z (co.form 2))) Q)
      -∗ wp frame (wpE (defs₀ (F := F)) Variants.none (c : Thread nD τ) none) Set.univ
        (.op (.load M (Rect.unit (s := S8x8x7168) off S1x8x128.size h).toLoadRect hl) k) Q) := by
  have e' : off = ![s.val, 0, co.form 2] := co.eq.trans e
  iintro H Hk
  ihave H := (owns_open (F := F) M c s Z) $$ H
  icases H with ⟨%f, %hf, H⟩
  have hv : M.view.readAt (Elt F) (Rect.unit (s := S8x8x7168) off S1x8x128.size h).toLoadRect f
      = chunkOf Z (co.form 2) := funext fun x => by
    show M.view.read (Elt F) f ((Rect.unit (s := S8x8x7168) off S1x8x128.size h).emb x) = Z (ix2 (x 1) (cIx (co.form 2) (x 2)))
    rw [emb3 (m := 8) h s _ e' x, ← hf]; rfl
  rw [← hv]
  unfold oPt
  iapply (wp_load_rect Variants.none (c : Thread nD τ) none Set.univ (m := M) (r := Rect.unit (s := S8x8x7168) off S1x8x128.size h) (S := oSet M s) (f := f) (chunk_sub M s _ h e')) $$ H
  iintro H
  iapply Hk
  iapply (owns_close (F := F) M c s Z f hf)
  unfold oPt
  iexact H

/-- A result slot that holds `X` in its columns below `n`. -/
def upTo (c : Dev nD) (s : Fin 8) (X : S8x7168.Idx → Elt F .bf16) (n : ℕ) : sProp 𝕄 :=
  iprop(∃ Z, ⌜∀ x : S8x7168.Idx, (x 1).val < n → Z x = X x⌝ ∗ owns (c : Thread nD τ) (oSlot M s) fullShare Z)

theorem upTo_zero (c : Dev nD) (s : Fin 8) (X Z : S8x7168.Idx → Elt F .bf16) : owns (c : Thread nD τ) (oSlot M s) fullShare Z ⊢ upTo (F := F) M c s X 0 := by
  unfold upTo
  iintro H
  iexists Z
  isplitr; · ipureintro; exact fun x h => absurd h (Nat.not_lt_zero _)
  iexact H
theorem upTo_full (c : Dev nD) (s : Fin 8) (X : S8x7168.Idx → Elt F .bf16) : upTo (F := F) M c s X 7168 ⊢ owns (c : Thread nD τ) (oSlot M s) fullShare X := by
  unfold upTo
  iintro ⟨%Z, %hZ, H⟩
  have e : Z = X := funext fun x => hZ x (x 1).isLt
  subst e
  iexact H

/-- A load whose value is not used. -/
theorem ldD (c : Dev nD) (s : Fin 8) (X : S8x7168.Idx → Elt F .bf16) (n : ℕ) {off : Fin 3 → ℕ} (co : ClosedOff off) (e : co.form = ![s.val, 0, co.form 2])
    (h : ∀ a, off a + S1x8x128.size a ≤ S8x8x7168.size a) (hl) {α : Type}
    {k : (S1x8x128.Idx → Elt F .bf16) → Prog (TpuEff nD τ sig (Elt F) Λ₀ .tc) α} {Q : α → sProp 𝕄} :
    upTo (F := F) M c s X n
    ⊢ iprop((∀ v, upTo (F := F) M c s X n -∗ wp frame (wpE (defs₀ (F := F)) Variants.none (c : Thread nD τ) none) Set.univ (k v) Q)
      -∗ wp frame (wpE (defs₀ (F := F)) Variants.none (c : Thread nD τ) none) Set.univ
        (.op (.load M (Rect.unit (s := S8x8x7168) off S1x8x128.size h).toLoadRect hl) k) Q) := by
  iintro H Hk
  unfold upTo
  icases H with ⟨%Z, %hZ, H⟩
  iapply (ldO M c s Z co e h hl) $$ H
  iintro H
  iapply Hk $$ %_
  iexists Z
  isplitr; · ipureintro; exact hZ
  iexact H

/-- The store of the next chunk. -/
theorem stO (c : Dev nD) (s : Fin 8) (X : S8x7168.Idx → Elt F .bf16) (n : ℕ) {off : Fin 3 → ℕ} (co : ClosedOff off) (e : co.form = ![s.val, 0, n])
    (h : ∀ a, off a + S1x8x128.size a ≤ S8x8x7168.size a) (w : S1x8x128.Idx → Elt F .bf16) (hw : w = chunkOf X n) (h1 h2) {α : Type}
    {k : PUnit → Prog (TpuEff nD τ sig (Elt F) Λ₀ .tc) α} {Q : α → sProp 𝕄} :
    upTo (F := F) M c s X n
    ⊢ iprop((upTo (F := F) M c s X (n + 128) -∗ wp frame (wpE (defs₀ (F := F)) Variants.none (c : Thread nD τ) none) Set.univ (k ⟨⟩) Q)
      -∗ wp frame (wpE (defs₀ (F := F)) Variants.none (c : Thread nD τ) none) Set.univ
        (.op (.store M (Rect.unit (s := S8x8x7168) off S1x8x128.size h) w Finset.univ h1 h2) k) Q) := by
  have e' : off = ![s.val, 0, n] := co.eq.trans e
  subst hw
  iintro H Hk
  unfold upTo
  icases H with ⟨%Z, %hZ, H⟩
  ihave H := (owns_open (F := F) M c s Z) $$ H
  icases H with ⟨%f, %hf, H⟩
  unfold oPt
  iapply (wp_store Variants.none (c : Thread nD τ) none Set.univ (m := M) (r := Rect.unit (s := S8x8x7168) off S1x8x128.size h) (S := oSet M s) (f := f) (chunk_sub M s n h e')) $$ H
  iintro H
  iapply Hk
  iexists (fun x : S8x7168.Idx => M.view.read (Elt F) ((M.access (Rect.unit (s := S8x8x7168) off S1x8x128.size h)).write (Elt F) f (chunkOf X n) Finset.univ) (ix3 s (x 0) (x 1)))
  isplitr
  swap
  · iapply (owns_close (F := F) M c s _ _ (fun _ => rfl))
    unfold oPt
    iexact H
  · ipureintro
    intro x hx
    have hn : n + 128 ≤ 7168 := by subst e'; exact h 2
    by_cases hlt : (x 1).val < n
    · refine (View.read_slice_write_of_not_mem (v := M.view) (Rect.unit (s := S8x8x7168) off S1x8x128.size h) f _ _ ?_).trans ((hf x).trans (hZ x hlt))
      intro hm
      obtain ⟨y, -, hy⟩ := Finset.mem_map.mp hm
      have h3 := (emb3 (m := 8) h s n e' y).symm.trans hy
      have h4 : cIx n (y 2) = x 1 := congrFun h3 2
      have h5 : (n + (y 2).val) % 7168 = (x 1).val := congrArg Fin.val h4
      have h6 : (y 2).val < 128 := (y 2).isLt
      rw [Nat.mod_eq_of_lt (by omega)] at h5
      omega
    · have h6 : (x 1).val - n < 128 := by omega
      have hc : cIx n (⟨(x 1).val - n, h6⟩ : Fin 128) = x 1 := Fin.ext (by
          show (n + ((x 1).val - n)) % 7168 = (x 1).val
          have : (x 1).val < 7168 := (x 1).isLt
          rw [Nat.mod_eq_of_lt (by omega)]; omega)
      have hx' : (Rect.unit (s := S8x8x7168) off S1x8x128.size h).emb (ix3 (0 : Fin 1) (x 0) (⟨(x 1).val - n, h6⟩ : Fin 128)) = ix3 s (x 0) (x 1) := by
        rw [emb3 (m := 8) h s n e']
        show ix3 s (x 0) (cIx n (⟨(x 1).val - n, h6⟩ : Fin 128)) = _
        rw [hc]
        rfl
      refine (congrArg (M.view.read (Elt F) _) hx'.symm).trans ?_
      refine (View.read_slice_write_emb (v := M.view) (Rect.unit (s := S8x8x7168) off S1x8x128.size h) f _ (Finset.mem_univ _)).trans ?_
      show X (ix2 (x 0) (cIx n (⟨(x 1).val - n, h6⟩ : Fin 128))) = X x
      rw [hc]
      congr 1
      funext a; match a with | ⟨0, _⟩ => rfl | ⟨1, _⟩ => rfl
end
end Cert.Kernel.Hand
-- ==== Proof.KVals.lean ====
module

public import proofs.«01_k».proof.Proof.KSlot
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-- A block from its chunks. -/
def glue {α : Type} (f : ℕ → S8x128.Idx → α) : S8x7168.Idx → α :=
  fun x => f ((x 1).val / 128) (ix2 (x 0) (⟨(x 1).val % 128, Nat.mod_lt _ (by decide)⟩ : Fin 128))

theorem cast_chunk {α : Type} (Z : S8x7168.Idx → α) (n : ℕ) : shapeCast S8x128 (chunkOf Z n) shapeCasts_S1x8x128_S8x128 = chunk2 Z n := by
  funext x
  show chunkOf Z n (Shape.reshapeEquiv _ x) = _
  rw [Shape.reshapeEquiv_cons_one]
  rfl

theorem cast_one {α : Type} (v : S8x128.Idx → α) (x : S1x8x128.Idx) : shapeCast S1x8x128 v shapeCasts_S8x128_S1x8x128 x = v (ix2 (x 1) (x 2)) := by
  have h : x = ix3 (0 : Fin 1) (x 1) (x 2) := by
    funext a
    match a with
    | ⟨0, _⟩ => exact Fin.ext (by have := (x 0).isLt; change (x 0).val < 1 at this; show (x 0).val = 0; omega)
    | ⟨1, _⟩ => rfl
    | ⟨2, _⟩ => rfl
  rw [h]
  exact ValueIdx.shapeCast_ab_1ab_apply v _ 0 (x 1) (x 2)

theorem glue_chunk {α : Type} (f : ℕ → S8x128.Idx → α) (c : ℕ) (hc : c < 56) :
    shapeCast S1x8x128 (f c) shapeCasts_S8x128_S1x8x128 = chunkOf (glue f) (128 * c) := by
  funext x
  rw [cast_one]
  have h2 : (x 2).val < 128 := (x 2).isLt
  have e : (128 * c + (x 2).val) % 7168 = 128 * c + (x 2).val := Nat.mod_eq_of_lt (by omega)
  show f c (ix2 (x 1) (x 2)) = f ((128 * c + (x 2).val) % 7168 / 128) (ix2 (x 1) (⟨(128 * c + (x 2).val) % 7168 % 128, _⟩ : Fin 128))
  have e1 : (128 * c + (x 2).val) % 7168 / 128 = c := by rw [e]; omega
  have e2 : (⟨(128 * c + (x 2).val) % 7168 % 128, Nat.mod_lt _ (by decide)⟩ : Fin 128) = x 2 := Fin.ext (by show (128 * c + (x 2).val) % 7168 % 128 = (x 2).val; rw [e]; omega)
  rw [e1, e2]

/-- One chunk of the dequantized rows. -/
def embC (sh : S8x128.Idx → BitVec 32) (sc z : FVec F S8x128 .f32) (w : S8x128.Idx → BitVec 32) : FVec F S8x128 .bf16 :=
  truncf .bf16 (mulf (subf (sitofp .f32 (shrsi (shli w sh) (broadcast S8x128 24#32))) z) sc) bitsLt_bf16_f32
/-- The dequantized rows of a group. -/
def embV (sh : S8x128.Idx → BitVec 32) (sc z : FVec F S8x128 .f32) (W : S8x7168.Idx → BitVec 32) : S8x7168.Idx → Elt F .bf16 :=
  glue fun c => embC sh sc z (chunk2 W (128 * c))
/-- The squares of the first chunks, added up by lane. -/
def accV (E : S8x7168.Idx → Elt F .bf16) : ℕ → FVec F S8x128 .f32
  | 0 => broadcast S8x128 (Scalar.ofBits .f32 0x00000000#32)
  | c + 1 => addf (accV E c) (mulf (extf .f32 (chunk2 E (128 * c) : FVec F S8x128 .bf16) bitsLt_bf16_f32) (extf .f32 (chunk2 E (128 * c) : FVec F S8x128 .bf16) bitsLt_bf16_f32))

theorem emb_pay (sh : S8x128.Idx → BitVec 32) (sc z : FVec F S8x128 .f32) (W : S8x7168.Idx → BitVec 32) (c : ℕ) (hc : c < 56) :
    shapeCast S1x8x128 (embC sh sc z (shapeCast S8x128 (chunkOf W (128 * c)) shapeCasts_S1x8x128_S8x128)) shapeCasts_S8x128_S1x8x128 = chunkOf (embV sh sc z W) (128 * c) := by
  rw [cast_chunk]
  exact glue_chunk (fun c => embC sh sc z (chunk2 W (128 * c))) c hc
end Cert.Kernel.Hand
-- ==== Proof.KRows.lean ====
module

public import proofs.«01_k».proof.Proof.KVals

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-- A row of a stored plane fits it. -/
theorem inbR (r : Fin 8) : ∀ a, (![r.val, 0] : Fin 2 → ℕ) a + S1x128.size a ≤ S8x128.size a := by
  intro a; have := r.isLt; fin_cases a
  · show r.val + 1 ≤ 8; omega
  · show 0 + 128 ≤ 128; omega
/-- The plane read back after its eight rows were stored, each of one value. -/
theorem rows_read {κ' : Kind} {sp : Space} {e : EltTy} (v : View sig κ' sp S8x128 e) (f : Fin 8 → Elt F e) (w : Fin 8 → S1x128.Idx → Elt F e) (hw : ∀ r, w r = fun _ => f r)
    (L : List (View.Piece (Elt F) S8x128 e)) (hL : L = List.ofFn fun r : Fin 8 => ⟨Rect.unit (s := S8x128) ![r.rev.val, 0] S1x128.size (inbR r.rev), w r.rev⟩)
    (h : ∀ a, (![0, 0] : Fin 2 → ℕ) a + S8x128.size a ≤ S8x128.size a) :
    v.readCov L (Rect.unit (s := S8x128) ![0, 0] S8x128.size h).toLoadRect = fun x => f (x 0) := by
  funext y
  have hy : (Rect.unit (s := S8x128) ![0, 0] S8x128.size h).toLoadRect.idx y = y := by
    funext a; apply Fin.ext
    fin_cases a
    · show 0 + 1 * (y 0).val = (y 0).val; omega
    · show 0 + 1 * (y 1).val = (y 1).val; omega
  show v.read (Elt F) (v.writes (Elt F) v.junk L) ((Rect.unit (s := S8x128) ![0, 0] S8x128.size h).toLoadRect.idx y) = _
  rw [hy]
  refine View.read_writes_apply_of_pieces v _ (fun x => f (x 0)) L ?_ y ?_
  · intro p hp x
    rw [hL, List.mem_ofFn] at hp
    obtain ⟨r, rfl⟩ := hp
    show w r.rev x = _
    rw [hw]
    refine congrArg f (Fin.ext ?_)
    have h0 : (x 0).val < 1 := (x 0).isLt
    show r.rev.val = r.rev.val + 1 * (x 0).val
    omega
  · refine ⟨⟨Rect.unit (s := S8x128) ![(y 0 : Fin 8).rev.rev.val, 0] S1x128.size (inbR (y 0 : Fin 8).rev.rev), w (y 0 : Fin 8).rev.rev⟩, hL ▸ List.mem_ofFn.mpr ⟨(y 0 : Fin 8).rev, rfl⟩, ?_⟩
    rw [Rect.mem_set_unit]
    intro a
    have h1 : (y 1).val < 128 := (y 1).isLt
    fin_cases a
    · show (y 0 : Fin 8).rev.rev.val ≤ (y 0).val ∧ (y 0).val < (y 0 : Fin 8).rev.rev.val + 1
      rw [Fin.rev_rev]; omega
    · show 0 ≤ (y 1).val ∧ (y 1).val < 0 + 128; omega
/-- `rows_read` with the eight rows spelled out. -/
theorem rows_read8 {κ' : Kind} {sp : Space} {e : EltTy} (v : View sig κ' sp S8x128 e) (f : Fin 8 → Elt F e) {w0 w1 w2 w3 w4 w5 w6 w7 : S1x128.Idx → Elt F e} (h0 : w0 = fun _ => f 0) (h1 : w1 = fun _ => f 1) (h2 : w2 = fun _ => f 2) (h3 : w3 = fun _ => f 3) (h4 : w4 = fun _ => f 4) (h5 : w5 = fun _ => f 5) (h6 : w6 = fun _ => f 6) (h7 : w7 = fun _ => f 7)
    {i0 i1 i2 i3 i4 i5 i6 i7} (h : ∀ a, (![0, 0] : Fin 2 → ℕ) a + S8x128.size a ≤ S8x128.size a) :
    v.readCov [⟨Rect.unit (s := S8x128) ![7, 0] S1x128.size i7, w7⟩, ⟨Rect.unit (s := S8x128) ![6, 0] S1x128.size i6, w6⟩, ⟨Rect.unit (s := S8x128) ![5, 0] S1x128.size i5, w5⟩, ⟨Rect.unit (s := S8x128) ![4, 0] S1x128.size i4, w4⟩, ⟨Rect.unit (s := S8x128) ![3, 0] S1x128.size i3, w3⟩, ⟨Rect.unit (s := S8x128) ![2, 0] S1x128.size i2, w2⟩, ⟨Rect.unit (s := S8x128) ![1, 0] S1x128.size i1, w1⟩, ⟨Rect.unit (s := S8x128) ![0, 0] S1x128.size i0, w0⟩] (Rect.unit (s := S8x128) ![0, 0] S8x128.size h).toLoadRect = fun x => f (x 0) := by
  subst h0 h1 h2 h3 h4 h5 h6 h7
  exact rows_read v f (fun r _ => f r) (fun _ => rfl) _ rfl h
/-- A number looked up at a word, as the kernel loads it. -/
theorem rd_look1 (tbl : S32000.Idx → Elt F .f32) {off : Fin 1 → ℕ} (h : ∀ a, off a + S1.size a ≤ S32000.size a) {u v : BitVec 32} (e : off = ![u.toNat]) (hu : u = v) (x) :
    (Memref.whole cc0_stg1_0 : Memref sig .tc .smem S32000 .f32).view.readAt (Elt F) (Rect.unit (s := S32000) off S1.size h).toLoadRect tbl x = tbl (ix1 ⟨v.toNat % 32000, Nat.mod_lt _ (by decide)⟩) := by
  subst e hu
  have hn : u.toNat + 1 ≤ 32000 := h 0
  show tbl _ = tbl _
  refine congrArg tbl (funext fun a => Fin.ext ?_)
  match a with
  | ⟨0, _⟩ =>
    have h0 : (x 0).val = 0 := by have := (x 0).isLt; change (x 0).val < 1 at this; omega
    show u.toNat + 1 * (x 0).val = u.toNat % 32000
    omega
/-- A number looked up at a word, as the kernel loads it. -/
theorem rd_look2 (tbl : S32000.Idx → Elt F .f32) {off : Fin 1 → ℕ} (h : ∀ a, off a + S1.size a ≤ S32000.size a) {u v : BitVec 32} (e : off = ![u.toNat]) (hu : u = v) (x) :
    (Memref.whole cc0_stg2_0 : Memref sig .tc .smem S32000 .f32).view.readAt (Elt F) (Rect.unit (s := S32000) off S1.size h).toLoadRect tbl x = tbl (ix1 ⟨v.toNat % 32000, Nat.mod_lt _ (by decide)⟩) := by
  subst e hu
  have hn : u.toNat + 1 ≤ 32000 := h 0
  show tbl _ = tbl _
  refine congrArg tbl (funext fun a => Fin.ext ?_)
  match a with
  | ⟨0, _⟩ =>
    have h0 : (x 0).val = 0 := by have := (x 0).isLt; change (x 0).val < 1 at this; omega
    show u.toNat + 1 * (x 0).val = u.toNat % 32000
    omega
end Cert.Kernel.Hand
-- ==== Proof.KTrip.lean ====
module

public import proofs.«01_k».proof.Proof.KRows

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

set_option sl_exec.skeletonSkip "k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59"
set_option sl_exec.closedPieces true
set_option sl_exec.closedLoads true

/-- The scale's, the zero point's and the weight's staging buffers. -/
abbrev scalePt (c : Dev nD) (v : S32000.Idx → Elt F .f32) : sProp 𝕄 :=
  (View.loc (c : Thread nD τ) (Memref.whole cc0_stg1_0 : Memref sig .tc .smem S32000 .f32).view) ↦{fullShare} v
abbrev zeroPt (c : Dev nD) (v : S32000.Idx → Elt F .f32) : sProp 𝕄 :=
  (View.loc (c : Thread nD τ) (Memref.whole cc0_stg2_0 : Memref sig .tc .smem S32000 .f32).view) ↦{fullShare} v
def wPt (c : Dev nD) (v : S8x7168.Idx → Elt F .f32) : sProp 𝕄 :=
  (View.loc (c : Thread nD τ) (Memref.whole cc0_stg3_0 : Memref sig .tc .vmem S8x7168 .f32).view) ↦{fullShare} v
abbrev scPt (c : Dev nD) (v : S8x128.Idx → Elt F .f32) : sProp 𝕄 :=
  (View.loc (c : Thread nD τ) (Memref.whole cc0_scratch1 : Memref sig .tc .vmem S8x128 .f32).view) ↦{fullShare} v
abbrev zrPt (c : Dev nD) (v : S8x128.Idx → Elt F .f32) : sProp 𝕄 :=
  (View.loc (c : Thread nD τ) (Memref.whole cc0_scratch2 : Memref sig .tc .vmem S8x128 .f32).view) ↦{fullShare} v
abbrev shPt (c : Dev nD) (v : S8x128.Idx → BitVec 32) : sProp 𝕄 :=
  (View.loc (c : Thread nD τ) (Memref.whole cc0_scratch3 : Memref sig .tc .vmem S8x128 .i32).view) ↦{fullShare} v

/-- A conditional whose two branches both end in the same continuation `J`. -/
theorem wp_join (c : Dev nD) {α : Type} {P R : sProp 𝕄} {Q : α → sProp 𝕄} {q : Prop} [Decidable q] {A : q → Prog (TpuEff nD τ sig (Elt F) Λ₀ .tc) α} {J : Prog (TpuEff nD τ sig (Elt F) Λ₀ .tc) α}
    (hA : ∀ h, P ⊢ iprop((R -∗ wp frame (wpE (defs₀ (F := F)) Variants.none (c : Thread nD τ) none) Set.univ J Q) -∗ wp frame (wpE (defs₀ (F := F)) Variants.none (c : Thread nD τ) none) Set.univ (A h) Q))
    (hB : ¬ q → P ⊢ R) :
    P ⊢ iprop((R -∗ wp frame (wpE (defs₀ (F := F)) Variants.none (c : Thread nD τ) none) Set.univ J Q) -∗ wp frame (wpE (defs₀ (F := F)) Variants.none (c : Thread nD τ) none) Set.univ (dite q A fun _ => J) Q) := by
  by_cases h : q
  · rw [dif_pos h]; exact hA h
  · rw [dif_neg h]
    iintro HP HJ
    iapply HJ
    iapply (hB h) $$ HP

/-- The semaphore cell a trip waits on before it reuses a result slot. -/
theorem off35_eq : ∀ t : Fin k0_t2_loop.trips, k0_cond1 t = 1#1 → k0_off35 t = ![(t.val - 8) % 8] := by decide +kernel
/-- The side condition of the table look-ups by token id. -/
theorem chkId (v : BitVec 32) (h : v.toNat < 32000) : ∀ a, (![v.toNat] : Fin 1 → ℕ) a + S1.size a ≤ S32000.size a := by
  intro a; fin_cases a
  show v.toNat + 1 ≤ 32000; omega
theorem cond1_iff (t : Fin k0_t2_loop.trips) : k0_cond1 t = 1#1 ↔ 8 ≤ t.val := by revert t; decide +kernel

section
variable (A : DmaSems sig S8) (M : Memref sig .tc .vmem S8x8x7168 .bf16) (H : Memref sig .tc .hbm S512x8x7168 .bf16)
theorem sl_bl {g : ℕ} (h : g < 512) : sl8 (bl g).val = sl8 g := Fin.ext (by show g % 512 % 8 = g % 8; omega)

/-- A result slot taken up for group `g`: its semaphore, the slot as nothing of `X` yet, and the group's block. -/
theorem o_take (c : Dev nD) (X : Blks F) {lo g : ℕ} (h : lo ≤ g) (h' : g < lo + 8) (hl : g < 512) :
    oRing (F := F) A M H c X lo g ⊢ iprop(semVal ((c : Thread nD τ), .dma (oSem A (sl8 g))) 0 ∗ upTo (F := F) M c (sl8 g) (X (bl g)) (128 * 0)
      ∗ (∃ Y : S8x7168.Idx → Elt F .bf16, owns (c : Thread nD τ) (oBlk H (bl g)) fullShare Y)
      ∗ (oFly (F := F) A M H c X (bl g) -∗ oRing (F := F) A M H c X lo (g + 1))) := by
  iintro HO
  ihave HO := (o_issue (F := F) A M H c X h h' hl) $$ HO
  rw [sl_bl hl]
  unfold oFree
  icases HO with ⟨⟨Hv, ⟨%Z, HD⟩⟩, HB, HO⟩
  isplitl [Hv]; · iexact Hv
  isplitl [HD]; · iapply (upTo_zero (F := F) M c (sl8 g) _ _) $$ HD
  isplitl [HB]; · iexact HB
  iexact HO

/-- `out_start` from the slot a trip names. -/
theorem o_start (c : Dev nD) (X : Blks F) {g : ℕ} (hl : g < 512)
    {offc : Fin 1 → ℕ} {offs offd : Fin 3 → ℕ}
    (hc : ∀ a, offc a + S1.size a ≤ S8.size a) (hs : ∀ a, offs a + S1x8x7168.size a ≤ S8x8x7168.size a)
    (hd : ∀ a, offd a + S1x8x7168.size a ≤ S512x8x7168.size a)
    (ec : offc = ![(sl8 g).val]) (es : offs = ![(sl8 g).val, 0, 0]) (ed : offd = ![g, 0, 0])
    (h1 h2 h3) {α : Type} {k : PUnit → Prog (TpuEff nD τ sig (Elt F) Λ₀ .tc) α} {Q : α → sProp 𝕄} :
    iprop(semVal ((c : Thread nD τ), .dma (oSem A (sl8 g))) 0 ∗ owns (c : Thread nD τ) (oSlot M (sl8 g)) fullShare (X (bl g))
      ∗ (∃ Y : S8x7168.Idx → Elt F .bf16, owns (c : Thread nD τ) (oBlk H (bl g)) fullShare Y))
    ⊢ iprop((oFly (F := F) A M H c X (bl g) -∗ wp frame (wpE (defs₀ (F := F)) Variants.none (c : Thread nD τ) none) Set.univ (k ⟨⟩) Q)
      -∗ wp frame (wpE (defs₀ (F := F)) Variants.none (c : Thread nD τ) none) Set.univ
        (.op (.enqueueDma ((M.slice (Rect.unit (s := S8x8x7168) offs S1x8x7168.size hs) (fun _ => rfl)).squeeze S8x7168 squeezes_S1x8x7168_S8x7168)
          (.here ((H.slice (Rect.unit (s := S512x8x7168) offd S1x8x7168.size hd) (fun _ => rfl)).squeeze S8x7168 squeezes_S1x8x7168_S8x7168))
          (.dma ((A.slice (Rect.unit (s := S8) offc S1.size hc)).squeeze S_ squeezes_S1_S_).sem) h1 h2 h3) k) Q) := by
  have eb : (bl g).val = g := Nat.mod_eq_of_lt hl
  rw [← sl_bl hl] at ec es ⊢
  exact out_start (F := F) A M H c X (bl g) hc hs hd ec es (by rw [eb]; exact ed) h1 h2 h3
end

/-- The shift of a row: its token's place in the word, from the top. -/
def shV (ids : Ids) (g : ℕ) : S8x128.Idx → BitVec 32 := fun x => Scalar.muli (Scalar.subi 3#32 (Scalar.andi (idAt ids (8 * g + (x 0).val)) 3#32)) 8#32
/-- A table of numbers looked up at each row's token. -/
def lookV (ids : Ids) (v : S32000.Idx → Elt F .f32) (g : ℕ) : FVec F S8x128 .f32 := fun x => v (ix1 ⟨(idAt ids (8 * g + (x 0).val)).toNat % 32000, Nat.mod_lt _ (by decide)⟩)
/-- The scales of a group's rows, rounded. -/
def scV (ids : Ids) (v : S32000.Idx → Elt F .f32) (g : ℕ) : FVec F S8x128 .f32 := extf .f32 (truncf .bf16 (lookV ids v g) bitsLt_bf16_f32) bitsLt_bf16_f32
/-- A group's dequantized rows. -/
def embG (tab : Tab) (ids : Ids) (scale zero : S32000.Idx → Elt F .f32) (g : ℕ) : S8x7168.Idx → Elt F .bf16 :=
  embV (shV ids g) (scV ids scale g) (lookV ids zero g) (words tab ids g)

/-- The store of a dequantized chunk. -/
theorem stE (M : Memref sig .tc .vmem S8x8x7168 .bf16) (c : Dev nD) (s : Fin 8) (tab : Tab) (ids : Ids) (scale zero : S32000.Idx → Elt F .f32) (g n : ℕ) {off : Fin 3 → ℕ} (co : ClosedOff off) (e : co.form = ![s.val, 0, 128 * n])
    (hn : n < 56) (h : ∀ a, off a + S1x8x128.size a ≤ S8x8x7168.size a) (w : S1x8x128.Idx → Elt F .bf16)
    (hw : w = shapeCast S1x8x128 (embC (shV ids g) (scV ids scale g) (lookV ids zero g) (shapeCast S8x128 (chunkOf (words tab ids g) (128 * n)) shapeCasts_S1x8x128_S8x128)) shapeCasts_S8x128_S1x8x128) (h1 h2) {α : Type}
    {k : PUnit → Prog (TpuEff nD τ sig (Elt F) Λ₀ .tc) α} {Q : α → sProp 𝕄} :
    upTo (F := F) M c s (embG tab ids scale zero g) (128 * n)
    ⊢ iprop((upTo (F := F) M c s (embG tab ids scale zero g) (128 * (n + 1)) -∗ wp frame (wpE (defs₀ (F := F)) Variants.none (c : Thread nD τ) none) Set.univ (k ⟨⟩) Q)
      -∗ wp frame (wpE (defs₀ (F := F)) Variants.none (c : Thread nD τ) none) Set.univ
        (.op (.store M (Rect.unit (s := S8x8x7168) off S1x8x128.size h) w Finset.univ h1 h2) k) Q) :=
  stO M c s _ _ co e h w (hw.trans (emb_pay _ _ _ _ n hn)) h1 h2

/-- The squares of a group's first chunks, added up by lane. -/
def accG (tab : Tab) (ids : Ids) (scale zero : S32000.Idx → Elt F .f32) (g : ℕ) : ℕ → FVec F S8x128 .f32
  | 0 => broadcast S8x128 (Scalar.ofBits .f32 0x00000000#32)
  | n + 1 => addf (accG tab ids scale zero g n)
      (mulf (extf .f32 (embC (shV ids g) (scV ids scale g) (lookV ids zero g) (shapeCast S8x128 (chunkOf (words tab ids g) (128 * n)) shapeCasts_S1x8x128_S8x128)) bitsLt_bf16_f32)
        (extf .f32 (embC (shV ids g) (scV ids scale g) (lookV ids zero g) (shapeCast S8x128 (chunkOf (words tab ids g) (128 * n)) shapeCasts_S1x8x128_S8x128)) bitsLt_bf16_f32))
/-- The factor a row is normalised by, from its lanes' sums of squares. -/
def rsV (acc : FVec F S8x128 .f32) : FVec F S8x128 .f32 :=
  broadcastTo S8x128 (shapeCast S8x1 (rsqrt (addf (mulf (shapeCast S8x1 (multiReduction .add [1] S8 acc 0x00000000#32 reduces_S8x128_S8 (.inl rfl) rfl) shapeCasts_S8_S8x1)
    (broadcast S8x1 (Scalar.ofBits .f32 0x39124925#32))) (broadcast S8x1 (Scalar.ofBits .f32 0x358637BD#32)))) shapeCasts_S8x1_S8x1) broadcasts_S8x1_S8x128
/-- One chunk of the normalised rows. -/
def outC (rs : FVec F S8x128 .f32) (e : FVec F S8x128 .bf16) (w : FVec F S8x128 .f32) : FVec F S8x128 .bf16 :=
  truncf .bf16 (mulf (mulf (extf .f32 e bitsLt_bf16_f32) rs) w) bitsLt_bf16_f32
/-- The normalised rows of a group. -/
def outV (rs : FVec F S8x128 .f32) (E : S8x7168.Idx → Elt F .bf16) (w : S8x7168.Idx → Elt F .f32) : S8x7168.Idx → Elt F .bf16 :=
  glue fun n => outC rs (chunk2 E (128 * n)) (chunk2 w (128 * n))
/-- A group's normalised rows. -/
def outG (tab : Tab) (ids : Ids) (scale zero : S32000.Idx → Elt F .f32) (w : S8x7168.Idx → Elt F .f32) (g : ℕ) : S8x7168.Idx → Elt F .bf16 :=
  outV (rsV (accG tab ids scale zero g 56)) (embG tab ids scale zero g) w

/-- The store of a normalised chunk. -/
theorem stN (M : Memref sig .tc .vmem S8x8x7168 .bf16) (c : Dev nD) (s : Fin 8) (rs : FVec F S8x128 .f32) (E : S8x7168.Idx → Elt F .bf16) (wt : S8x7168.Idx → Elt F .f32) (n : ℕ) {off : Fin 3 → ℕ} (co : ClosedOff off) (e : co.form = ![s.val, 0, 128 * n])
    (hn : n < 56) (h : ∀ a, off a + S1x8x128.size a ≤ S8x8x7168.size a) (w : S1x8x128.Idx → Elt F .bf16)
    (hw : w = shapeCast S1x8x128 (outC rs (shapeCast S8x128 (chunkOf E (128 * n)) shapeCasts_S1x8x128_S8x128) (shapeCast S8x128 (chunk2 wt (128 * n)) shapeCasts_S8x128_S8x128)) shapeCasts_S8x128_S1x8x128) (h1 h2) {α : Type}
    {k : PUnit → Prog (TpuEff nD τ sig (Elt F) Λ₀ .tc) α} {Q : α → sProp 𝕄} :
    upTo (F := F) M c s (outV rs E wt) (128 * n)
    ⊢ iprop((upTo (F := F) M c s (outV rs E wt) (128 * (n + 1)) -∗ wp frame (wpE (defs₀ (F := F)) Variants.none (c : Thread nD τ) none) Set.univ (k ⟨⟩) Q)
      -∗ wp frame (wpE (defs₀ (F := F)) Variants.none (c : Thread nD τ) none) Set.univ
        (.op (.store M (Rect.unit (s := S8x8x7168) off S1x8x128.size h) w Finset.univ h1 h2) k) Q) := by
  refine stO M c s _ _ co e h w (hw.trans ?_) h1 h2
  rw [cast_chunk, shapeCast_self]
  exact glue_chunk (fun n => outC rs (chunk2 E (128 * n)) (chunk2 wt (128 * n))) n hn

/-- A chunk loaded from the weight. -/
theorem ld4 (c : Dev nD) (w : S8x7168.Idx → Elt F .f32) (n : ℕ) {off : Fin 2 → ℕ} (e : off = ![0, n])
    (h : ∀ a, off a + S8x128.size a ≤ S8x7168.size a) (hl) {α : Type}
    {k : (S8x128.Idx → Elt F .f32) → Prog (TpuEff nD τ sig (Elt F) Λ₀ .tc) α} {Q : α → sProp 𝕄} :
    wPt (F := F) c w
    ⊢ iprop((wPt (F := F) c w -∗ wp frame (wpE (defs₀ (F := F)) Variants.none (c : Thread nD τ) none) Set.univ (k (chunk2 w n)) Q)
      -∗ wp frame (wpE (defs₀ (F := F)) Variants.none (c : Thread nD τ) none) Set.univ
        (.op (.load (Memref.whole cc0_stg3_0) (Rect.unit (s := S8x7168) off S8x128.size h).toLoadRect hl) k) Q) := by
  subst e
  have hv : (Memref.whole cc0_stg3_0 : Memref sig .tc .vmem S8x7168 .f32).view.readAt (Elt F) (Rect.unit (s := S8x7168) ![0, n] S8x128.size h).toLoadRect w = chunk2 w n := funext fun x => by
    show w ((Rect.unit (s := S8x7168) ![0, n] S8x128.size h).emb x) = w _
    congr 1
    have hn : n + 128 ≤ 7168 := h 1
    have h2 : (x 1).val < 128 := (x 1).isLt
    funext a
    apply Fin.ext
    match a with
    | ⟨0, _⟩ => show 0 + 1 * (x 0).val = (x 0).val; omega
    | ⟨1, _⟩ => show n + 1 * (x 1).val = (n + (x 1).val) % 7168; rw [Nat.mod_eq_of_lt (by omega)]; omega
  rw [← hv]
  unfold wPt
  exact wp_load Variants.none (c : Thread nD τ) none Set.univ (m := Memref.whole cc0_stg3_0) (S := Finset.univ) (Finset.subset_univ _)

/-- A conditional, by its two branches. -/
theorem wp_cases (c : Dev nD) {α : Type} {P : sProp 𝕄} {Q : α → sProp 𝕄} {q : Prop} [Decidable q] {A : q → Prog (TpuEff nD τ sig (Elt F) Λ₀ .tc) α} {B : ¬ q → Prog (TpuEff nD τ sig (Elt F) Λ₀ .tc) α}
    (hA : ∀ h, P ⊢ wp frame (wpE (defs₀ (F := F)) Variants.none (c : Thread nD τ) none) Set.univ (A h) Q)
    (hB : ∀ h, P ⊢ wp frame (wpE (defs₀ (F := F)) Variants.none (c : Thread nD τ) none) Set.univ (B h) Q) :
    P ⊢ wp frame (wpE (defs₀ (F := F)) Variants.none (c : Thread nD τ) none) Set.univ (dite q A B) Q := by
  by_cases h : q
  · rw [dif_pos h]; exact hA h
  · rw [dif_neg h]; exact hB h
/-- The second conditional asks whether the group 63 ahead exists. -/
theorem cond2_iff (t : Fin k0_t2_loop.trips) : k0_cond2 t = 1#1 ↔ t.val + 63 < 512 := by
  revert t; decide +kernel
/-- A part's end hands its value on. -/
theorem wp_done (c : Dev nD) {α : Type} (x : α) {Q : α → sProp 𝕄} :
    Q x ⊢ wp frame (wpE (defs₀ (F := F)) Variants.none (c : Thread nD τ) none) Set.univ ((Prog.ret PUnit.unit).bind fun _ => Pure.pure x : Prog (TpuEff nD τ sig (Elt F) Λ₀ .tc) α) Q := by
  show Q x ⊢ wp frame (wpE (defs₀ (F := F)) Variants.none (c : Thread nD τ) none) Set.univ (Pure.pure x : Prog (TpuEff nD τ sig (Elt F) Λ₀ .tc) α) Q
  rw [wp_pure]; exact fupd_intro

set_option maxHeartbeats 4000000 in
/-- One group: its words are awaited, its rows dequantised and normalised, its two results sent, and the group 63 ahead asked for. -/
theorem trip (c : Dev nD) (tab : Tab) (ids : Ids) (hid : ∀ i, (ids i).toNat < 32000) (scale zero : S32000.Idx → Elt F .f32) (w : S8x7168.Idx → Elt F .f32)
    (OUT EMB : Blks F) (t : Fin k0_t2_loop.trips) (hE : EMB (bl t.val) = embG tab ids scale zero t.val) (hO : OUT (bl t.val) = outG tab ids scale zero w t.val) (sc zr : S8x128.Idx → Elt F .f32) (sh : S8x128.Idx → BitVec 32) (W : Waits sig Unit) (a : PUnit) (Q : PUnit → sProp 𝕄) :
    iprop(idsPt (F := F) c ids ∗ scalePt (F := F) c scale ∗ zeroPt (F := F) c zero ∗ wPt (F := F) c w ∗ scPt (F := F) c sc ∗ zrPt (F := F) c zr ∗ shPt (F := F) c sh
      ∗ inRing (F := F) c tab ids t.val (min (t.val + 63) 512) (t.val + 64)
      ∗ oRing (F := F) cc0_scratch7 (Memref.whole cc0_scratch4) (Memref.whole main_v8_0) c OUT (t.val - 8) t.val
      ∗ oRing (F := F) cc0_scratch8 (Memref.whole cc0_scratch5) (Memref.whole main_v8_1) c EMB (t.val - 8) t.val
      ∗ owes (c : Thread nD τ) 0 W
      ∗ (iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
        ∗ inRing (F := F) c tab ids (t.val + 1) (min (t.val + 1 + 63) 512) (t.val + 1 + 64)
        ∗ oRing (F := F) cc0_scratch7 (Memref.whole cc0_scratch4) (Memref.whole main_v8_0) c OUT (t.val + 1 - 8) (t.val + 1)
        ∗ oRing (F := F) cc0_scratch8 (Memref.whole cc0_scratch5) (Memref.whole main_v8_1) c EMB (t.val + 1 - 8) (t.val + 1)
        ∗ (∃ W', owes (c : Thread nD τ) 0 W')) -∗ Q ⟨⟩))
    ⊢ wp frame (wpE (defs₀ (F := F)) Variants.none (c : Thread nD τ) none) Set.univ
      (k0_t2_body (F := F) (Memref.whole cc0_stg0_0) (Memref.isWhole_whole _) (Memref.whole cc0_stg1_0) (Memref.isWhole_whole _) (Memref.whole main_v6) (Memref.isWhole_whole _)
        (Memref.whole cc0_stg2_0) (Memref.isWhole_whole _) (Memref.whole cc0_stg3_0) (Memref.isWhole_whole _)
        (Memref.whole main_v8_0) (Memref.isWhole_whole _) (Memref.whole main_v8_1) (Memref.isWhole_whole _)
        (Memref.whole cc0_scratch0 : Memref sig .tc .vmem S64x8x7168 .i32) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 cc0_scratch7 cc0_scratch8 t a) Q := by
  have ht : t.val < 512 := t.isLt
  iintro ⟨Hids, Hs, Hz, Hw, H8, H9, H10, HI, HO1, HO2, HW, HQ⟩
  ihave HI := (in_take (F := F) c tab ids (lo := t.val) (hi := min (t.val + 63) 512) (top := t.val + 64) (by omega)) $$ HI
  icases HI with ⟨HS, HI⟩
  unfold idsPt
  sl_unfold [k0_t2_body]
  sl_exec (disch := exact chkId _ (hid _))
  iapply (wait_group (F := F) c tab ids t.val _ (k0_off33_eq t) rfl _ _) $$ [HS HW]
  · isplitl [HS]; · iexact HS
    iexact HW
  iintro ⟨H7, Hv7, Htok, ⟨%W1, HW⟩⟩
  sl_exec (disch := exact chkId _ (hid _))
  iapply (wp_join (F := F) c
    (P := iprop(oRing (F := F) cc0_scratch7 (Memref.whole cc0_scratch4) (Memref.whole main_v8_0) c OUT (t.val - 8) t.val
      ∗ oRing (F := F) cc0_scratch8 (Memref.whole cc0_scratch5) (Memref.whole main_v8_1) c EMB (t.val - 8) t.val ∗ (∃ W, owes (c : Thread nD τ) 0 W)))
    (R := iprop(oRing (F := F) cc0_scratch7 (Memref.whole cc0_scratch4) (Memref.whole main_v8_0) c OUT (t.val + 1 - 8) t.val
      ∗ oRing (F := F) cc0_scratch8 (Memref.whole cc0_scratch5) (Memref.whole main_v8_1) c EMB (t.val + 1 - 8) t.val ∗ (∃ W, owes (c : Thread nD τ) 0 W))) ?A ?B) $$ [HO1 HO2 HW]
  case A =>
    intro h
    have h8 : 8 ≤ t.val := (cond1_iff t).mp h
    have hb : (bl (t.val - 8)).val = t.val - 8 := Nat.mod_eq_of_lt (by omega)
    have ec : k0_off35 t = ![(sl8 (bl (t.val - 8)).val).val] := by rw [hb]; exact off35_eq t h
    have es : t.val - 8 + 1 = t.val + 1 - 8 := by omega
    iintro ⟨HO1, HO2, ⟨%W, HW⟩⟩ HJ
    sl_exec
    ihave HO1 := (o_wait (F := F) cc0_scratch7 (Memref.whole cc0_scratch4) (Memref.whole main_v8_0) c OUT (lo := t.val - 8) (hi := t.val) (by omega) (by omega) (by omega)) $$ HO1
    icases HO1 with ⟨HF, HO1⟩
    iapply (out_wait (F := F) cc0_scratch7 (Memref.whole cc0_scratch4) (Memref.whole main_v8_0) c OUT (bl (t.val - 8)) _ ec rfl _ _) $$ [HF HW]
    · isplitl [HF]; · iexact HF
      iexact HW
    iintro ⟨HB, HS, ⟨%W2, HW⟩⟩
    sl_exec
    ihave HO2 := (o_wait (F := F) cc0_scratch8 (Memref.whole cc0_scratch5) (Memref.whole main_v8_1) c EMB (lo := t.val - 8) (hi := t.val) (by omega) (by omega) (by omega)) $$ HO2
    icases HO2 with ⟨HF, HO2⟩
    iapply (out_wait (F := F) cc0_scratch8 (Memref.whole cc0_scratch5) (Memref.whole main_v8_1) c EMB (bl (t.val - 8)) _ ec rfl _ _) $$ [HF HW]
    · isplitl [HF]; · iexact HF
      iexact HW
    iintro ⟨HB2, HS2, ⟨%W3, HW⟩⟩
    iapply HJ
    rw [← es]
    isplitl [HO1 HB HS]
    · iapply HO1
      isplitl [HB]; · iexact HB
      iexact HS
    isplitl [HO2 HB2 HS2]
    · iapply HO2
      isplitl [HB2]; · iexact HB2
      iexact HS2
    iexists _; iexact HW
  case B =>
    intro h
    have h8 : ¬ 8 ≤ t.val := fun h' => h ((cond1_iff t).mpr h')
    rw [show t.val + 1 - 8 = t.val - 8 by omega]
  · isplitl [HO1]; · iexact HO1
    isplitl [HO2]; · iexact HO2
    iexists _; iexact HW
  iintro ⟨HO1, HO2, ⟨%W2, HW⟩⟩
  sl_exec (disch := exact chkId _ (hid _))
  have e301 : trip.sl.v301 (F := F) ids t = shV ids t.val := by
    unfold trip.sl.v301; sl_unfold_run_names
    refine rows_read8 (F := F) (e := .i32) _ (fun r : Fin 8 => Scalar.muli (Scalar.subi 3#32 (Scalar.andi (idAt ids (8 * t.val + r.val)) 3#32)) 8#32) ?_ ?_ ?_ ?_ ?_ ?_ ?_ ?_ _
    all_goals exact funext fun _ => congrArg (fun v => Scalar.muli (Scalar.subi 3#32 (Scalar.andi v 3#32)) 8#32) (rd_ids (F := F) ids _ rfl _)
  have e304 : trip.sl.v304 (F := F) ids hid scale t = scV ids scale t.val := by
    unfold trip.sl.v304 trip.sl.v303; sl_unfold_run_names
    refine congrArg (fun v => extf .f32 (truncf .bf16 v bitsLt_bf16_f32) bitsLt_bf16_f32) ?_
    refine rows_read8 (F := F) (e := .f32) _ (fun r : Fin 8 => scale (ix1 ⟨(idAt ids (8 * t.val + r.val)).toNat % 32000, Nat.mod_lt _ (by decide)⟩)) ?_ ?_ ?_ ?_ ?_ ?_ ?_ ?_ _
    all_goals exact funext fun _ => rd_look1 (F := F) scale _ rfl (rd_ids (F := F) ids _ rfl _) _
  have e305 : trip.sl.v305 (F := F) ids hid zero t = lookV ids zero t.val := by
    unfold trip.sl.v305; sl_unfold_run_names
    refine rows_read8 (F := F) (e := .f32) _ (fun r : Fin 8 => zero (ix1 ⟨(idAt ids (8 * t.val + r.val)).toNat % 32000, Nat.mod_lt _ (by decide)⟩)) ?_ ?_ ?_ ?_ ?_ ?_ ?_ ?_ _
    all_goals exact funext fun _ => rd_look2 (F := F) zero _ rfl (rd_ids (F := F) ids _ rfl _) _
  rw [e301, e304, e305]
  ihave HO2 := (o_take (F := F) cc0_scratch8 (Memref.whole cc0_scratch5) (Memref.whole main_v8_1) c EMB (lo := t.val + 1 - 8) (g := t.val) (by omega) (by omega) ht) $$ HO2
  icases HO2 with ⟨Hv2, HD2, HB2, HO2⟩
  rw [hE]
  iterate 56 (
    iapply (ld7 (F := F) c tab ids t.val ?co ?ce _ _) $$ H7
    case co => infer_instance
    case ce => exact rfl
    iintro H7
    try sl_exec
    iapply (ldD (F := F) (Memref.whole cc0_scratch5) c (sl8 t.val) _ _ ?co ?ce _ _) $$ HD2
    case co => infer_instance
    case ce => exact rfl
    iintro %v HD2
    try sl_exec
    iapply (stE (F := F) (Memref.whole cc0_scratch5) c (sl8 t.val) tab ids scale zero t.val _ ?co ?ce ?hn _ _ ?hw _ _) $$ HD2
    case co => infer_instance
    case ce => exact rfl
    case hn => decide
    case hw => exact rfl
    iintro HD2
    try sl_exec)
  have ers : k0_pay171 (trip.sl.v1241 (F := F) tab ids scale zero t) (trip.sl.v1251 (F := F) tab ids scale zero t) = rsV (accG tab ids scale zero t.val 56) := rfl
  ihave HO1 := (o_take (F := F) cc0_scratch7 (Memref.whole cc0_scratch4) (Memref.whole main_v8_0) c OUT (lo := t.val + 1 - 8) (g := t.val) (by omega) (by omega) ht) $$ HO1
  icases HO1 with ⟨Hv1, HD1, HB1, HO1⟩
  ihave HD2 := (upTo_full (F := F) (Memref.whole cc0_scratch5) c (sl8 t.val) (embG tab ids scale zero t.val)) $$ HD2
  have hO' : OUT (bl t.val) = outV (k0_pay171 (trip.sl.v1241 (F := F) tab ids scale zero t) (trip.sl.v1251 (F := F) tab ids scale zero t)) (embG tab ids scale zero t.val) w := hO.trans (by unfold outG; rw [ers])
  rw [hO']
  iterate 2 (
    iapply (ldO (F := F) (Memref.whole cc0_scratch5) c (sl8 t.val) _ ?co ?ce _ _) $$ HD2
    case co => infer_instance
    case ce => exact rfl
    iintro HD2
    try sl_exec
    iapply (ld4 (F := F) c w _ ?ce _ _) $$ Hw
    case ce => exact rfl
    iintro Hw
    try sl_exec
    iapply (ldD (F := F) (Memref.whole cc0_scratch4) c (sl8 t.val) _ _ ?co ?ce _ _) $$ HD1
    case co => infer_instance
    case ce => exact rfl
    iintro %v HD1
    try sl_exec
    iapply (stN (F := F) (Memref.whole cc0_scratch4) c (sl8 t.val) _ _ w _ ?co ?ce ?hn _ _ ?hw _ _) $$ HD1
    case co => infer_instance
    case ce => exact rfl
    case hn => decide
    case hw => exact rfl
    iintro HD1
    try sl_exec)
  iapply (wp_done (F := F) c)
  try sl_exec
  iterate 54 (
    iapply (ldO (F := F) (Memref.whole cc0_scratch5) c (sl8 t.val) _ ?co ?ce _ _) $$ HD2
    case co => infer_instance
    case ce => exact rfl
    iintro HD2
    try sl_exec
    iapply (ld4 (F := F) c w _ ?ce _ _) $$ Hw
    case ce => exact rfl
    iintro Hw
    try sl_exec
    iapply (ldD (F := F) (Memref.whole cc0_scratch4) c (sl8 t.val) _ _ ?co ?ce _ _) $$ HD1
    case co => infer_instance
    case ce => exact rfl
    iintro %v HD1
    try sl_exec
    iapply (stN (F := F) (Memref.whole cc0_scratch4) c (sl8 t.val) _ _ w _ ?co ?ce ?hn _ _ ?hw _ _) $$ HD1
    case co => infer_instance
    case ce => exact rfl
    case hn => decide
    case hw => exact rfl
    iintro HD1
    try sl_exec)
  ihave HD1 := (upTo_full (F := F) (Memref.whole cc0_scratch4) c (sl8 t.val) (outV (k0_pay171 (trip.sl.v1241 (F := F) tab ids scale zero t) (trip.sl.v1251 (F := F) tab ids scale zero t)) (embG tab ids scale zero t.val) w)) $$ HD1
  rw [← hO', ← hE]
  iapply (o_start (F := F) cc0_scratch7 (Memref.whole cc0_scratch4) (Memref.whole main_v8_0) c OUT ?hl _ _ _ (k0_off166_eq t) (k0_off168_eq t) (k0_off167_eq t) _ _ _) $$ [Hv1 HD1 HB1]
  case hl => exact ht
  · isplitl [Hv1]; · iexact Hv1
    isplitl [HD1]; · iexact HD1
    iexact HB1
  iintro HF
  ihave HO1 := HO1 $$ HF
  try sl_exec
  iapply (o_start (F := F) cc0_scratch8 (Memref.whole cc0_scratch5) (Memref.whole main_v8_1) c EMB ?hl _ _ _ (k0_off166_eq t) (k0_off168_eq t) (k0_off167_eq t) _ _ _) $$ [Hv2 HD2 HB2]
  case hl => exact ht
  · isplitl [Hv2]; · iexact Hv2
    isplitl [HD2]; · iexact HD2
    iexact HB2
  iintro HF
  ihave HO2 := HO2 $$ HF
  ihave HI := (in_put (F := F) c tab ids (lo := t.val + 1) (hi := min (t.val + 63) 512) (top := t.val + 64) (s := sl64 t.val) (by omega) (Fin.ext (show (t.val + 64) % 64 = t.val % 64 by omega))) $$ [HI H7 Hv7 Htok]
  · isplitl [HI]; · iexact HI
    unfold FreeIn
    isplitl [Hv7]; · iexact Hv7
    isplitl [H7]; · iexists _; iexact H7
    iexact Htok
  try sl_exec
  iapply (wp_cases (F := F) c (P := iprop(idsPt (F := F) c ids ∗ inRing (F := F) c tab ids (t.val + 1) (min (t.val + 63) 512) (t.val + 64 + 1)
    ∗ (iprop(idsPt (F := F) c ids ∗ inRing (F := F) c tab ids (t.val + 1) (min (t.val + 1 + 63) 512) (t.val + 1 + 64)) -∗ Q ⟨⟩))) ?A ?B) $$ [Hids HI Hs Hz Hw H8 H9 H10 HO1 HO2 HW HQ]
  case A =>
    intro h
    have h63 : t.val + 63 < 512 := (cond2_iff t).mp h
    rw [Nat.min_eq_left (show t.val + 63 ≤ 512 by omega), Nat.min_eq_left (show t.val + 1 + 63 ≤ 512 by omega)]
    iintro ⟨Hids, HI, HQ⟩
    ihave HI := (in_issue (F := F) c tab ids (lo := t.val + 1) (hi := t.val + 63) (top := t.val + 64 + 1) (by omega) (by omega)) $$ HI
    icases HI with ⟨HF, HI⟩
    imod (start_open (F := F) c tab ids (t.val + 63)) $$ HF with HF
    unfold idsPt
    sl_exec (disch := exact fun _ => chkRow _ (hid _))
    iapply (start_at (F := F) c tab ids (t.val + 63) ((t.val + 63) % 64) 0 (by decide) rfl _ _ _ _ _ _ (k0_off170_eq t) (k0_off171_eq t) ?es) $$ HF
    case es => exact src_ids ids hid (t.val + 63) 0 _ (by decide) (show 8 * t.val + 504 = 8 * (t.val + 63) + 0 by omega) (by unfold trip.sl.r_29; exact rd_ids (F := F) ids _ rfl _)
    iintro HF
    try sl_exec (disch := exact fun _ => chkRow _ (hid _))
    iapply (start_at (F := F) c tab ids (t.val + 63) ((t.val + 63) % 64) 1 (by decide) rfl _ _ _ _ _ _ (k0_off174_eq t) (k0_off175_eq t) ?es) $$ HF
    case es => exact src_ids ids hid (t.val + 63) 1 _ (by decide) (show 8 * t.val + 505 = 8 * (t.val + 63) + 1 by omega) (by unfold trip.sl.r_30; exact rd_ids (F := F) ids _ rfl _)
    iintro HF
    try sl_exec (disch := exact fun _ => chkRow _ (hid _))
    iapply (start_at (F := F) c tab ids (t.val + 63) ((t.val + 63) % 64) 2 (by decide) rfl _ _ _ _ _ _ (k0_off178_eq t) (k0_off179_eq t) ?es) $$ HF
    case es => exact src_ids ids hid (t.val + 63) 2 _ (by decide) (show 8 * t.val + 506 = 8 * (t.val + 63) + 2 by omega) (by unfold trip.sl.r_31; exact rd_ids (F := F) ids _ rfl _)
    iintro HF
    try sl_exec (disch := exact fun _ => chkRow _ (hid _))
    iapply (start_at (F := F) c tab ids (t.val + 63) ((t.val + 63) % 64) 3 (by decide) rfl _ _ _ _ _ _ (k0_off182_eq t) (k0_off183_eq t) ?es) $$ HF
    case es => exact src_ids ids hid (t.val + 63) 3 _ (by decide) (show 8 * t.val + 507 = 8 * (t.val + 63) + 3 by omega) (by unfold trip.sl.r_32; exact rd_ids (F := F) ids _ rfl _)
    iintro HF
    try sl_exec (disch := exact fun _ => chkRow _ (hid _))
    iapply (start_at (F := F) c tab ids (t.val + 63) ((t.val + 63) % 64) 4 (by decide) rfl _ _ _ _ _ _ (k0_off186_eq t) (k0_off187_eq t) ?es) $$ HF
    case es => exact src_ids ids hid (t.val + 63) 4 _ (by decide) (show 8 * t.val + 508 = 8 * (t.val + 63) + 4 by omega) (by unfold trip.sl.r_33; exact rd_ids (F := F) ids _ rfl _)
    iintro HF
    try sl_exec (disch := exact fun _ => chkRow _ (hid _))
    iapply (start_at (F := F) c tab ids (t.val + 63) ((t.val + 63) % 64) 5 (by decide) rfl _ _ _ _ _ _ (k0_off190_eq t) (k0_off191_eq t) ?es) $$ HF
    case es => exact src_ids ids hid (t.val + 63) 5 _ (by decide) (show 8 * t.val + 509 = 8 * (t.val + 63) + 5 by omega) (by unfold trip.sl.r_34; exact rd_ids (F := F) ids _ rfl _)
    iintro HF
    try sl_exec (disch := exact fun _ => chkRow _ (hid _))
    iapply (start_at (F := F) c tab ids (t.val + 63) ((t.val + 63) % 64) 6 (by decide) rfl _ _ _ _ _ _ (k0_off194_eq t) (k0_off195_eq t) ?es) $$ HF
    case es => exact src_ids ids hid (t.val + 63) 6 _ (by decide) (show 8 * t.val + 510 = 8 * (t.val + 63) + 6 by omega) (by unfold trip.sl.r_35; exact rd_ids (F := F) ids _ rfl _)
    iintro HF
    try sl_exec (disch := exact fun _ => chkRow _ (hid _))
    iapply (start_at (F := F) c tab ids (t.val + 63) ((t.val + 63) % 64) 7 (by decide) rfl _ _ _ _ _ _ (k0_off198_eq t) (k0_off199_eq t) ?es) $$ HF
    case es => exact src_ids ids hid (t.val + 63) 7 _ (by decide) (show 8 * t.val + 511 = 8 * (t.val + 63) + 7 by omega) (by unfold trip.sl.r_36; exact rd_ids (F := F) ids _ rfl _)
    iintro HF
    try sl_exec (disch := exact fun _ => chkRow _ (hid _))
    rw [show t.val + 1 + 63 = t.val + 63 + 1 by omega]
    sl_step
    iapply HQ
    isplitl [Hids]; · iexact Hids
    iapply HI $$ HF
  case B =>
    intro h
    have h63 : ¬ t.val + 63 < 512 := fun h' => h ((cond2_iff t).mpr h')
    rw [Nat.min_eq_right (show 512 ≤ t.val + 63 by omega), Nat.min_eq_right (show 512 ≤ t.val + 1 + 63 by omega)]
    iintro ⟨Hids, HI, HQ⟩
    sl_step
    iapply HQ
    isplitl [Hids]; · iexact Hids
    iexact HI
  · isplitl [Hids]; · unfold idsPt; iexact Hids
    isplitl [HI]; · iexact HI
    iintro ⟨Hids, HI⟩
    unfold idsPt
    iapply HQ
    isplitl [Hids]; · iexact Hids
    isplitl [Hs]; · iexact Hs
    isplitl [Hz]; · iexact Hz
    isplitl [Hw]; · iexact Hw
    isplitl [H8]; · iexists _; iexact H8
    isplitl [H9]; · iexists _; iexact H9
    isplitl [H10]; · iexists _; iexact H10
    isplitl [HI]; · iexact HI
    isplitl [HO1]; · iexact HO1
    isplitl [HO2]; · iexact HO2
    iexists _; iexact HW
end Cert.Kernel.Hand
-- ==== Proof.KBody.lean ====
module

public import proofs.«01_k».proof.Proof.KTrip

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

section
variable (A : DmaSems sig S8) (M : Memref sig .tc .vmem S8x8x7168 .bf16) (H : Memref sig .tc .hbm S512x8x7168 .bf16)
/-- The wait for the oldest result still in flight. -/
theorem o_drain (c : Dev nD) (X : Blks F) (lo : ℕ) (hlo : lo < 512) (h8 : 512 ≤ lo + 8)
    {offc : Fin 1 → ℕ} (hc : ∀ a, offc a + S1.size a ≤ S8.size a) (ec : offc = ![lo % 8])
    {srcw : Memref sig .tc .vmem S8x7168 .bf16} {dstw : Memref sig .tc .hbm S8x7168 .bf16} (hw : dstw.view.dmaCredit = 3584)
    (h1 h2) {α : Type} {k : PUnit → Prog (TpuEff nD τ sig (Elt F) Λ₀ .tc) α} {Q : α → sProp 𝕄} :
    iprop(oRing (F := F) A M H c X lo 512 ∗ (∃ W, owes (c : Thread nD τ) 0 W))
    ⊢ iprop((iprop(oRing (F := F) A M H c X (lo + 1) 512 ∗ (∃ W', owes (c : Thread nD τ) 0 W')) -∗ wp frame (wpE (defs₀ (F := F)) Variants.none (c : Thread nD τ) none) Set.univ (k ⟨⟩) Q)
      -∗ wp frame (wpE (defs₀ (F := F)) Variants.none (c : Thread nD τ) none) Set.univ
        (.op (.waitDma2 ((A.slice (Rect.unit (s := S8) offc S1.size hc)).squeeze S_ squeezes_S1_S_).sem srcw dstw h1 h2) k) Q) := by
  have hb : (bl lo).val = lo := Nat.mod_eq_of_lt hlo
  iintro ⟨HO, ⟨%W, HW⟩⟩ HJ
  ihave HO := (o_wait (F := F) A M H c X (lo := lo) (hi := 512) hlo h8 hlo) $$ HO
  icases HO with ⟨HF, HO⟩
  iapply (out_wait (F := F) A M H c X (bl lo) hc (by rw [hb]; exact ec) hw h1 h2) $$ [HF HW]
  · isplitl [HF]; · iexact HF
    iexact HW
  iintro ⟨HB, HS, ⟨%W3, HW⟩⟩
  iapply HJ
  isplitl [HO HB HS]
  · iapply HO
    isplitl [HB]; · iexact HB
    iexact HS
  iexists _; iexact HW
end

/-- What holds before step `k` of the first loop: the groups before it are asked for. -/
def inv1 (c : Dev nD) (tab : Tab) (ids : Ids) (k : ℕ) (_ : PUnit.{1}) : sProp 𝕄 :=
  iprop(idsPt (F := F) c ids ∗ inRing (F := F) c tab ids 0 k 64)

/-- What holds before group `k` of the second loop. -/
def inv2 (c : Dev nD) (tab : Tab) (ids : Ids) (scale zero : S32000.Idx → Elt F .f32) (w : S8x7168.Idx → Elt F .f32) (OUT EMB : Blks F) (k : ℕ) (_ : PUnit.{1}) : sProp 𝕄 :=
  iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
    ∗ inRing (F := F) c tab ids k (min (k + 63) 512) (k + 64)
    ∗ oRing (F := F) cc0_scratch7 (Memref.whole cc0_scratch4) (Memref.whole main_v8_0) c OUT (k - 8) k
    ∗ oRing (F := F) cc0_scratch8 (Memref.whole cc0_scratch5) (Memref.whole main_v8_1) c EMB (k - 8) k
    ∗ (∃ W', owes (c : Thread nD τ) 0 W'))

/-- The whole kernel, from its tables, rings and blocks to every block of both results written. -/
theorem kernel (c : Dev nD) (tab : Tab) (ids : Ids) (hid : ∀ i, (ids i).toNat < 32000) (scale zero : S32000.Idx → Elt F .f32) (w : S8x7168.Idx → Elt F .f32)
    (OUT EMB : Blks F) (hE : ∀ t, t < 512 → EMB (bl t) = embG tab ids scale zero t) (hO : ∀ t, t < 512 → OUT (bl t) = outG tab ids scale zero w t) (W : Waits sig Unit) (Q : PUnit → sProp 𝕄) :
    iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
      ∗ inRing (F := F) c tab ids 0 0 64
      ∗ oRing (F := F) cc0_scratch7 (Memref.whole cc0_scratch4) (Memref.whole main_v8_0) c OUT 0 0
      ∗ oRing (F := F) cc0_scratch8 (Memref.whole cc0_scratch5) (Memref.whole main_v8_1) c EMB 0 0
      ∗ owes (c : Thread nD τ) 0 W
      ∗ (iprop(idsPt (F := F) c ids ∗ scalePt (F := F) c scale ∗ zeroPt (F := F) c zero ∗ wPt (F := F) c w ∗ (∃ sc, scPt (F := F) c sc) ∗ (∃ zr, zrPt (F := F) c zr) ∗ (∃ sh, shPt (F := F) c sh)
        ∗ inRing (F := F) c tab ids 512 512 576
        ∗ oRing (F := F) cc0_scratch7 (Memref.whole cc0_scratch4) (Memref.whole main_v8_0) c OUT 512 512
        ∗ oRing (F := F) cc0_scratch8 (Memref.whole cc0_scratch5) (Memref.whole main_v8_1) c EMB 512 512
        ∗ (∃ W', owes (c : Thread nD τ) 0 W')) -∗ Q ⟨⟩))
    ⊢ wp frame (wpE (defs₀ (F := F)) Variants.none (c : Thread nD τ) none) Set.univ
      (cc0_emb_rmsnorm (F := F) (Memref.whole cc0_stg0_0) (Memref.isWhole_whole _) (Memref.whole cc0_stg1_0) (Memref.isWhole_whole _) (Memref.whole main_v6) (Memref.isWhole_whole _)
        (Memref.whole cc0_stg2_0) (Memref.isWhole_whole _) (Memref.whole cc0_stg3_0) (Memref.isWhole_whole _)
        (Memref.whole main_v8_0) (Memref.isWhole_whole _) (Memref.whole main_v8_1) (Memref.isWhole_whole _)
        (Memref.whole cc0_scratch0 : Memref sig .tc .vmem S64x8x7168 .i32) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 cc0_scratch7 cc0_scratch8) Q := by
  iintro ⟨Hids, Hs, Hz, Hw, H8, H9, H10, HI, HO1, HO2, HW, HQ⟩
  simp only [cc0_emb_rmsnorm_eq_skeleton]; unfold cc0_emb_rmsnorm_skel
  try sl_exec
  sl_for (inv1 (F := F) c tab ids) $$ [Hids HI]
  case region =>
    intro k a
    unfold inv1
    iintro ⟨Hids, HI⟩
    have hk : k.val < 63 := k.isLt
    ihave HI := (in_issue (F := F) c tab ids (lo := 0) (hi := k.val) (top := 64) (by omega) (by omega)) $$ HI
    icases HI with ⟨HF, HI⟩
    iapply (t1_trip (F := F) c tab ids hid k) $$ [Hids HF HI]
    isplitl [Hids]; · iexact Hids
    isplitl [HF]; · iexact HF
    iintro ⟨Hids, HS⟩
    isplitl [Hids]; · iexact Hids
    iapply HI $$ HS
  · unfold inv1
    isplitl [Hids]; · iexact Hids
    iexact HI
  iintro %_ H
  unfold inv1
  icases H with ⟨Hids, HI⟩
  try sl_exec
  sl_for (inv2 (F := F) c tab ids scale zero w OUT EMB) $$ [Hids Hs Hz Hw H8 H9 H10 HI HO1 HO2 HW]
  case region =>
    intro k a
    unfold inv2
    iintro ⟨Hids, Hs, Hz, Hw, ⟨%sc, H8⟩, ⟨%zr, H9⟩, ⟨%sh, H10⟩, HI, HO1, HO2, ⟨%W, HW⟩⟩
    have hk : k.val < 512 := k.isLt
    iapply (trip (F := F) c tab ids hid scale zero w OUT EMB k (hE k.val hk) (hO k.val hk) sc zr sh W a) $$ [Hids Hs Hz Hw H8 H9 H10 HI HO1 HO2 HW]
    isplitl [Hids]; · iexact Hids
    isplitl [Hs]; · iexact Hs
    isplitl [Hz]; · iexact Hz
    isplitl [Hw]; · iexact Hw
    isplitl [H8]; · iexact H8
    isplitl [H9]; · iexact H9
    isplitl [H10]; · iexact H10
    isplitl [HI]; · iexact HI
    isplitl [HO1]; · iexact HO1
    isplitl [HO2]; · iexact HO2
    isplitl [HW]; · iexact HW
    iintro H; iexact H
  · unfold inv2
    isplitl [Hids]; · iexact Hids
    isplitl [Hs]; · iexact Hs
    isplitl [Hz]; · iexact Hz
    isplitl [Hw]; · iexact Hw
    isplitl [H8]; · iexact H8
    isplitl [H9]; · iexact H9
    isplitl [H10]; · iexact H10
    isplitl [HI]; · iexact HI
    isplitl [HO1]; · iexact HO1
    isplitl [HO2]; · iexact HO2
    iexists _; iexact HW
  iintro %_ H
  have e2 : inv2 (F := F) c tab ids scale zero w OUT EMB k0_t2_loop.trips ⟨⟩ = inv2 (F := F) c tab ids scale zero w OUT EMB 512 ⟨⟩ := rfl
  unfold inv2
  icases H with ⟨Hids, Hs, Hz, Hw, H8, H9, H10, HI, HO1, HO2, HW⟩
  ihave HO1 := (show oRing (F := F) cc0_scratch7 (Memref.whole cc0_scratch4) (Memref.whole main_v8_0) c OUT (k0_t2_loop.trips - 8) k0_t2_loop.trips
    ⊢ oRing (F := F) cc0_scratch7 (Memref.whole cc0_scratch4) (Memref.whole main_v8_0) c OUT 504 512 from .rfl) $$ HO1
  ihave HO2 := (show oRing (F := F) cc0_scratch8 (Memref.whole cc0_scratch5) (Memref.whole main_v8_1) c EMB (k0_t2_loop.trips - 8) k0_t2_loop.trips
    ⊢ oRing (F := F) cc0_scratch8 (Memref.whole cc0_scratch5) (Memref.whole main_v8_1) c EMB 504 512 from .rfl) $$ HO2
  ihave HI := (show inRing (F := F) c tab ids k0_t2_loop.trips (min (k0_t2_loop.trips + 63) 512) (k0_t2_loop.trips + 64) ⊢ inRing (F := F) c tab ids 512 512 576 from .rfl) $$ HI
  try sl_exec
  iapply (o_drain (F := F) cc0_scratch7 (Memref.whole cc0_scratch4) (Memref.whole main_v8_0) c OUT 504 (by decide) (by decide) _ (k0_off201_eq 0) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 504 (by decide) (by decide) _ (k0_off201_eq 0) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 505 (by decide) (by decide) _ (k0_off201_eq 1) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 505 (by decide) (by decide) _ (k0_off201_eq 1) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 506 (by decide) (by decide) _ (k0_off201_eq 2) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 506 (by decide) (by decide) _ (k0_off201_eq 2) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 507 (by decide) (by decide) _ (k0_off201_eq 3) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 507 (by decide) (by decide) _ (k0_off201_eq 3) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 508 (by decide) (by decide) _ (k0_off201_eq 4) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 508 (by decide) (by decide) _ (k0_off201_eq 4) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 509 (by decide) (by decide) _ (k0_off201_eq 5) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 509 (by decide) (by decide) _ (k0_off201_eq 5) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 510 (by decide) (by decide) _ (k0_off201_eq 6) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 510 (by decide) (by decide) _ (k0_off201_eq 6) rfl _ _) $$ [HO2 HW]
  · isplitl [HO2]; · iexact HO2
    iexact HW
  iintro ⟨HO2, HW⟩
  try sl_exec
  iapply (o_drain (F := F) cc0_scratch7 (Memref.whole cc0_scratch4) (Memref.whole main_v8_0) c OUT 511 (by decide) (by decide) _ (k0_off201_eq 7) rfl _ _) $$ [HO1 HW]
  · isplitl [HO1]; · iexact HO1
    iexact HW
  iintro ⟨HO1, HW⟩
  try sl_exec
  iapply (o_drain (F := F) cc0_scratch8 (Memref.whole cc0_scratch5) (Memref.whole main_v8_1) c EMB 511 (by decide) (by decide) _ (k0_off201_eq 7) rfl _ _) $$ [HO2 HW]
  · isplitl [HO2]; · iexact HO2
    iexact HW
  iintro ⟨HO2, HW⟩
  try sl_exec
  sl_step
  iapply HQ
  isplitl [Hids]; · iexact Hids
  isplitl [Hs]; · iexact Hs
  isplitl [Hz]; · iexact Hz
  isplitl [Hw]; · iexact Hw
  isplitl [H8]; · iexact H8
  isplitl [H9]; · iexact H9
  isplitl [H10]; · iexact H10
  isplitl [HI]; · iexact HI
  isplitl [HO1]; · iexact HO1
  isplitl [HO2]; · iexact HO2
  iexact HW
end Cert.Kernel.Hand
-- ==== Proof.KEnds.lean ====
module

public import proofs.«01_k».proof.Proof.KBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

/-! ## Reindexing -/

/-- The sets of a family indexed by the value of a map are disjoint. -/
theorem fib_disj {ι α : Type} (I : α → Finset ι) (p : ι → α) (h : ∀ a i, i ∈ I a ↔ p i = a) : ∀ a b, a ≠ b → Disjoint (I a) (I b) :=
  fun a b hab => Finset.disjoint_left.mpr fun i h1 h2 => hab (((h a i).mp h1).symm.trans ((h b i).mp h2))
/-- and together they are everything. -/
theorem fib_cover {ι α : Type} [Fintype ι] [DecidableEq ι] [Fintype α] (I : α → Finset ι) (p : ι → α) (h : ∀ a i, i ∈ I a ↔ p i = a) :
    Finset.univ.biUnion I = Finset.univ :=
  Finset.eq_univ_iff_forall.mpr fun i => Finset.mem_biUnion.mpr ⟨p i, Finset.mem_univ _, (h _ _).mpr rfl⟩

/-- A product over `n` consecutive numbers is the product over the `n` places they name. -/
theorem bigSep_Ico_fin (n k : ℕ) (Φ : Fin n → sProp 𝕄) (f : ℕ → Fin n) (hf : ∀ s : Fin n, f (k + s.val) = s) :
    bigSep (Finset.Ico k (k + n)) (fun g => Φ (f g)) = bigSep Finset.univ Φ := by
  have e : Finset.Ico k (k + n) = Finset.univ.map ⟨fun s : Fin n => k + s.val, fun a b h => Fin.ext (by simpa using h)⟩ := by
    ext x
    simp only [Finset.mem_Ico, Finset.mem_map, Finset.mem_univ, true_and, Function.Embedding.coeFn_mk]
    constructor
    · intro h; exact ⟨⟨x - k, by omega⟩, by show k + (x - k) = x; omega⟩
    · rintro ⟨s, rfl⟩; have := s.isLt; exact ⟨Nat.le_add_right _ _, Nat.add_lt_add_left this k⟩
  rw [e, Idealize.SL.BI.bigSep_map]
  exact BI.bigSep_congr fun s _ => congrArg Φ (hf s)

/-! ## The input ring -/

/-- The whole input ring's slots. -/
theorem ring_slots (c : Dev nD) : iprop(∃ f, ringPt (F := F) c Finset.univ f) ⊢ bigSep Finset.univ fun s : Fin 64 => iprop(∃ f, ringPt (F := F) c (slotSet s) f) := by
  have e : ∀ f, ringPt (F := F) c Finset.univ f ⊢ bigSep Finset.univ fun s : Fin 64 => ringPt (F := F) c (slotSet s) f := fun f => .of_eq
    (Ring.pointsTo_sub_blocks (nD := nD) (τ := τ) (sig := sig) (Ix := Unit) (Val := Elt F) (Name := ℕ) (U := Pipeline.UC sig nD τ) (Lvl := ℕ)
      (ℓ := View.loc (c : Thread nD τ) (Memref.whole cc0_scratch0 : Memref sig .tc .vmem S64x8x7168 .i32).view) (fun s : Fin 64 => slotSet s)
      (fib_disj slotSet (fun i => i 0) mem_slot7) Finset.univ (fib_cover slotSet (fun i => i 0) mem_slot7) (q := fullShare) f)
  have h : ∀ f, (bigSep Finset.univ fun s : Fin 64 => ringPt (F := F) c (slotSet s) f) ⊢ bigSep Finset.univ fun s : Fin 64 => iprop(∃ f, ringPt (F := F) c (slotSet s) f) := fun f =>
    BI.bigSep_mono fun s _ => show ringPt (F := F) c (slotSet s) f ⊢ iprop(∃ f, ringPt (F := F) c (slotSet s) f) by iintro H; iexists f; iexact H
  iintro ⟨%f, H⟩
  iapply ((e f).trans (h f)) $$ H
/-- The slots, back to the whole ring. -/
theorem slots_ring (c : Dev nD) : (bigSep Finset.univ fun s : Fin 64 => iprop(∃ f, ringPt (F := F) c (slotSet s) f)) ⊢ iprop(∃ f, ringPt (F := F) c Finset.univ f) :=
  Ring.pointsTo_sub_blocks_join_exists (nD := nD) (τ := τ) (sig := sig) (Ix := Unit) (Val := Elt F) (Name := ℕ) (U := Pipeline.UC sig nD τ) (Lvl := ℕ)
    (ℓ := View.loc (c : Thread nD τ) (Memref.whole cc0_scratch0 : Memref sig .tc .vmem S64x8x7168 .i32).view) (fun s : Fin 64 => slotSet s)
    (fib_disj slotSet (fun i => i 0) mem_slot7) Finset.univ (fib_cover slotSet (fun i => i 0) mem_slot7) (q := fullShare) (fun _ => (0 : BitVec 32))

/-- The table of words, whole. -/
def tabFull (c : Dev nD) (tab : Tab) : sProp 𝕄 :=
  (View.loc (c : Thread nD τ) (Memref.whole main_v6 : Memref sig .tc .hbm S8000x7168 .i32).view) ↦{fullShare} tab
/-- What is left of it once the 512 read shares are dealt. -/
def tabDrop (c : Dev nD) (tab : Tab) : sProp 𝕄 :=
  (View.loc (c : Thread nD τ) (Memref.whole main_v6 : Memref sig .tc .hbm S8000x7168 .i32).view) ↦[Finset.univ]{Transfers.shareDrop fullShare 512} tab

/-- The 512 read shares, slot by slot and row by row. -/
theorem toks_eq (c : Dev nD) (tab : Tab) :
    (bigSep Finset.univ fun s : Fin 64 => bigSep Finset.univ (tok7 (F := F) c tab s)) = bigSep Finset.univ fun i : Fin 512 => tabPt (F := F) c Finset.univ i.val tab := by
  rw [show (fun s : Fin 64 => bigSep Finset.univ (tok7 (F := F) c tab s))
      = fun s : Fin 64 => bigSep Finset.univ (fun r : Fin 8 => (fun p : Fin 64 × Fin 8 => tabPt (F := F) c Finset.univ (8 * p.1.val + p.2.val) tab) (s, r)) from rfl,
    ← Idealize.SL.BI.bigSep_univ_prod (fun p : Fin 64 × Fin 8 => tabPt (F := F) c Finset.univ (8 * p.1.val + p.2.val) tab)]
  have e : (Finset.univ : Finset (Fin 512)) = Finset.univ.map (finProdFinEquiv (m := 64) (n := 8)).toEmbedding := (Finset.map_univ_equiv _).symm
  rw [e, Idealize.SL.BI.bigSep_map]
  exact BI.bigSep_congr fun p _ => congrArg (fun n => tabPt (F := F) c Finset.univ n tab)
    (show 8 * p.1.val + p.2.val = p.2.val + 8 * p.1.val from Nat.add_comm _ _)

theorem tab_split (c : Dev nD) (tab : Tab) :
    tabFull (F := F) c tab ⊢ iprop(tabDrop (F := F) c tab ∗ bigSep Finset.univ fun s : Fin 64 => bigSep Finset.univ (tok7 (F := F) c tab s)) := by
  rw [toks_eq]; unfold tabFull tabDrop tabPt
  exact Transfers.pointsTo_toks_split fullShare 512
theorem tab_join (c : Dev nD) (tab : Tab) :
    iprop(tabDrop (F := F) c tab ∗ bigSep Finset.univ fun s : Fin 64 => bigSep Finset.univ (tok7 (F := F) c tab s)) ⊢ tabFull (F := F) c tab := by
  rw [toks_eq]; unfold tabFull tabDrop tabPt
  exact Transfers.pointsTo_toks_join fullShare 512

/-- The input ring's semaphores at zero. -/
def inSems (c : Dev nD) : sProp 𝕄 := bigSep Finset.univ fun s : Fin 64 => semVal ((c : Thread nD τ), .dma (inSem s)) 0

/-- A ring with nothing issued is its 64 idle slots. -/
theorem inRing_idle (c : Dev nD) (tab : Tab) (ids : Ids) (k : ℕ) (hk : k % 64 = 0) :
    inRing (F := F) c tab ids k k (k + 64) = iprop(BI.emp ∗ inSems (F := F) c ∗ (bigSep Finset.univ fun s : Fin 64 => iprop(∃ f, ringPt (F := F) c (slotSet s) f))
      ∗ bigSep Finset.univ fun s : Fin 64 => bigSep Finset.univ (tok7 (F := F) c tab s)) := by
  unfold inRing inSems
  rw [Finset.Ico_self, BI.bigSep_empty, bigSep_Ico_fin 64 k (FreeIn (F := F) c tab) sl64 (fun s => Fin.ext (by
    have := s.isLt; show (k + s.val) % 64 = s.val; omega))]
  rw [show FreeIn (F := F) c tab = fun s => iprop(semVal ((c : Thread nD τ), .dma (inSem s)) 0 ∗ (∃ f, ringPt (F := F) c (slotSet s) f) ∗ bigSep Finset.univ (tok7 (F := F) c tab s)) from rfl,
    bigSep_sep', bigSep_sep']

/-- The input ring, from the buffer, its semaphores and the table. -/
theorem in_open (c : Dev nD) (tab : Tab) (ids : Ids) :
    iprop(inSems (F := F) c ∗ (∃ f, ringPt (F := F) c Finset.univ f) ∗ tabFull (F := F) c tab)
    ⊢ iprop(inRing (F := F) c tab ids 0 0 64 ∗ tabDrop (F := F) c tab) := by
  rw [show (64 : ℕ) = 0 + 64 from rfl, inRing_idle c tab ids 0 rfl]
  iintro ⟨Hs, Hr, Ht⟩
  ihave Ht := (tab_split c tab) $$ Ht
  icases Ht with ⟨Hd, Ht⟩
  ihave Hr := (ring_slots c) $$ Hr
  isplitr [Hd]
  · isplitr; · iempintro
    isplitl [Hs]; · iexact Hs
    isplitl [Hr]; · iexact Hr
    iexact Ht
  · iexact Hd
/-- and back. -/
theorem in_close (c : Dev nD) (tab : Tab) (ids : Ids) :
    iprop(inRing (F := F) c tab ids 512 512 576 ∗ tabDrop (F := F) c tab)
    ⊢ iprop(inSems (F := F) c ∗ (∃ f, ringPt (F := F) c Finset.univ f) ∗ tabFull (F := F) c tab) := by
  rw [show (576 : ℕ) = 512 + 64 from rfl, inRing_idle c tab ids 512 rfl]
  iintro ⟨⟨-, Hs, Hr, Ht⟩, Hd⟩
  isplitl [Hs]; · iexact Hs
  isplitl [Hr]; · iapply (slots_ring c) $$ Hr
  iapply (tab_join c tab) $$ [Hd Ht]
  isplitl [Hd]; · iexact Hd
  iexact Ht

/-! ## The result rings -/

variable (A : DmaSems sig S8) (M : Memref sig .tc .vmem S8x8x7168 .bf16) (H : Memref sig .tc .hbm S512x8x7168 .bf16)

theorem mem_oSet (s : Fin 8) (i : M.view.ty.Idx) : i ∈ oSet M s ↔ ∃ y : S8x8x7168.Idx, y 0 = s ∧ M.view.emb y = i := by
  constructor
  · intro h
    obtain ⟨x, -, hx⟩ := Finset.mem_map.mp h
    exact ⟨ix3 s (x 0) (x 1), rfl, (oSlot_emb M s x).symm.trans hx⟩
  · rintro ⟨y, hy, rfl⟩
    refine Finset.mem_map.mpr ⟨ix2 (y 1) (y 2), Finset.mem_univ _, (oSlot_emb M s _).trans ?_⟩
    congr 1
    funext a; apply Fin.ext
    match a with
    | ⟨0, _⟩ => exact congrArg Fin.val hy.symm
    | ⟨1, _⟩ => rfl
    | ⟨2, _⟩ => rfl
theorem oSet_disj : ∀ a b : Fin 8, a ≠ b → Disjoint (oSet M a) (oSet M b) := fun a b hab =>
  Finset.disjoint_left.mpr fun i h1 h2 => by
    obtain ⟨y, hy, e⟩ := (mem_oSet M a i).mp h1
    obtain ⟨z, hz, e'⟩ := (mem_oSet M b i).mp h2
    have : y = z := M.view.emb.injective (e.trans e'.symm)
    subst this; exact hab (hy.symm.trans hz)
theorem oSet_cover : (Finset.univ.biUnion fun s : Fin 8 => oSet M s) = M.view.set := Finset.ext fun i => by
  constructor
  · intro h
    obtain ⟨s, -, h⟩ := Finset.mem_biUnion.mp h
    obtain ⟨y, -, e⟩ := (mem_oSet M s i).mp h
    exact Finset.mem_map.mpr ⟨y, Finset.mem_univ _, e⟩
  · intro h
    obtain ⟨y, -, e⟩ := Finset.mem_map.mp h
    exact Finset.mem_biUnion.mpr ⟨(y 0 : Fin 8), Finset.mem_univ _, (mem_oSet M _ i).mpr ⟨y, rfl, e⟩⟩

/-- A result ring's buffer, whole. -/
def slotsPt (c : Dev nD) (f : M.view.ty.Contents (Elt F)) : sProp 𝕄 := M.view.loc (c : Thread nD τ) ↦[M.view.set]{fullShare} f

/-- A whole result ring at some contents is its slots at some contents each. -/
theorem oslots_open (c : Dev nD) : iprop(∃ f : M.view.ty.Contents (Elt F), slotsPt (F := F) M c f)
    ⊢ bigSep Finset.univ fun s : Fin 8 => iprop(∃ X : S8x7168.Idx → Elt F .bf16, owns (c : Thread nD τ) (oSlot M s) fullShare X) := by
  have e : ∀ f, slotsPt (F := F) M c f ⊢ (bigSep Finset.univ fun s : Fin 8 => oPt (F := F) M c s f) := fun f => .of_eq
    (Ring.pointsTo_sub_blocks (nD := nD) (τ := τ) (sig := sig) (Ix := Unit) (Val := Elt F) (Name := ℕ) (U := Pipeline.UC sig nD τ) (Lvl := ℕ)
      (ℓ := M.view.loc (c : Thread nD τ)) (fun s : Fin 8 => oSet M s) (oSet_disj M) M.view.set (oSet_cover M) (q := fullShare) f)
  have h : ∀ f, (bigSep Finset.univ fun s : Fin 8 => oPt (F := F) M c s f)
      ⊢ bigSep Finset.univ fun s : Fin 8 => iprop(∃ X : S8x7168.Idx → Elt F .bf16, owns (c : Thread nD τ) (oSlot M s) fullShare X) := fun f =>
    BI.bigSep_mono fun s _ => show oPt (F := F) M c s f ⊢ iprop(∃ X : S8x7168.Idx → Elt F .bf16, owns (c : Thread nD τ) (oSlot M s) fullShare X) by
      iintro H; iexists _; iapply (owns_close M c s _ f (fun x => rfl)) $$ H
  iintro ⟨%f, H⟩
  iapply ((e f).trans (h f)) $$ H
theorem oslots_close [Nonempty (M.view.ty.Contents (Elt F))] (c : Dev nD) :
    (bigSep Finset.univ fun s : Fin 8 => iprop(∃ X : S8x7168.Idx → Elt F .bf16, owns (c : Thread nD τ) (oSlot M s) fullShare X))
    ⊢ iprop(∃ f : M.view.ty.Contents (Elt F), slotsPt (F := F) M c f) := by
  have h : (bigSep Finset.univ fun s : Fin 8 => iprop(∃ X : S8x7168.Idx → Elt F .bf16, owns (c : Thread nD τ) (oSlot M s) fullShare X))
      ⊢ bigSep Finset.univ fun s : Fin 8 => iprop(∃ f, oPt (F := F) M c s f) :=
    BI.bigSep_mono fun s _ => show iprop(∃ X : S8x7168.Idx → Elt F .bf16, owns (c : Thread nD τ) (oSlot M s) fullShare X) ⊢ iprop(∃ f, oPt (F := F) M c s f) by
      iintro ⟨%X, H⟩
      ihave H := (owns_open M c s X) $$ H
      icases H with ⟨%f, -, H⟩
      iexists f; iexact H
  exact h.trans (Ring.pointsTo_sub_blocks_join_exists (nD := nD) (τ := τ) (sig := sig) (Ix := Unit) (Val := Elt F) (Name := ℕ) (U := Pipeline.UC sig nD τ) (Lvl := ℕ)
      (ℓ := M.view.loc (c : Thread nD τ)) (fun s : Fin 8 => oSet M s) (oSet_disj M) M.view.set (oSet_cover M) (q := fullShare) (Classical.arbitrary _))

/-! ## The results' blocks -/

theorem oBlk_emb (g : Fin 512) (x : S8x7168.Idx) : (oBlk H g).view.emb x = H.view.emb (ix3 g (x 0) (x 1)) := by
  have h1 : (oBlk H g).view.emb x = H.view.emb ((Rect.unit (s := S512x8x7168) ![g.val, 0, 0] S1x8x7168.size (inbBlk g)).emb
      (Shape.reshapeEquiv squeezes_S1x8x7168_S8x7168.numel_eq x)) := rfl
  rw [h1, Shape.reshapeEquiv_cons_one]
  congr 1
  funext a
  apply Fin.ext
  rw [Rect.emb_apply]
  match a with
  | ⟨0, _⟩ => show g.val + 1 * 0 = g.val; omega
  | ⟨1, _⟩ => show 0 + 1 * (x 0).val = (x 0).val; omega
  | ⟨2, _⟩ => show 0 + 1 * (x 1).val = (x 1).val; omega
theorem oBlk_read (g : Fin 512) (f : H.view.ty.Contents (Elt F)) (x : S8x7168.Idx) : (oBlk H g).view.read (Elt F) f x = H.view.read (Elt F) f (ix3 g (x 0) (x 1)) := by
  have h := oBlk_emb H g x
  have hc : ∀ (a b : H.view.ty.Idx) (e : a = b) (h1 : H.view.ty.elt = .bf16), cast (congrArg (Elt F) h1) (f a) = cast (congrArg (Elt F) h1) (f b) := fun a b e h1 => by subst e; rfl
  exact hc _ _ h H.view.elt_eq

/-- The elements of a block. -/
def bSet (g : Fin 512) : Finset H.view.ty.Idx := (oBlk H g).view.set
/-- A block at contents `f` of the whole result. -/
def bPt (c : Dev nD) (g : Fin 512) (f : H.view.ty.Contents (Elt F)) : sProp 𝕄 := (H.view.loc (c : Thread nD τ) ↦[bSet H g]{fullShare} f)

theorem mem_bSet (g : Fin 512) (i : H.view.ty.Idx) : i ∈ bSet H g ↔ ∃ y : S512x8x7168.Idx, y 0 = g ∧ H.view.emb y = i := by
  constructor
  · intro h
    obtain ⟨x, -, hx⟩ := Finset.mem_map.mp h
    exact ⟨ix3 g (x 0) (x 1), rfl, (oBlk_emb H g x).symm.trans hx⟩
  · rintro ⟨y, hy, rfl⟩
    refine Finset.mem_map.mpr ⟨ix2 (y 1) (y 2), Finset.mem_univ _, (oBlk_emb H g _).trans ?_⟩
    congr 1
    funext a; apply Fin.ext
    match a with
    | ⟨0, _⟩ => exact congrArg Fin.val hy.symm
    | ⟨1, _⟩ => rfl
    | ⟨2, _⟩ => rfl
theorem bSet_disj : ∀ a b : Fin 512, a ≠ b → Disjoint (bSet H a) (bSet H b) := fun a b hab =>
  Finset.disjoint_left.mpr fun i h1 h2 => by
    obtain ⟨y, hy, e⟩ := (mem_bSet H a i).mp h1
    obtain ⟨z, hz, e'⟩ := (mem_bSet H b i).mp h2
    have : y = z := H.view.emb.injective (e.trans e'.symm)
    subst this; exact hab (hy.symm.trans hz)
theorem bSet_cover : (Finset.univ.biUnion fun g : Fin 512 => bSet H g) = H.view.set := Finset.ext fun i => by
  constructor
  · intro h
    obtain ⟨s, -, h⟩ := Finset.mem_biUnion.mp h
    obtain ⟨y, -, e⟩ := (mem_bSet H s i).mp h
    exact Finset.mem_map.mpr ⟨y, Finset.mem_univ _, e⟩
  · intro h
    obtain ⟨y, -, e⟩ := Finset.mem_map.mp h
    exact Finset.mem_biUnion.mpr ⟨(y 0 : Fin 512), Finset.mem_univ _, (mem_bSet H _ i).mpr ⟨y, rfl, e⟩⟩

/-- What a whole result holds once its blocks hold `X`. -/
def asm (X : Blks F) : S512x8x7168.Idx → Elt F .bf16 := fun i => X (i 0) (ix2 (i 1) (i 2))

/-- A whole result is its blocks at some contents each. -/
theorem blks_open (c : Dev nD) (f : H.view.ty.Contents (Elt F)) : (H.view.loc (c : Thread nD τ) ↦[H.view.set]{fullShare} f)
    ⊢ (bigSep Finset.univ fun g : Fin 512 => iprop(∃ Y : S8x7168.Idx → Elt F .bf16, owns (c : Thread nD τ) (oBlk H g) fullShare Y) : sProp 𝕄) := by
  rw [Ring.pointsTo_sub_blocks (nD := nD) (τ := τ) (sig := sig) (Ix := Unit) (Val := Elt F) (Name := ℕ) (U := Pipeline.UC sig nD τ) (Lvl := ℕ)
      (ℓ := H.view.loc (c : Thread nD τ)) (fun s : Fin 512 => bSet H s) (bSet_disj H) H.view.set (bSet_cover H) (q := fullShare) f]
  exact BI.bigSep_mono fun g _ => show bPt (F := F) H c g f ⊢ iprop(∃ Y : S8x7168.Idx → Elt F .bf16, owns (c : Thread nD τ) (oBlk H g) fullShare Y) by
    iintro H; iexists _; unfold owns; iexists f
    isplitr; · ipureintro; rfl
    unfold bPt; iexact H
/-- Blocks at contents `X` are the whole result at any contents that read as theirs. -/
theorem blks_close (c : Dev nD) (X : Blks F) (f : H.view.ty.Contents (Elt F)) (hf : H.view.read (Elt F) f = asm X) :
    (bigSep Finset.univ fun g : Fin 512 => owns (c : Thread nD τ) (oBlk H g) fullShare (X g))
    ⊢ (H.view.loc (c : Thread nD τ) ↦[H.view.set]{fullShare} f : sProp 𝕄) := by
  rw [Ring.pointsTo_sub_blocks (nD := nD) (τ := τ) (sig := sig) (Ix := Unit) (Val := Elt F) (Name := ℕ) (U := Pipeline.UC sig nD τ) (Lvl := ℕ)
      (ℓ := H.view.loc (c : Thread nD τ)) (fun s : Fin 512 => bSet H s) (bSet_disj H) H.view.set (bSet_cover H) (q := fullShare) f]
  exact BI.bigSep_mono fun g _ => show owns (c : Thread nD τ) (oBlk H g) fullShare (X g) ⊢ bPt (F := F) H c g f by
    iintro H
    unfold owns
    icases H with ⟨%f', %hf', H⟩
    have e : ∀ i ∈ bSet H g, f' i = f i := by
      intro i hi
      obtain ⟨x, -, rfl⟩ := Finset.mem_map.mp hi
      have h1 := congrFun hf' x
      have h2 : (oBlk H g).view.read (Elt F) f x = X g x := (oBlk_read H g f x).trans ((congrFun hf _).trans (congrArg (X g) (funext fun a => by
        match a with
        | ⟨0, _⟩ => rfl
        | ⟨1, _⟩ => rfl)))
      have h3 := h1.trans h2.symm
      exact eq_of_heq (((cast_heq _ _).symm.trans (heq_of_eq h3)).trans (cast_heq _ _))
    have e' : bPt (F := F) H c g f' ⊢ bPt (F := F) H c g f := .of_eq (pointsTo_congr e)
    iapply e'
    unfold bPt; iexact H

/-- A result ring's semaphores at zero. -/
def oSems (c : Dev nD) : sProp 𝕄 := bigSep Finset.univ fun s : Fin 8 => semVal ((c : Thread nD τ), .dma (oSem A s)) 0

theorem oFrees (c : Dev nD) (k : ℕ) (hk : k % 8 = 0) :
    (bigSep (Finset.Ico k (k + 8)) fun g => oFree (F := F) A M c (sl8 g))
      = iprop(oSems (F := F) A c ∗ bigSep Finset.univ fun s : Fin 8 => iprop(∃ X : S8x7168.Idx → Elt F .bf16, owns (c : Thread nD τ) (oSlot M s) fullShare X)) := by
  rw [bigSep_Ico_fin 8 k (oFree (F := F) A M c) sl8 (fun s => Fin.ext (by
    have := s.isLt; show (k + s.val) % 8 = s.val; omega))]
  unfold oFree oSems
  rw [bigSep_sep']

theorem bl_id (s : Fin 512) : bl (0 + s.val) = s := Fin.ext (by have := s.isLt; show (0 + s.val) % 512 = s.val; omega)

/-- A result ring with nothing issued, from its semaphores, its buffer and the result. -/
theorem o_open (c : Dev nD) (X : Blks F) (f : H.view.ty.Contents (Elt F)) :
    iprop(oSems (F := F) A c ∗ (∃ f : M.view.ty.Contents (Elt F), slotsPt (F := F) M c f)
      ∗ (H.view.loc (c : Thread nD τ) ↦[H.view.set]{fullShare} f))
    ⊢ oRing (F := F) A M H c X 0 0 := by
  unfold oRing
  rw [Finset.Ico_self, BI.bigSep_empty, BI.bigSep_empty, oFrees A M c 0 rfl,
    bigSep_Ico_fin 512 0 (fun g => iprop(∃ Y : S8x7168.Idx → Elt F .bf16, owns (c : Thread nD τ) (oBlk H g) fullShare Y)) bl bl_id]
  iintro ⟨Hs, Hm, Hh⟩
  ihave Hm := (oslots_open M c) $$ Hm
  ihave Hh := (blks_open H c f) $$ Hh
  isplitr; · iempintro
  isplitr; · iempintro
  isplitl [Hh]; · iexact Hh
  isplitl [Hs]; · iexact Hs
  iexact Hm
/-- A result ring with every block arrived is its semaphores, its buffer and the result at its final contents. -/
theorem o_close [Nonempty (M.view.ty.Contents (Elt F))] (c : Dev nD) (X : Blks F) (f : H.view.ty.Contents (Elt F)) (hf : H.view.read (Elt F) f = asm X) :
    oRing (F := F) A M H c X 512 512
    ⊢ iprop(oSems (F := F) A c ∗ (∃ f : M.view.ty.Contents (Elt F), slotsPt (F := F) M c f)
      ∗ (H.view.loc (c : Thread nD τ) ↦[H.view.set]{fullShare} f)) := by
  unfold oRing
  rw [Finset.Ico_self, BI.bigSep_empty, BI.bigSep_empty, oFrees A M c 512 rfl,
    bigSep_Ico_fin 512 0 (fun g => owns (c : Thread nD τ) (oBlk H g) fullShare (X g)) bl bl_id]
  iintro ⟨Hh, -, -, Hs, Hm⟩
  isplitl [Hs]; · iexact Hs
  isplitl [Hm]; · iapply (oslots_close M c) $$ Hm
  iapply (blks_close H c X f hf) $$ Hh

end Cert.Kernel.Hand

end
-- ==== Proof.KFrame.lean ====
module

public import proofs.«01_k».proof.Proof.KEnds
public import proofs.«01_k».proof.Proof.Gen.Kernel.Frame
public import Idealize.ShloMosaic.Lib.Pipeline.ValueKit
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ
local notation "EC" => Idealize.ShloMosaic.countersEmb (sig := sig) (Ix := Unit) (Val := Elt F) (Name := ℕ) (U := Pipeline.UC sig nD τ) (Lvl := ℕ) (nD := nD) (τ := τ)

open Idealize.ShloMosaic.Pipeline (Dat Cfg Window BodyObligation)

variable (m : (ℓ : Loc nD τ sig) → Buf (Elt F) ℓ) (ρ : Dev nD → PrngReg)

/-! ## What the kernel is entered with, and what it leaves -/

/-- The token ids, the table of words, the scales, the zero points and the weight, as the kernel finds them. -/
def idsOf (c : Dev nD) : Ids := V m c main_v0
def tabOf (c : Dev nD) : Tab := V m c main_v6
def scaleOf (c : Dev nD) : S32000.Idx → Elt F .f32 := V m c main_arg2
def zeroOf (c : Dev nD) : S32000.Idx → Elt F .f32 := V m c main_v7
def wOf (c : Dev nD) : S8x7168.Idx → Elt F .f32 := V m c main_v3
/-- The embedding rows of each group, and the normalized rows. -/
def embOf (c : Dev nD) : Blks F := fun g => embG (tabOf m c) (idsOf m c) (scaleOf m c) (zeroOf m c) g.val
def outOf (c : Dev nD) : Blks F := fun g => outG (tabOf m c) (idsOf m c) (scaleOf m c) (zeroOf m c) (wOf m c) g.val

/-- The buffers the kernel copies from and to itself. -/
def R0 : Finset (Ref sig .tc) := {main_v6, main_v8_0, main_v8_1}
theorem R0_sub : R0 ⊆ Pipeline.restRefs sig spec0 := by decide

/-- What the buffers hold at the end. -/
def Yof (c : Dev nD) : (b : Ref sig .tc) → Buf (Elt F) ((c : Thread nD τ).loc b) :=
  Function.update (Function.update (V m c) main_v8_0 (asm (outOf m c))) main_v8_1 (asm (embOf m c))

/-- The kernel's own semaphores: the input slots', and the two results' slots'. -/
def osem0 : Fin 64 ⊕ (Fin 8 ⊕ Fin 8) → SemLoc sig
  | .inl s => .dma (inSem s)
  | .inr (.inl s) => .dma (oSem cc0_scratch7 s)
  | .inr (.inr s) => .dma (oSem cc0_scratch8 s)
theorem ownSemFacts0 : Pipeline.OwnSemFacts spec0 osem0 := by decide +kernel

/-- What a kernel's ends hold, part by part. -/
def Parts (c : Dev nD) (W : (b : Ref sig .tc) → Buf (Elt F) ((c : Thread nD τ).loc b)) : sProp 𝕄 :=
  iprop((tabFull (F := F) c (W main_v6) ∗ (((c : Thread nD τ).loc main_v8_0) ↦{fullShare} W main_v8_0) ∗ (((c : Thread nD τ).loc main_v8_1) ↦{fullShare} W main_v8_1))
    ∗ (inSems (F := F) c ∗ oSems (F := F) cc0_scratch7 c ∗ oSems (F := F) cc0_scratch8 c)
    ∗ ((∃ f, ringPt (F := F) c Finset.univ f) ∗ (∃ v, scPt (F := F) c v) ∗ (∃ v, zrPt (F := F) c v) ∗ (∃ v, shPt (F := F) c v)
      ∗ (∃ f, slotsPt (F := F) (Memref.whole cc0_scratch4) c f) ∗ (∃ f, slotsPt (F := F) (Memref.whole cc0_scratch5) c f))
    ∗ (∃ r, prngReg c r))

theorem routed_eq (c : Dev nD) (W : (b : Ref sig .tc) → Buf (Elt F) ((c : Thread nD τ).loc b)) :
    (Pipeline.routed R0 c W : sProp 𝕄) = iprop(tabFull (F := F) c (W main_v6) ∗ (((c : Thread nD τ).loc main_v8_0) ↦{fullShare} W main_v8_0) ∗ (((c : Thread nD τ).loc main_v8_1) ↦{fullShare} W main_v8_1)) := by
  unfold Pipeline.routed
  exact bigSep_eq_bigSepL_of_eq [main_v6, main_v8_0, main_v8_1] (by decide) (by decide) _

theorem ownSems_eq (c : Dev nD) :
    (Pipeline.ownSems0 osem0 c : sProp 𝕄) = iprop(inSems (F := F) c ∗ oSems (F := F) cc0_scratch7 c ∗ oSems (F := F) cc0_scratch8 c) := by
  unfold Pipeline.ownSems0 inSems oSems
  rw [BI.bigSep_univ_sum, BI.bigSep_univ_sum]
  rfl

theorem scoped_eq (c : Dev nD) :
    (Pipeline.scopedRest (Ix := Unit) (Name := ℕ) (U := Pipeline.UC sig nD τ) (Lvl := ℕ) (Val := Elt F) spec0 c : sProp 𝕄)
      ⊣⊢ iprop((∃ f, ringPt (F := F) c Finset.univ f) ∗ (∃ v, scPt (F := F) c v) ∗ (∃ v, zrPt (F := F) c v) ∗ (∃ v, shPt (F := F) c v)
      ∗ (∃ f, slotsPt (F := F) (Memref.whole cc0_scratch4) c f) ∗ (∃ f, slotsPt (F := F) (Memref.whole cc0_scratch5) c f)) := by
  have e4 : (Memref.whole cc0_scratch4 : Memref sig .tc .vmem S8x8x7168 .bf16).view.set = Finset.univ := View.set_whole _
  have e5 : (Memref.whole cc0_scratch5 : Memref sig .tc .vmem S8x8x7168 .bf16).view.set = Finset.univ := View.set_whole _
  rw [scopedRest0_eq]
  unfold slotsPt ringPt
  rw [e4, e5]
  exact .rfl

theorem ends_open (c : Dev nD) (W : (b : Ref sig .tc) → Buf (Elt F) ((c : Thread nD τ).loc b)) : (Pipeline.Ends spec0 osem0 R0 c W : sProp 𝕄) ⊢ Parts (F := F) c W := by
  unfold Pipeline.Ends Parts
  rw [routed_eq, ownSems_eq]
  iintro ⟨H1, H2, H3, H4⟩
  ihave H3 := (scoped_eq (F := F) c).1 $$ H3
  isplitl [H1]; · iexact H1
  isplitl [H2]; · iexact H2
  isplitl [H3]; · iexact H3
  iexact H4
theorem ends_close (c : Dev nD) (W : (b : Ref sig .tc) → Buf (Elt F) ((c : Thread nD τ).loc b)) : Parts (F := F) c W ⊢ (Pipeline.Ends spec0 osem0 R0 c W : sProp 𝕄) := by
  unfold Pipeline.Ends Parts
  rw [routed_eq, ownSems_eq]
  iintro ⟨H1, H2, H3, H4⟩
  ihave H3 := (scoped_eq (F := F) c).2 $$ H3
  isplitl [H1]; · iexact H1
  isplitl [H2]; · iexact H2
  isplitl [H3]; · iexact H3
  iexact H4

theorem Y_v6 (c : Dev nD) : Yof m c main_v6 = V m c main_v6 := by
  unfold Yof
  rw [Function.update_of_ne (by decide), Function.update_of_ne (by decide)]
theorem Y_out (c : Dev nD) : Yof m c main_v8_0 = asm (outOf m c) := by
  unfold Yof
  rw [Function.update_of_ne (by decide), Function.update_self]
theorem Y_emb (c : Dev nD) : Yof m c main_v8_1 = asm (embOf m c) := by
  unfold Yof
  rw [Function.update_self]

/-! ## The run's data -/

/-- The proof data of the one region. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then Pipeline.Ends spec0 osem0 R0 c (V m c) else Pipeline.Ends spec0 osem0 R0 c (Yof m c)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

theorem idx : ∀ t : Fin cfg0.N, win0_0.index t = ![0] ∧ win0_1.index t = ![0] ∧ win0_2.index t = ![0] ∧ win0_3.index t = ![0, 0] :=
  (by decide +kernel : ∀ t : Fin grid0.N, _)

theorem iblk_0 (c : Dev nD) (t : Fin cfg0.N) : iblk m c 0 t = idsOf m c := by
  unfold idsOf; blk_ext! [iblk, idx t]
theorem iblk_1 (c : Dev nD) (t : Fin cfg0.N) : iblk m c 1 t = scaleOf m c := by
  unfold scaleOf; blk_ext! [iblk, idx t]
theorem iblk_2 (c : Dev nD) (t : Fin cfg0.N) : iblk m c 2 t = zeroOf m c := by
  unfold zeroOf; blk_ext! [iblk, idx t]
theorem iblk_3 (c : Dev nD) (t : Fin cfg0.N) : iblk m c 3 t = wOf m c := by
  unfold wOf; blk_ext! [iblk, idx t]

/-! ## The body -/

/-- The staged windows as the body finds and leaves them. -/
theorem stage_open (c : Dev nD) (t : Fin cfg0.N) :
    iprop((∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d)))
    ⊢ iprop(idsPt (F := F) c (idsOf m c) ∗ scalePt (F := F) c (scaleOf m c) ∗ zeroPt (F := F) c (zeroOf m c) ∗ wPt (F := F) c (wOf m c)) := by
  obtain rfl := fin_N0 t
  have h0 : ∀ d, owns (c : Thread nD τ) (st0_0 t0_0) fullShare ((dats m 0 c).before 0 t0_0 d) ⊢ idsPt (F := F) c (idsOf m c) := fun d => by
    rw [before0_0, iblk_0]; unfold idsPt; exact .of_eq (owns_whole _ _ _ _)
  have h1 : ∀ d, owns (c : Thread nD τ) (st0_1 t0_0) fullShare ((dats m 0 c).before 1 t0_0 d) ⊢ scalePt (F := F) c (scaleOf m c) := fun d => by
    rw [before0_1, iblk_1]; exact .of_eq (owns_whole _ _ _ _)
  have h2 : ∀ d, owns (c : Thread nD τ) (st0_2 t0_0) fullShare ((dats m 0 c).before 2 t0_0 d) ⊢ zeroPt (F := F) c (zeroOf m c) := fun d => by
    rw [before0_2, iblk_2]; exact .of_eq (owns_whole _ _ _ _)
  have h3 : ∀ d, owns (c : Thread nD τ) (st0_3 t0_0) fullShare ((dats m 0 c).before 3 t0_0 d) ⊢ wPt (F := F) c (wOf m c) := fun d => by
    rw [before0_3, iblk_3]; unfold wPt; exact .of_eq (owns_whole _ _ _ _)
  iintro ⟨⟨%d0, H0⟩, ⟨%d1, H1⟩, ⟨%d2, H2⟩, ⟨%d3, H3⟩⟩
  isplitl [H0]; · iapply (h0 d0) $$ H0
  isplitl [H1]; · iapply (h1 d1) $$ H1
  isplitl [H2]; · iapply (h2 d2) $$ H2
  iapply (h3 d3) $$ H3
theorem stage_close (c : Dev nD) (t : Fin cfg0.N) :
    iprop(idsPt (F := F) c (idsOf m c) ∗ scalePt (F := F) c (scaleOf m c) ∗ zeroPt (F := F) c (zeroOf m c) ∗ wPt (F := F) c (wOf m c))
    ⊢ iprop(owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)) := by
  obtain rfl := fin_N0 t
  have h0 : idsPt (F := F) c (idsOf m c) ⊢ owns (c : Thread nD τ) (st0_0 t0_0) fullShare ((dats m 0 c).after 0 t0_0) := by
    rw [after0_0, iblk_0]; unfold idsPt; exact .of_eq (owns_whole _ _ _ _).symm
  have h1 : scalePt (F := F) c (scaleOf m c) ⊢ owns (c : Thread nD τ) (st0_1 t0_0) fullShare ((dats m 0 c).after 1 t0_0) := by
    rw [after0_1, iblk_1]; exact .of_eq (owns_whole _ _ _ _).symm
  have h2 : zeroPt (F := F) c (zeroOf m c) ⊢ owns (c : Thread nD τ) (st0_2 t0_0) fullShare ((dats m 0 c).after 2 t0_0) := by
    rw [after0_2, iblk_2]; exact .of_eq (owns_whole _ _ _ _).symm
  have h3 : wPt (F := F) c (wOf m c) ⊢ owns (c : Thread nD τ) (st0_3 t0_0) fullShare ((dats m 0 c).after 3 t0_0) := by
    rw [after0_3, iblk_3]; unfold wPt; exact .of_eq (owns_whole _ _ _ _).symm
  iintro ⟨H0, H1, H2, H3⟩
  isplitl [H0]; · iapply h0 $$ H0
  isplitl [H1]; · iapply h1 $$ H1
  isplitl [H2]; · iapply h2 $$ H2
  iapply h3 $$ H3

theorem bl_lt (t : ℕ) (h : t < 512) : (bl t).val = t := Nat.mod_eq_of_lt h

/-- The body at the region's one point. -/
theorem body_run (c : Dev nD) (t : Fin cfg0.N) (hid : ∀ i, (idsOf m c i).toNat < 32000) (W : Waits sig Unit) (Q : PUnit → sProp 𝕄) :
    iprop((idsPt (F := F) c (idsOf m c) ∗ scalePt (F := F) c (scaleOf m c) ∗ zeroPt (F := F) c (zeroOf m c) ∗ wPt (F := F) c (wOf m c))
      ∗ Parts (F := F) c (V m c) ∗ owes (c : Thread nD τ) 0 W
      ∗ (iprop((idsPt (F := F) c (idsOf m c) ∗ scalePt (F := F) c (scaleOf m c) ∗ zeroPt (F := F) c (zeroOf m c) ∗ wPt (F := F) c (wOf m c))
        ∗ Parts (F := F) c (Yof m c) ∗ (∃ W', owes (c : Thread nD τ) 0 W')) -∗ Q ⟨⟩))
    ⊢ wp frame (wpE (defs₀ (F := F)) Variants.none (c : Thread nD τ) none) Set.univ (bodyAt0 t) Q := by
  obtain rfl := fin_N0 t
  have e0 : (Memref.whole main_v8_0 : Memref sig .tc .hbm S512x8x7168 .bf16).view.set = Finset.univ := View.set_whole _
  have e1 : (Memref.whole main_v8_1 : Memref sig .tc .hbm S512x8x7168 .bf16).view.set = Finset.univ := View.set_whole _
  have o0 := o_open (F := F) cc0_scratch7 (Memref.whole cc0_scratch4) (Memref.whole main_v8_0) c (outOf m c) (V m c main_v8_0)
  have o1 := o_open (F := F) cc0_scratch8 (Memref.whole cc0_scratch5) (Memref.whole main_v8_1) c (embOf m c) (V m c main_v8_1)
  haveI : Nonempty ((Memref.whole cc0_scratch4 : Memref sig .tc .vmem S8x8x7168 .bf16).view.ty.Contents (Elt F)) := ⟨fun i => Scalar.ofBits .bf16 0⟩
  haveI : Nonempty ((Memref.whole cc0_scratch5 : Memref sig .tc .vmem S8x8x7168 .bf16).view.ty.Contents (Elt F)) := ⟨fun i => Scalar.ofBits .bf16 0⟩
  have c0 := o_close (F := F) cc0_scratch7 (Memref.whole cc0_scratch4) (Memref.whole main_v8_0) c (outOf m c) (asm (outOf m c)) rfl
  have c1 := o_close (F := F) cc0_scratch8 (Memref.whole cc0_scratch5) (Memref.whole main_v8_1) c (embOf m c) (asm (embOf m c)) rfl
  rw [e0] at o0 c0
  rw [e1] at o1 c1
  unfold Parts
  rw [Y_v6, Y_out, Y_emb]
  iintro ⟨⟨Hi, Hs, Hz, Hw⟩, ⟨⟨Ht, Hy0, Hy1⟩, ⟨Hm, Hm0, Hm1⟩, ⟨Hr, H8, H9, H10, Hl0, Hl1⟩, Hg⟩, HW, HQ⟩
  ihave HI := (in_open (F := F) c (tabOf m c) (idsOf m c)) $$ [Hm Hr Ht]
  · isplitl [Hm]; · iexact Hm
    isplitl [Hr]; · iexact Hr
    iexact Ht
  icases HI with ⟨HI, Hd⟩
  ihave HO0 := o0 $$ [Hm0 Hl0 Hy0]
  · isplitl [Hm0]; · iexact Hm0
    isplitl [Hl0]; · iexact Hl0
    iexact Hy0
  ihave HO1 := o1 $$ [Hm1 Hl1 Hy1]
  · isplitl [Hm1]; · iexact Hm1
    isplitl [Hl1]; · iexact Hl1
    iexact Hy1
  iapply (kernel (F := F) c (tabOf m c) (idsOf m c) hid (scaleOf m c) (zeroOf m c) (wOf m c) (outOf m c) (embOf m c)
    (fun t h => by unfold embOf; rw [bl_lt t h]) (fun t h => by unfold outOf; rw [bl_lt t h]) W Q)
  isplitl [Hi]; · iexact Hi
  isplitl [Hs]; · iexact Hs
  isplitl [Hz]; · iexact Hz
  isplitl [Hw]; · iexact Hw
  isplitl [H8]; · iexact H8
  isplitl [H9]; · iexact H9
  isplitl [H10]; · iexact H10
  isplitl [HI]; · iexact HI
  isplitl [HO0]; · iexact HO0
  isplitl [HO1]; · iexact HO1
  isplitl [HW]; · iexact HW
  iintro ⟨Hi, Hs, Hz, Hw, H8, H9, H10, HI, HO0, HO1, HW⟩
  ihave HI := (in_close (F := F) c (tabOf m c) (idsOf m c)) $$ [HI Hd]
  · isplitl [HI]; · iexact HI
    iexact Hd
  icases HI with ⟨Hm, Hr, Ht⟩
  ihave HO0 := c0 $$ HO0
  ihave HO1 := c1 $$ HO1
  icases HO0 with ⟨Hm0, Hl0, Hy0⟩
  icases HO1 with ⟨Hm1, Hl1, Hy1⟩
  iapply HQ
  isplitl [Hi Hs Hz Hw]
  · isplitl [Hi]; · iexact Hi
    isplitl [Hs]; · iexact Hs
    isplitl [Hz]; · iexact Hz
    iexact Hw
  isplitr [HW]
  · isplitl [Ht Hy0 Hy1]
    · isplitl [Ht]; · iexact Ht
      isplitl [Hy0]; · iexact Hy0
      iexact Hy1
    isplitl [Hm Hm0 Hm1]
    · isplitl [Hm]; · iexact Hm
      isplitl [Hm0]; · iexact Hm0
      iexact Hm1
    isplitr [Hg]
    · isplitl [Hr]; · iexact Hr
      isplitl [H8]; · iexact H8
      isplitl [H9]; · iexact H9
      isplitl [H10]; · iexact H10
      isplitl [Hl0]; · iexact Hl0
      iexact Hl1
    iexact Hg
  · iexact HW

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

theorem Phi_first (c : Dev nD) (t : Fin cfg0.N) : (dats m 0 c).Φ t.castSucc = Pipeline.Ends spec0 osem0 R0 c (V m c) := by
  obtain rfl := fin_N0 t; dsimp only [dats]; exact if_pos rfl
theorem Phi_last (c : Dev nD) (t : Fin cfg0.N) : (dats m 0 c).Φ t.succ = Pipeline.Ends spec0 osem0 R0 c (Yof m c) := by
  dsimp only [dats]; exact if_neg (by rw [Fin.val_succ]; omega)

/-- The body, from the region's invariant before its point to that after it. -/
theorem sound_body (c : Dev nD) (t : Fin cfg0.N) (hid : ∀ i, (idsOf m c i).toNat < 32000) :
    bodyPre m c t ⊢ wp frame (wpE (defs₀ (F := F)) Variants.none (c : Thread nD τ) none) Set.univ (bodyAt0 t) (fun _ => bodyPost m c t) := by
  unfold bodyPre bodyPost
  rw [Phi_first, Phi_last]
  unfold Dat.owesAt Pipeline.owesWithin
  rw [show (dats m 0 c).owed t.castSucc = 0 from rfl, show (dats m 0 c).owed t.succ = 0 from rfl]
  iintro ⟨HΦ, ⟨%W, -, HW⟩, HS⟩
  ihave HS := (stage_open m c t) $$ HS
  ihave HΦ := (ends_open (F := F) c (V m c)) $$ HΦ
  iapply (body_run m c t hid W _)
  isplitl [HS]; · iexact HS
  isplitl [HΦ]; · iexact HΦ
  isplitl [HW]; · iexact HW
  iintro ⟨HS, HΦ, ⟨%W', HW⟩⟩
  isplitl [HΦ]; · iapply (ends_close (F := F) c (Yof m c)) $$ HΦ
  isplitl [HW]
  · iexists W'; isplitr; · ipureintro; exact fun _ _ => Or.inl trivial
    iexact HW
  iapply (stage_close m c t) $$ HS

theorem defs₀_row (t : Fin cfg0.N) :
    defs₀ (F := F) .tc cfg0.body (cfg0.bodyArgs t (cfg0.slots t)) = bodyAt0 t := by
  unfold defs₀; rw [Defs.onTc_tc]

theorem body_obligation (c : Dev nD) (hid : ∀ i, (idsOf m c i).toNat < 32000) : BodyObligation (dats (F := F) m 0 c) (defs₀ (F := F)) Variants.none () Set.univ := fun t => by
  rw [bigSep_W0, bigSep_W0, defs₀_row]
  exact triple_restated (sound_body m c t hid) rfl .rfl fun _ => .rfl

/-! ## The run -/

set_option maxHeartbeats 800000 in
theorem hmain' : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program's run: it terminates, and leaves every buffer as `RoutedPost` says and every semaphore at zero. -/
theorem run_main (hid : ∀ c i, (idsOf m c i).toNat < 32000) :
    θ_run defs (onTc (τ := τ) (main (F := F))) (s₀ m ρ) (fun r => Pipeline.RoutedPost cfgs (dats m) 0 R0 (V m) (Yof m) r ∧ r.2.sem = fun _ => 0) :=
  Pipeline.θ_run_frame_routed (Q' := _) cfgs (dats m) (0 : Fin 1) launch0 ownSemFacts0 defs₀ Variants.none m ρ main
    (hbody := fun c => (body_obligation m c (hid c)).loose) (hshare := fun c => (dats m 0 c).share_full fun _ => rfl)
    (howed := fun _ _ => rfl) (V := V m) (hmain := hmain' m) (hA := A_eq m) (R := R0) (hR := R0_sub) (Y := Yof m)
    (hin := fun c => (.of_eq (Phi_first m c t0_0).symm)) (hout := fun c => (.of_eq (Phi_last m c t0_0)))

/-- The program runs, its arguments end unchanged, its results end holding the rows the kernel computes, and every
    semaphore ends at zero. -/
theorem run_values (hid : ∀ c i, (idsOf m c i).toNat < 32000) :
    θ_run defs (onTc (τ := τ) (main (F := F))) ⟨m, fun _ => 0, ρ⟩ (fun r => (∀ c : Dev nD,
      r.2.mem ((c.tc : Thread nD τ).loc main_v8_0) = asm (outOf m c)
      ∧ r.2.mem ((c.tc : Thread nD τ).loc main_v8_1) = asm (embOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have rest : ∀ b : Ref sig .tc, b ∈ Pipeline.restRefs sig spec0 → b ∉ R0 → r.2.mem ((c.tc : Thread nD τ).loc b) = V m c b :=
      fun b hb hn => (h.1 c).2.2 b (Finset.mem_sdiff.mpr ⟨hb, hn⟩)
    ⟨((h.1 c).2.1 main_v8_0 (by decide)).trans (Y_out m c),
      ((h.1 c).2.1 main_v8_1 (by decide)).trans (Y_emb m c),
      (rest main_arg0 (Pipeline.mem_restRefs_of main_arg0 (by decide) (by decide)) (by decide)).trans (V_main_arg0 m c),
      (rest main_arg1 (Pipeline.mem_restRefs_of main_arg1 (by decide) (by decide)) (by decide)).trans (V_main_arg1 m c),
      ((h.1 c).1 1).trans (((dats m 0 c).arrAt_in 1 rfl _).trans ((A_eq m c 1).trans (V_main_arg2 m c))),
      (rest main_arg3 (Pipeline.mem_restRefs_of main_arg3 (by decide) (by decide)) (by decide)).trans (V_main_arg3 m c),
      (rest main_arg4 (Pipeline.mem_restRefs_of main_arg4 (by decide) (by decide)) (by decide)).trans (V_main_arg4 m c)⟩, h.2⟩) (run_main m ρ hid)

/-- The ids the kernel reads are the argument's. -/
theorem idsOf_lt (c : Dev nD) (h : ∀ i, BitVec.toNat (w := 32) (m ((c.tc : Thread nD τ).loc main_arg0) i) < 32000) : ∀ i, (idsOf m c i).toNat < 32000 := by
  have e : idsOf m c = shapeCast S4096 (m ((c.tc : Thread nD τ).loc main_arg0) : S2x2048.Idx → BitVec 32) shapeCasts_S2x2048_S4096 := by
    unfold idsOf; rfl
  intro i
  rw [e]
  exact h _

end Cert.Kernel.Hand

end
-- ==== Proof.Frames.lean ====
/- The precondition decoded, the three programs' frames, and the rewrite of the named constant. -/
module

public import proofs.«01_k».proof.Defs
public import proofs.«01_k».proof.Proof.Frame
public import proofs.«01_k».proof.Proof.KFrame
public import proofs.«01_k».proof.Proof.Gen.Pre_ids_in_table
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Claims

/-- The precondition says of each token id that it names a row of the table. -/
theorem pre_lt {F : FTy → Type} [FloatOps F]
    (x0 : IVec Cert.Pre_ids_in_table.S2x2048 32) (x1 : IVec Cert.Pre_ids_in_table.S32000x7168 8)
    (x2 : FVec F Cert.Pre_ids_in_table.S32000 .f32) (x3 : FVec F Cert.Pre_ids_in_table.S32000 .bf16)
    (x4 : FVec F Cert.Pre_ids_in_table.S7168 .bf16)
    (h : Cert.Pre_ids_in_table.fn (F := F) x0 x1 x2 x3 x4 = fun _ => 1#1) (i : Cert.Pre_ids_in_table.S2x2048.Idx) :
    BitVec.toNat (w := 32) (x0 i) < 32000 := by
  have e := congrFun h i
  simp only [Cert.Pre_ids_in_table.fn, andi, cmpi, broadcastInDim, constantI, IntOp.cmpi] at e
  generalize x0 i = a at e ⊢
  have h1 : (0#32).sle a = true ∧ a.slt 32000#32 = true := by
    revert e
    cases (0#32).sle a <;> cases a.slt 32000#32 <;> decide
  obtain ⟨h1, h2⟩ := h1
  simp only [BitVec.sle, BitVec.slt, decide_eq_true_eq, BitVec.toInt, BitVec.toNat_ofNat] at h1 h2
  omega

/-- The kernel's ids are in the table under its precondition. -/
theorem ids_p (m : (ℓ : Loc Cert.Kernel.nD Cert.Kernel.τ Cert.Kernel.sig) → Buf (Elt Bits) ℓ) (h : Cert.Pre_Kernel m)
    (c : Dev Cert.Kernel.nD) (i) : (Cert.Kernel.Hand.idsOf m c i).toNat < 32000 :=
  Cert.Kernel.Hand.idsOf_lt m c (fun i => pre_lt _ _ _ _ _ (h c) i) i

/-- The idealized kernel's ids are in the table under its precondition. -/
theorem ids_pi (m : (ℓ : Loc Cert.KernelIdeal.nD Cert.KernelIdeal.τ Cert.KernelIdeal.sig) → Buf (Elt Ideal) ℓ)
    (h : Cert.Pre_KernelIdeal m) (c : Dev Cert.KernelIdeal.nD) (i) : (Cert.KernelIdeal.Hand.idsOf m c i).toNat < 32000 :=
  Cert.KernelIdeal.Hand.idsOf_lt m c (fun i => pre_lt _ _ _ _ _ (h c) i) i

/-- The kernel runs, leaves its arguments, and ends quiescent. -/
theorem frame_p : Cert.quiescent_Kernel := fun m ρ hp =>
  (θ_run Cert.Kernel.defs _ _).mono (fun _ h => ⟨fun c => (h.1 c).2.2, h.2⟩)
    (Cert.Kernel.Hand.run_values (F := Bits) m ρ (ids_p m hp))

/-- The idealized kernel runs, leaves its arguments, and ends quiescent. -/
theorem frame_pi : Cert.quiescent_KernelIdeal := fun m ρ hp =>
  (θ_run Cert.KernelIdeal.defs _ _).mono (fun _ h => ⟨fun c => (h.1 c).2.2, h.2⟩)
    (Cert.KernelIdeal.Hand.run_values (F := Ideal) m ρ (ids_pi m hp))

/-- The reference runs, leaves its arguments, and ends quiescent, whatever its arguments. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The certificate's table gives `"inv_d"` the value `1 / 7168`, and the printed constant is that value at `Ideal`. -/
theorem preserves : Cert.preserves_Kernel_KernelIdeal :=
  IdealRules.named_const.statement Cert.KernelIdeal.κ "inv_d" .f32 0x39124925#32 ((1 / 7168 : ℝ) : EReal) rfl

end Cert.Proof.Claims

end
-- ==== Proof.Spec.lean ====
/- The row a token's results hold, as numbers: what both programs are shown to compute. -/
module

public import Idealize.ShloMosaic.PureOps.Ideal.Laws
public import Idealize.ShloMosaic.Lib.ValueIdxCore

@[expose] public section

noncomputable section

namespace Cert.Spec

open Idealize.ShloMosaic
open Idealize.ShloMosaic.ValueIdx (ix1 ix2)
open scoped BigOperators

/-- The pattern of `7168.0` denotes that number. -/
theorem ofBits_7168 : Ideal.ofBits .f32 0x45E00000#32 = ((7168 : ℝ) : EReal) := by
  simp [Ideal.ofBits, Ideal.ieee, -EReal.coe_mul]; norm_num

variable (x1 : (⟨2, ![32000, 7168]⟩ : Shape).Idx → BitVec 8) (x2 x3 : (⟨1, ![32000]⟩ : Shape).Idx → EReal) (x4 : (⟨1, ![7168]⟩ : Shape).Idx → EReal)

/-- Column `j` of row `q`, dequantized. -/
def eAt (q : Fin 32000) (j : Fin 7168) : EReal := ((((x1 (ix2 q j)).toInt : ℝ) : EReal) - x3 (ix1 q)) * x2 (ix1 q)
/-- The sum of the squares of row `q`. -/
def sAt (q : Fin 32000) : EReal := ∑ k : Fin 7168, eAt x1 x2 x3 q k * eAt x1 x2 x3 q k
/-- Column `j` of row `q`, normalised. -/
def oAt (q : Fin 32000) (j : Fin 7168) : EReal :=
  eAt x1 x2 x3 q j * Ideal.rsqrt (sAt x1 x2 x3 q * ((1 / 7168 : ℝ) : EReal) + Ideal.ofBits .f32 0x358637BD#32) * x4 (ix1 j)
/-- The row a token id names. -/
def rowOf (a : BitVec 32) : Fin 32000 := ⟨a.toNat % 32000, Nat.mod_lt _ (by decide)⟩

/-- A word read signed and clamped to the table is the row it names. -/
theorem clamp_eq (a : BitVec 32) (h : a.toNat < 32000) : min a.toInt.toNat (32000 - 1) = (rowOf a).val := by
  show min a.toInt.toNat (32000 - 1) = a.toNat % 32000
  rw [BitVec.toInt_eq_toNat_of_lt (by omega)]
  omega

end Cert.Spec

end
-- ==== Proof.Decode.lean ====
/- A row's byte read out of the word that packs it with its three neighbours. -/
module

public import Idealize.ShloMosaic.PureOps.Float

@[expose] public section

namespace Cert.Decode

open Idealize.ShloMosaic

/-- Shifting byte `r` of a word to the top and back down, with the sign, gives that byte as a number. -/
theorem byte_toInt (w sh : BitVec 32) (b : BitVec 8) (r : ℕ) (hr : r < 4) (hs : sh.toNat = (3 - r) * 8)
    (hw : ∀ q, q < 8 → w.getLsbD (8 * r + q) = b.getLsbD q) :
    (IntOp.shrsi .vector (IntOp.shli .vector w sh) 24#32).toInt = b.toInt := by
  have e : IntOp.shrsi .vector (IntOp.shli .vector w sh) 24#32 = b.signExtend 32 := by
    have h1 : IntOp.shli .vector w sh = w <<< ((3 - r) * 8) := by
      unfold IntOp.shli
      rw [if_pos (by omega), BitVec.shiftLeft_eq', hs]
    rw [h1]
    have h2 : ∀ v : BitVec 32, IntOp.shrsi .vector v 24#32 = v.sshiftRight 24 := fun v => rfl
    rw [h2]
    refine BitVec.eq_of_getLsbD_eq fun i hi => ?_
    rw [BitVec.getLsbD_sshiftRight, BitVec.getLsbD_signExtend, BitVec.getLsbD_shiftLeft, BitVec.msb_eq_getLsbD_last,
      BitVec.msb_eq_getLsbD_last, BitVec.getLsbD_shiftLeft]
    have h3 : ∀ k, k < 8 → w.getLsbD (24 + k - (3 - r) * 8) = b.getLsbD k := fun k hk => by
      rw [← hw k hk]; congr 1; omega
    have h7 := h3 7 (by omega)
    by_cases h8 : i < 8
    · have hi' := h3 i h8
      have a1 : ¬ (24 + i < (3 - r) * 8) := by omega
      have a2 : 24 + i < 32 := by omega
      have a3 : ¬ 32 ≤ i := by omega
      simp [h8, a1, a2, a3, hi', hi]
    · have a1 : ¬ (24 + i < 32) := by omega
      have a2 : ¬ 31 < (3 - r) * 8 := by omega
      have a3 : ¬ 32 ≤ i := by omega
      have h7' : w.getLsbD (31 - (3 - r) * 8) = b.getLsbD 7 := h7
      simp [h8, a1, a2, a3, h7', hi]
  rw [e, BitVec.toInt_signExtend_of_le (by decide)]

/-- The shift the kernel computes from a token id. -/
theorem shift_toNat (a : BitVec 32) : (IntOp.muli (IntOp.subi 3#32 (IntOp.andi a 3#32)) 8#32).toNat = (3 - a.toNat % 4) * 8 := by
  have h : (a &&& 3#32).toNat = a.toNat % 4 := by
    rw [BitVec.toNat_and]; exact Nat.and_two_pow_sub_one_eq_mod a.toNat 2
  show ((3#32 - (a &&& 3#32)) * 8#32).toNat = _
  rw [BitVec.toNat_mul, BitVec.toNat_sub, h]
  have := Nat.mod_lt a.toNat (show 4 > 0 by decide)
  simp only [BitVec.toNat_ofNat]
  omega

/-- The word row a token id names. -/
theorem word_row (a : BitVec 32) (h : a.toNat < 32000) : (a >>> 2).toNat % 8000 = a.toNat / 4 := by
  rw [BitVec.toNat_ushiftRight, Nat.shiftRight_eq_div_pow]
  omega

end Cert.Decode
-- ==== Proof.Ker.lean ====
/- The idealized kernel's two results, read at an index, are the numbers of Spec. -/
module

public import proofs.«01_k».proof.Proof.Spec
public import proofs.«01_k».proof.Proof.Decode
public import proofs.«01_k».proof.Proof.Frame
public import Idealize.ShloMosaic.Lib.Pipeline.Value
public import Idealize.ShloMosaic.Lib.BitcastConvert
public import Idealize.ShloMosaic.PureOps.IdealRules

@[expose] public section

set_option maxRecDepth 16384

noncomputable section

namespace Cert.KernelIdeal.Hand

open Cert.KernelIdeal Cert.KernelIdeal.Gen
open Idealize.ShloMosaic hiding ix1 ix2 ix3
open Idealize.ShloMosaic.TcCoe
open Idealize.ShloMosaic.ValueIdx (ix1 ix2 ix3)
open Cert.Spec
open scoped BigOperators

/-- Row `r` of the four that word row `q` packs. -/
def tabRow (q : Fin 8000) (r : ℕ) : Fin 32000 := ⟨(4 * q.val + r) % 32000, Nat.mod_lt _ (by decide)⟩

section
variable (ids : Ids) (tab : Tab) (x1 : S32000x7168.Idx → BitVec 8) (scale zero : S32000.Idx → Elt Ideal .f32) (w : S8x7168.Idx → Elt Ideal .f32)
  (x4 : S7168.Idx → EReal)

/-- The chunk a column lies in, read at the column's lane, is the column. -/
theorem chunk2_at {α : Type} (Z : S8x7168.Idx → α) (r : Fin 8) (n : ℕ) (l : Fin 128) (hn : n < 56) :
    chunk2 Z (128 * n) (ix2 r l) = Z (ix2 r (⟨128 * n + l.val, by omega⟩ : Fin 7168)) := by
  refine congrArg Z (congrArg (fun q => ix2 r q) (Fin.ext ?_))
  show (128 * n + l.val) % 7168 = 128 * n + l.val
  exact Nat.mod_eq_of_lt (by omega)

variable (h : ∀ i, (ids i).toNat < 32000)
  (ht : ∀ (q : Fin 8000) (j : Fin 7168) (r : ℕ) (hr : r < 4) (b : ℕ), b < 8 →
    (tab (ix2 q j)).getLsbD (8 * r + b) = (x1 (ix2 (tabRow q r) j)).getLsbD b)
include h ht

/-- The code of a token's column, as the kernel unpacks it. -/
theorem code_at (g : ℕ) (r : Fin 8) (j : Fin 7168) (l : Fin 128) :
    (IntOp.shrsi .vector (IntOp.shli .vector (words tab ids g (ix2 r j)) (shV ids g (ix2 r l))) 24#32).toInt
      = (x1 (ix2 (rowOf (idAt ids (8 * g + r.val))) j)).toInt := by
  have ha : (idAt ids (8 * g + r.val)).toNat < 32000 := h _
  refine Cert.Decode.byte_toInt _ _ _ ((idAt ids (8 * g + r.val)).toNat % 4) (Nat.mod_lt _ (by decide)) (Cert.Decode.shift_toNat _) fun q hq => ?_
  refine (ht (rid ids g r) j _ (Nat.mod_lt _ (by decide)) q hq).trans ?_
  refine congrArg (fun z => (x1 (ix2 z j)).getLsbD q) (Fin.ext ?_)
  have hw := Cert.Decode.word_row _ ha
  show (4 * ((idAt ids (8 * g + r.val) >>> 2).toNat % 8000) + (idAt ids (8 * g + r.val)).toNat % 4) % 32000 = (idAt ids (8 * g + r.val)).toNat % 32000
  omega

/-- A chunk of a group's dequantized rows, at a lane. -/
theorem embC_at (g : ℕ) (r : Fin 8) (n : ℕ) (l : Fin 128) (hn : n < 56) :
    embC (F := Ideal) (shV ids g) (scV ids scale g) (lookV ids zero g) (chunk2 (words tab ids g) (128 * n)) (ix2 r l)
      = eAt x1 scale zero (rowOf (idAt ids (8 * g + r.val))) (⟨128 * n + l.val, by omega⟩ : Fin 7168) := by
  show ((((IntOp.shrsi .vector (IntOp.shli .vector (chunk2 (words tab ids g) (128 * n) (ix2 r l)) (shV ids g (ix2 r l))) 24#32).toInt : ℝ) : EReal) - _) * _ = _
  rw [chunk2_at _ r n l hn, code_at ids tab x1 h ht]
  rfl

/-- A group's dequantized rows, at an index. -/
theorem embG_at (g : ℕ) (r : Fin 8) (j : Fin 7168) :
    embG (F := Ideal) tab ids scale zero g (ix2 r j) = eAt x1 scale zero (rowOf (idAt ids (8 * g + r.val))) j := by
  refine (embC_at ids tab x1 scale zero h ht g r (j.val / 128) ⟨j.val % 128, Nat.mod_lt _ (by decide)⟩ (by omega)).trans ?_
  refine congrArg (eAt x1 scale zero _) (Fin.ext ?_)
  show 128 * (j.val / 128) + j.val % 128 = j.val
  omega

/-- The squares of the first chunks, added up by lane, as a sum. -/
theorem accG_at (g : ℕ) (r : Fin 8) (l : Fin 128) (n : ℕ) (hn : n ≤ 56) :
    accG (F := Ideal) tab ids scale zero g n (ix2 r l)
      = ∑ k : Fin n, eAt x1 scale zero (rowOf (idAt ids (8 * g + r.val))) (⟨128 * k.val + l.val, by omega⟩ : Fin 7168)
          * eAt x1 scale zero (rowOf (idAt ids (8 * g + r.val))) (⟨128 * k.val + l.val, by omega⟩ : Fin 7168) := by
  induction n with
  | zero => exact (Ideal.ofBits_zero_f32).trans (Finset.sum_empty).symm
  | succ n ih =>
    rw [Fin.sum_univ_castSucc]
    unfold accG
    rw [cast_chunk]
    refine congrArg₂ (fun a b : EReal => a + b) (ih (by omega)) ?_
    refine congrArg₂ (fun a b : EReal => a * b) ?_ ?_ <;> exact embC_at ids tab x1 scale zero h ht g r n l (by omega)

/-- A row's sum of squares, over its lanes' sums. -/
theorem sum_at (g : ℕ) (r : Fin 8) :
    (∑ l : Fin 128, accG (F := Ideal) tab ids scale zero g 56 (ix2 r l) : EReal) = sAt x1 scale zero (rowOf (idAt ids (8 * g + r.val))) := by
  rw [Finset.sum_congr rfl fun l _ => accG_at ids tab x1 scale zero h ht g r l 56 le_rfl, Finset.sum_comm, ← Fintype.sum_prod_type']
  unfold sAt
  refine (Fintype.sum_equiv (finProdFinEquiv (m := 56) (n := 128)) _ (fun k : Fin 7168 => eAt x1 scale zero (rowOf (idAt ids (8 * g + r.val))) k * eAt x1 scale zero (rowOf (idAt ids (8 * g + r.val))) k) fun p => ?_)
  have e : (⟨128 * p.1.val + p.2.val, by omega⟩ : Fin 7168) = finProdFinEquiv (m := 56) (n := 128) p := Fin.ext (by
    show 128 * p.1.val + p.2.val = p.2.val + 128 * p.1.val; omega)
  rw [e]

/-- The factor a row is normalised by. -/
theorem rs_at (g : ℕ) (r : Fin 8) (l : Fin 128) :
    rsV (F := Ideal) (accG tab ids scale zero g 56) (ix2 r l)
      = Ideal.rsqrt (sAt x1 scale zero (rowOf (idAt ids (8 * g + r.val))) * ((1 / 7168 : ℝ) : EReal) + Ideal.ofBits .f32 0x358637BD#32) := by
  rw [← sum_at ids tab x1 scale zero h ht g r]
  unfold rsV
  rw [broadcastTo_apply _ _ (ix2 r l) (ix2 r (0 : Fin 1)) (fun a => match a with | ⟨0, _⟩ => rfl | ⟨1, _⟩ => rfl),
    shapeCast_apply _ shapeCasts_S8x1_S8x1 (ix2 r (0 : Fin 1)) (ix2 r (0 : Fin 1)) rfl]
  show Ideal.rsqrt (shapeCast S8x1 _ shapeCasts_S8_S8x1 (ix2 r (0 : Fin 1)) * Named.named (F := Ideal) κ "inv_d" 0x39124925#32 + Ideal.ofBits .f32 0x358637BD#32) = _
  rw [IdealRules.named_const.ideal_named_scalar _ _ _ ((1 / 7168 : ℝ) : EReal) rfl,
    shapeCast_apply _ shapeCasts_S8_S8x1 (ix2 r (0 : Fin 1)) (ix1 r) (by
      rw [Shape.rowMajor_val_two, Shape.rowMajor_val_one]; show r.val = r.val * 1 + 0; omega)]
  refine congrArg (fun z : EReal => Ideal.rsqrt (z * ((1 / 7168 : ℝ) : EReal) + Ideal.ofBits .f32 0x358637BD#32)) ?_
  refine (Ideal.multiReduction_add_single (accG (F := Ideal) tab ids scale zero g 56) _ reduces_S8x128_S8 _ _ (ix1 r)).trans (Finset.sum_congr rfl fun l _ => ?_)
  refine congrArg (accG tab ids scale zero g 56) (funext fun a => Fin.ext ?_)
  match a with
  | ⟨0, _⟩ => rfl
  | ⟨1, _⟩ => rfl

/-- A group's normalised rows, at an index. -/
theorem outG_at (hw : ∀ r j, w (ix2 r j) = x4 (ix1 j)) (g : ℕ) (r : Fin 8) (j : Fin 7168) :
    outG (F := Ideal) tab ids scale zero w g (ix2 r j) = oAt x1 scale zero x4 (rowOf (idAt ids (8 * g + r.val))) j := by
  have hj : (⟨128 * (j.val / 128) + j.val % 128, by omega⟩ : Fin 7168) = j := Fin.ext (by show 128 * (j.val / 128) + j.val % 128 = j.val; omega)
  have e1 := chunk2_at (embG (F := Ideal) tab ids scale zero g) r (j.val / 128) ⟨j.val % 128, Nat.mod_lt _ (by decide)⟩ (by omega)
  have e2 := chunk2_at w r (j.val / 128) ⟨j.val % 128, Nat.mod_lt _ (by decide)⟩ (by omega)
  show chunk2 (embG (F := Ideal) tab ids scale zero g) (128 * (j.val / 128)) (ix2 r (⟨j.val % 128, Nat.mod_lt _ (by decide)⟩ : Fin 128))
    * rsV (F := Ideal) (accG tab ids scale zero g 56) (ix2 r (⟨j.val % 128, Nat.mod_lt _ (by decide)⟩ : Fin 128))
    * chunk2 w (128 * (j.val / 128)) (ix2 r (⟨j.val % 128, Nat.mod_lt _ (by decide)⟩ : Fin 128)) = _
  rw [e1, e2, rs_at ids tab x1 scale zero h ht]
  simp only [hj]
  rw [embG_at ids tab x1 scale zero h ht, hw]
  rfl
end

variable (m : (ℓ : Loc nD τ sig) → Buf (Elt Ideal) ℓ) (c : Dev nD)

/-- The ids the kernel reads, from the argument. -/
theorem idsOf_at (n : Fin 4096) : idsOf m c (ix1 n)
    = (m ((c.tc : Thread nD τ).loc main_arg0) : S2x2048.Idx → BitVec 32) (ix2 (⟨n.val / 2048, by omega⟩ : Fin 2) (⟨n.val % 2048, Nat.mod_lt _ (by decide)⟩ : Fin 2048)) := by
  have e : idsOf m c = shapeCast S4096 (m ((c.tc : Thread nD τ).loc main_arg0) : S2x2048.Idx → BitVec 32) shapeCasts_S2x2048_S4096 := by
    unfold idsOf; rfl
  rw [e]
  refine shapeCast_apply (s := S2x2048) _ _ _ _ ?_
  rw [Shape.rowMajor_val_two, Shape.rowMajor_val_one]
  show n.val / 2048 * 2048 + n.val % 2048 = n.val
  omega

/-- The scales the kernel reads are the argument's. -/
theorem scaleOf_eq : scaleOf m c = m ((c.tc : Thread nD τ).loc main_arg2) := V_main_arg2 m c
/-- The zero points the kernel reads are the argument's numbers. -/
theorem zeroOf_eq : zeroOf m c = (m ((c.tc : Thread nD τ).loc main_arg3) : S32000.Idx → EReal) := by
  unfold zeroOf; rfl
/-- The weights the kernel reads are the argument's numbers, in every row. -/
theorem wOf_at (r : Fin 8) (j : Fin 7168) : wOf m c (ix2 r j) = (m ((c.tc : Thread nD τ).loc main_arg4) : S7168.Idx → EReal) (ix1 j) := by
  have e : wOf m c = broadcastInDim S8x7168 ![0, 1] bcast_S1x7168_S8x7168_0_1 (broadcastInDim S1x7168 ![1] bcast_S7168_S1x7168_1
      (m ((c.tc : Thread nD τ).loc main_arg4) : S7168.Idx → EReal)) := by
    unfold wOf; rfl
  rw [e, broadcastInDim_apply _ _ _ (ix2 r j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl)]

/-- The words the kernel fetches: byte `r` of word row `q` is row `4 q + r` of the codes. -/
theorem tabOf_at (q : Fin 8000) (j : Fin 7168) (r : ℕ) (hr : r < 4) (b : ℕ) (hb : b < 8) :
    (tabOf m c (ix2 q j)).getLsbD (8 * r + b)
      = ((m ((c.tc : Thread nD τ).loc main_arg1) : S32000x7168.Idx → BitVec 8) (ix2 (tabRow q r) j)).getLsbD b := by
  have e : tabOf m c = Host.bitcastConvertWiden S8000x7168 32 (transpose S8000x7168x4 [0, 2, 1]
      (shapeCast S8000x4x7168 (m ((c.tc : Thread nD τ).loc main_arg1) : S32000x7168.Idx → BitVec 8) shapeCasts_S32000x7168_S8000x4x7168)
      transposes_S8000x4x7168_S8000x7168x4_0_2_1) splits_S8000x7168_w32_S8000x7168x4_w8 := by
    unfold tabOf; rfl
  rw [e, Host.bitcastConvertWiden_getLsbD _ _ _ _ _ (8 * r + b) (by omega)]
  have hd : (8 * r + b) / 8 = r := by omega
  have hm : (8 * r + b) % 8 = b := by omega
  rw [hm]
  refine congrArg (fun z : BitVec 8 => z.getLsbD b) ?_
  rw [transpose_apply _ _ _ _ (ix3 q (⟨r, hr⟩ : Fin 4) j) (fun a => match a with
    | ⟨0, _⟩ => rfl
    | ⟨1, _⟩ => rfl
    | ⟨2, _⟩ => hd.symm)]
  refine shapeCast_apply (s := S32000x7168) _ _ _ _ ?_
  rw [Shape.rowMajor_val_two, Shape.rowMajor_val_three]
  have hq := q.isLt
  show (4 * q.val + r) % 32000 * 7168 + j.val = (q.val * 4 + r) * 7168 + j.val
  omega

end Cert.KernelIdeal.Hand

end
-- ==== Proof.Ref.lean ====
/- The reference's two results, read at an index, are the numbers of Spec. -/
module

public import proofs.«01_k».proof.Proof.Spec
public import proofs.«01_k».proof.Proof.Gen.ReferenceIdeal.Read
public import Idealize.ShloMosaic.Lib.Routing.OpsPair

@[expose] public section

noncomputable section

namespace Cert.ReferenceIdeal.Hand

open Cert.ReferenceIdeal Cert.ReferenceIdeal.Gen Cert.ReferenceIdeal.Read
open Idealize.ShloMosaic Idealize.ShloMosaic.TcCoe
open Idealize.ShloMosaic.ValueIdx (ix1 ix2 ix3 gather_take_apply takeIdx takeDims)
open Cert.Spec
open scoped BigOperators

/-- The start index of a token's row. -/
def startIx (y : S2x2048x7168.Idx) : S2x2048x1.Idx :=
  fun a => match a with | ⟨0, _⟩ => ⟨(y 0).val, (y 0).isLt⟩ | ⟨1, _⟩ => ⟨(y 1).val, (y 1).isLt⟩ | ⟨2, _⟩ => ⟨0, Nat.one_pos⟩

/-- The token of an element of the rows. -/
def rowIx (y : S2x2048x7168.Idx) : S2x2048.Idx :=
  fun a => match a with | ⟨0, _⟩ => ⟨(y 0).val, (y 0).isLt⟩ | ⟨1, _⟩ => ⟨(y 1).val, (y 1).isLt⟩
/-- The column of an element of the rows. -/
def colIx (y : S2x2048x7168.Idx) : Fin 7168 := ⟨(y 2).val, (y 2).isLt⟩

/-- The gather of rows, read at an index: the column of the row the start index names, clamped to the table. -/
theorem gather_rows {α : Type} (x : S32000x7168.Idx → α) (idx : IVec S2x2048x1 32) (y : S2x2048x7168.Idx) :
    Host.gather gather_S32000x7168_S2x2048x1_S2x2048x7168_2_0_n_n_0_2_17168 x idx y
      = x (ix2 (⟨min (idx (startIx y)).toInt.toNat (32000 - 1), by omega⟩ : Fin 32000) (colIx y)) := by
  unfold Host.gather
  refine congrArg x (funext fun a => Fin.ext ?_)
  let d := gather_S32000x7168_S2x2048x1_S2x2048x7168_2_0_n_n_0_2_17168
  show d.start y idx a + d.batchCoord y a + d.offCoord y a = _
  rw [GatherDims.batchCoord_eq_zero _ _ _ List.not_mem_nil]
  match a with
  | ⟨0, _⟩ =>
    rw [show (⟨0, _⟩ : Fin S32000x7168.rank) = (0 : Fin 2) from rfl,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx y ⟨List.idxOf (0 : Fin 2) d.startIndexMap, List.idxOf_lt_length_iff.2 (List.mem_singleton.mpr rfl)⟩ = startIx y := by
      funext b; refine Fin.ext ?_
      match b with
      | ⟨0, _⟩ => rfl
      | ⟨1, _⟩ => rfl
      | ⟨2, _⟩ => rfl
    rw [hsi]
    rfl
  | ⟨1, _⟩ =>
    have h0 : d.start y idx (1 : Fin 2) = 0 := by
      unfold GatherDims.start
      rw [dif_neg (by decide)]
    show d.start y idx (1 : Fin 2) + 0 + d.offCoord y (1 : Fin 2) = (y 2).val
    rw [h0]
    have : d.offCoord y (1 : Fin 2) = (y 2).val := rfl
    omega

variable (x0 : S2x2048.Idx → BitVec 32) (x1 : S32000x7168.Idx → BitVec 8) (x2 x3 : S32000.Idx → EReal) (x4 : S7168.Idx → EReal)
  (h : ∀ i, (x0 i).toNat < 32000)
include h

/-- The wrapped ids are the ids. -/
theorem wrap4 (i : S2x2048.Idx) : val_main_v4 (F := Ideal) x0 i = x0 i := by
  rw [val_main_v4_apply, val_main_v1_apply, val_main_v0_apply, val_main_c_apply]
  exact Routing.wrap_of_lt _ _ (by have := h i; omega)
/-- The wrapped ids are the ids. -/
theorem wrap11 (i : S2x2048.Idx) : val_main_v11 (F := Ideal) x0 i = x0 i := by
  rw [val_main_v11_apply, val_main_v8_apply, val_main_v7_apply, val_main_c_1_apply]
  exact Routing.wrap_of_lt _ _ (by have := h i; omega)
/-- The wrapped ids are the ids. -/
theorem wrap19 (i : S2x2048.Idx) : val_main_v19 (F := Ideal) x0 i = x0 i := by
  rw [val_main_v19_apply, val_main_v16_apply, val_main_v15_apply, val_main_c_3_apply]
  exact Routing.wrap_of_lt _ _ (by have := h i; omega)

/-- The gathered codes. -/
theorem codes_apply (i : S2x2048x7168.Idx) : val_main_v6 (F := Ideal) x0 x1 i = x1 (ix2 (rowOf (x0 (rowIx i))) (colIx i)) := by
  have e : val_main_v5 (F := Ideal) x0 (startIx i) = x0 (rowIx i) := by
    rw [val_main_v5_apply, wrap4 x0 h]
    refine congrArg x0 (funext fun a => ?_)
    match a with
    | ⟨0, _⟩ => rfl
    | ⟨1, _⟩ => rfl
  unfold val_main_v6
  rw [gather_rows]
  refine congrArg x1 (congrArg (fun q => ix2 q (colIx i)) (Fin.ext ?_))
  show min (val_main_v5 (F := Ideal) x0 (startIx i)).toInt.toNat (32000 - 1) = _
  rw [e]
  exact clamp_eq _ (h _)
/-- The gathered scales. -/
theorem scale_apply (i : S2x2048.Idx) : val_main_v13 (F := Ideal) x0 x2 i = x2 (ix1 (rowOf (x0 i))) := by
  have e : val_main_v12 (F := Ideal) x0 (takeIdx (R := 2) (C := 2048) i) = x0 i := by
    rw [val_main_v12_apply, wrap11 x0 h]
    refine congrArg x0 (funext fun a => ?_)
    match a with
    | ⟨0, _⟩ => rfl
    | ⟨1, _⟩ => rfl
  unfold val_main_v13
  refine (gather_take_apply (N := 32000) (R := 2) (C := 2048) (by decide) gather_S32000_S2x2048x1_S2x2048_n_0_n_n_0_2_1.wf x2 _ i).trans ?_
  refine congrArg x2 (congrArg ix1 (Fin.ext ?_))
  show min (val_main_v12 (F := Ideal) x0 (takeIdx (R := 2) (C := 2048) i)).toInt.toNat (32000 - 1) = _
  rw [e]
  exact clamp_eq _ (h _)
/-- The gathered zero points. -/
theorem zero_apply (i : S2x2048.Idx) : val_main_v21 (F := Ideal) x0 x3 i = x3 (ix1 (rowOf (x0 i))) := by
  have e : val_main_v20 (F := Ideal) x0 (takeIdx (R := 2) (C := 2048) i) = x0 i := by
    rw [val_main_v20_apply, wrap19 x0 h]
    refine congrArg x0 (funext fun a => ?_)
    match a with
    | ⟨0, _⟩ => rfl
    | ⟨1, _⟩ => rfl
  unfold val_main_v21
  refine (gather_take_apply (N := 32000) (R := 2) (C := 2048) (by decide) gather_S32000_S2x2048x1_S2x2048_n_0_n_n_0_2_1.wf x3 _ i).trans ?_
  refine congrArg x3 (congrArg ix1 (Fin.ext ?_))
  show min (val_main_v20 (F := Ideal) x0 (takeIdx (R := 2) (C := 2048) i)).toInt.toNat (32000 - 1) = _
  rw [e]
  exact clamp_eq _ (h _)

/-- An element of the dequantized rows. -/
theorem emb_apply (i : S2x2048x7168.Idx) : val_main_v29 (F := Ideal) x0 x1 x2 x3 i = eAt x1 x2 x3 (rowOf (x0 (rowIx i))) (colIx i) := by
  have ei : idx_main_v24 (idx_main_v25 i) = rowIx i := funext fun a => match a with | ⟨0, _⟩ => rfl | ⟨1, _⟩ => rfl
  have ej : idx_main_v27 (idx_main_v28 i) = rowIx i := funext fun a => match a with | ⟨0, _⟩ => rfl | ⟨1, _⟩ => rfl
  rw [val_main_v29_apply, val_main_v26_apply, val_main_v23_apply, val_main_v22_apply, val_main_v25_apply, val_main_v24_apply,
    val_main_v28_apply, val_main_v27_apply, val_main_v14_apply, codes_apply x0 x1 h, ei, ej, scale_apply x0 x2 h, zero_apply x0 x3 h]
  show ((((BitVec.signExtend 32 (x1 _)).toInt : ℝ) : EReal) - _) * _ = _
  rw [BitVec.toInt_signExtend_of_le (by decide)]
  rfl

/-- The sum of a row's squares. -/
theorem sum_apply (i : S2x2048.Idx) : val_main_v32 (F := Ideal) x0 x1 x2 x3 i = sAt x1 x2 x3 (rowOf (x0 i)) := by
  rw [val_main_v32_apply, val_main_cst_apply, Ideal.ofBits_def, Ideal.ofBits_zero_f32, zero_add]
  refine Finset.sum_congr rfl fun k _ => ?_
  rw [val_main_v31_apply, val_main_v30_apply, Ideal.mulf_def, Ideal.extf_def, emb_apply x0 x1 x2 x3 h]
  have e : rowIx (idx_main_v32 i k) = i := funext fun a => match a with | ⟨0, _⟩ => rfl | ⟨1, _⟩ => rfl
  rw [e]
  rfl

/-- An element of the normalised rows. -/
theorem out_apply (i : S2x2048x7168.Idx) : val_main_v45 (F := Ideal) x0 x1 x2 x3 x4 i = oAt x1 x2 x3 x4 (rowOf (x0 (rowIx i))) (colIx i) := by
  have ei : idx_main_v33 (idx_main_v39 i) = rowIx i := funext fun a => match a with | ⟨0, _⟩ => rfl | ⟨1, _⟩ => rfl
  have ej : idx_main_v42 (idx_main_v43 i) = ix1 (colIx i) := funext fun a => match a with | ⟨0, _⟩ => rfl
  rw [val_main_v45_apply, val_main_v44_apply, val_main_v40_apply, val_main_v30_apply, val_main_v39_apply, val_main_v38_apply, val_main_v37_apply,
    val_main_v35_apply, val_main_v33_apply, val_main_v34_apply, val_main_cst_5_apply, val_main_v36_apply, val_main_cst_6_apply,
    val_main_v43_apply, val_main_v42_apply, val_main_v41_apply, ei, ej, sum_apply x0 x1 x2 x3 h, emb_apply x0 x1 x2 x3 h]
  simp only [Ideal.ofBits_def, Ideal.addf_def, Ideal.mulf_def, Ideal.extf_def, Ideal.truncf_def, Ideal.hostDivf_def, Ideal.hostUnary_rsqrt_def]
  rw [ofBits_7168, Ideal.div_coe (by norm_num)]
  rfl

/-- The token at row `r` of group `g`, as an index of the ids. -/
def tokIx (i : S512x8x7168.Idx) : S2x2048.Idx :=
  ix2 (⟨(8 * (i 0).val + (i 1).val) / 2048, by have h0 : (i 0).val < 512 := (i 0).isLt; have h1 : (i 1).val < 8 := (i 1).isLt; omega⟩ : Fin 2)
    (⟨(8 * (i 0).val + (i 1).val) % 2048, Nat.mod_lt _ (by decide)⟩ : Fin 2048)

omit h in
/-- Where the reshape of the results reads. -/
theorem flat_ix (i : S512x8x7168.Idx) : rowIx (idx_main_v46 i) = tokIx i ∧ colIx (idx_main_v46 i) = (i 2 : Fin 7168) := by
  have h0 : (i 0).val < 512 := (i 0).isLt
  have h1 : (i 1).val < 8 := (i 1).isLt
  have h2 : (i 2).val < 7168 := (i 2).isLt
  refine ⟨funext fun a => ?_, Fin.ext ?_⟩
  · match a with
    | ⟨0, _⟩ => exact Fin.ext (by show (((i 0).val * 8 + (i 1).val) * 7168 + (i 2).val) / 14680064 = (8 * (i 0).val + (i 1).val) / 2048; omega)
    | ⟨1, _⟩ => exact Fin.ext (by show (((i 0).val * 8 + (i 1).val) * 7168 + (i 2).val) / 7168 % 2048 = (8 * (i 0).val + (i 1).val) % 2048; omega)
  · show (((i 0).val * 8 + (i 1).val) * 7168 + (i 2).val) % 7168 = (i 2).val; omega

/-- The reference's first result. -/
theorem res_out (i : S512x8x7168.Idx) : val_main_v46 (F := Ideal) x0 x1 x2 x3 x4 i = oAt x1 x2 x3 x4 (rowOf (x0 (tokIx i))) (i 2 : Fin 7168) := by
  rw [val_main_v46_apply, out_apply x0 x1 x2 x3 x4 h, (flat_ix i).1, (flat_ix i).2]
/-- The reference's second result. -/
theorem res_emb (i : S512x8x7168.Idx) : val_main_v47 (F := Ideal) x0 x1 x2 x3 i = eAt x1 x2 x3 (rowOf (x0 (tokIx i))) (i 2 : Fin 7168) := by
  rw [val_main_v47_apply, emb_apply x0 x1 x2 x3 h]
  show eAt x1 x2 x3 (rowOf (x0 (rowIx (idx_main_v46 i)))) (colIx (idx_main_v46 i)) = _
  rw [(flat_ix i).1, (flat_ix i).2]

end Cert.ReferenceIdeal.Hand

end
-- ==== Proof.Claims.lean ====
/- The idealized kernel and the reference give the same two results. -/
module

public import proofs.«01_k».proof.Defs
public import proofs.«01_k».proof.Proof.Frames
public import proofs.«01_k».proof.Proof.Ker
public import proofs.«01_k».proof.Proof.Ref

@[expose] public section

noncomputable section

open Idealize.ShloMosaic Idealize.ShloMosaic.TcCoe Idealize.SL.Sem
open Idealize.ShloMosaic.ValueIdx (ix1 ix2)

namespace Cert.Proof.Claims

/-- The same under the precondition. -/
theorem frame_ri_pre : Cert.quiescent_ReferenceIdeal_pre_ids_in_table := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ) (c : Dev Cert.KernelIdeal.nD)
  (x0 : Cert.KernelIdeal.S2x2048.Idx → BitVec 32) (x1 : Cert.KernelIdeal.S32000x7168.Idx → BitVec 8)
  (x2 x3 : Cert.KernelIdeal.S32000.Idx → EReal) (x4 : Cert.KernelIdeal.S7168.Idx → EReal)
  (e0 : x0 = m ((c.tc : Thread Cert.KernelIdeal.nD Cert.KernelIdeal.τ).loc Cert.KernelIdeal.main_arg0))
  (e1 : x1 = m ((c.tc : Thread Cert.KernelIdeal.nD Cert.KernelIdeal.τ).loc Cert.KernelIdeal.main_arg1))
  (e2 : x2 = m ((c.tc : Thread Cert.KernelIdeal.nD Cert.KernelIdeal.τ).loc Cert.KernelIdeal.main_arg2))
  (e3 : x3 = m ((c.tc : Thread Cert.KernelIdeal.nD Cert.KernelIdeal.τ).loc Cert.KernelIdeal.main_arg3))
  (e4 : x4 = m ((c.tc : Thread Cert.KernelIdeal.nD Cert.KernelIdeal.τ).loc Cert.KernelIdeal.main_arg4))
  (h : ∀ i, BitVec.toNat (w := 32) (x0 i) < 32000)
include e0 e1 e2 e3 h

/-- The token the kernel normalises into row `r` of group `g` is the one the reference's reshape puts there. -/
theorem token_eq (i : Cert.KernelIdeal.S512x8x7168.Idx) :
    Cert.KernelIdeal.Hand.idAt (Cert.KernelIdeal.Hand.idsOf m c) (8 * (i 0).val + (i 1).val) = x0 (Cert.ReferenceIdeal.Hand.tokIx i) := by
  have h0 : (i 0).val < 512 := (i 0).isLt
  have h1 : (i 1).val < 8 := (i 1).isLt
  have hm : (8 * (i 0).val + (i 1).val) % 4096 = 8 * (i 0).val + (i 1).val := Nat.mod_eq_of_lt (by omega)
  refine (Cert.KernelIdeal.Hand.idsOf_at m c ⟨(8 * (i 0).val + (i 1).val) % 4096, Nat.mod_lt _ (by decide)⟩).trans ?_
  rw [e0]
  refine congrArg (m ((c.tc : Thread Cert.KernelIdeal.nD Cert.KernelIdeal.τ).loc Cert.KernelIdeal.main_arg0)) (funext fun a => Fin.ext ?_)
  match a with
  | ⟨0, _⟩ => show (8 * (i 0).val + (i 1).val) % 4096 / 2048 = (8 * (i 0).val + (i 1).val) / 2048; rw [hm]
  | ⟨1, _⟩ => show (8 * (i 0).val + (i 1).val) % 4096 % 2048 = (8 * (i 0).val + (i 1).val) % 2048; rw [hm]

/-- The dequantized rows agree. -/
theorem emb_eq : Cert.ReferenceIdeal.Read.val_main_v47 (F := Ideal) x0 x1 x2 x3 = Cert.KernelIdeal.Hand.asm (Cert.KernelIdeal.Hand.embOf m c) := by
  funext i
  rw [Cert.ReferenceIdeal.Hand.res_emb x0 x1 x2 x3 h]
  have hid : ∀ i, (Cert.KernelIdeal.Hand.idsOf m c i).toNat < 32000 := Cert.KernelIdeal.Hand.idsOf_lt m c (e0 ▸ h)
  refine Eq.symm ((Cert.KernelIdeal.Hand.embG_at (Cert.KernelIdeal.Hand.idsOf m c) (Cert.KernelIdeal.Hand.tabOf m c) x1
    (Cert.KernelIdeal.Hand.scaleOf m c) (Cert.KernelIdeal.Hand.zeroOf m c) hid
    (fun q j r hr b hb => (Cert.KernelIdeal.Hand.tabOf_at m c q j r hr b hb).trans (by rw [e1])) (i 0).val (i 1) (i 2)).trans ?_)
  rw [Cert.KernelIdeal.Hand.scaleOf_eq, Cert.KernelIdeal.Hand.zeroOf_eq, ← e2, ← e3]
  exact congrArg (fun a => Cert.Spec.eAt x1 x2 x3 (Cert.Spec.rowOf a) (i 2)) (token_eq m c x0 x1 x2 x3 e0 e1 e2 e3 h i)

include e4 in
/-- The normalised rows agree. -/
theorem out_eq : Cert.ReferenceIdeal.Read.val_main_v46 (F := Ideal) x0 x1 x2 x3 x4 = Cert.KernelIdeal.Hand.asm (Cert.KernelIdeal.Hand.outOf m c) := by
  funext i
  rw [Cert.ReferenceIdeal.Hand.res_out x0 x1 x2 x3 x4 h]
  have hid : ∀ i, (Cert.KernelIdeal.Hand.idsOf m c i).toNat < 32000 := Cert.KernelIdeal.Hand.idsOf_lt m c (e0 ▸ h)
  refine Eq.symm ((Cert.KernelIdeal.Hand.outG_at (Cert.KernelIdeal.Hand.idsOf m c) (Cert.KernelIdeal.Hand.tabOf m c) x1
    (Cert.KernelIdeal.Hand.scaleOf m c) (Cert.KernelIdeal.Hand.zeroOf m c) (Cert.KernelIdeal.Hand.wOf m c) x4 hid
    (fun q j r hr b hb => (Cert.KernelIdeal.Hand.tabOf_at m c q j r hr b hb).trans (by rw [e1]))
    (fun r j => (Cert.KernelIdeal.Hand.wOf_at m c r j).trans (by rw [e4])) (i 0).val (i 1) (i 2)).trans ?_)
  rw [Cert.KernelIdeal.Hand.scaleOf_eq, Cert.KernelIdeal.Hand.zeroOf_eq, ← e2, ← e3]
  exact congrArg (fun a => Cert.Spec.oAt x1 x2 x3 x4 (Cert.Spec.rowOf a) (i 2)) (token_eq m c x0 x1 x2 x3 e0 e1 e2 e3 h i)
end

/-- From equal arguments, the ids in the table, both programs end with the same two results. -/
theorem algebraic : Cert.algebraic_KernelIdeal_ReferenceIdeal := fun m g m' g' hp ha =>
  ⟨fun c => Cert.KernelIdeal.Hand.asm (Cert.KernelIdeal.Hand.outOf m c), fun c => Cert.KernelIdeal.Hand.asm (Cert.KernelIdeal.Hand.embOf m c),
    (θ_run Cert.KernelIdeal.defs _ _).mono (fun _ h => h.1) (Cert.KernelIdeal.Hand.run_values (F := Ideal) m g (ids_pi m hp)),
    (θ_run Cert.ReferenceIdeal.defs _ _).mono (fun r h c => by
      obtain ⟨a0, a1, a2, a3, a4⟩ := ha c
      have hl : ∀ i, BitVec.toNat (w := 32) (m' ((c.tc : Thread Cert.ReferenceIdeal.nD Cert.ReferenceIdeal.τ).loc Cert.ReferenceIdeal.main_arg0) i) < 32000 :=
        fun i => by rw [a0]; exact pre_lt _ _ _ _ _ (hp c) i
      refine ⟨(h c).1.trans ((Cert.ReferenceIdeal.Read.val_main_v46_eq m' c).trans (out_eq m c _ _ _ _ _ a0 a1 a2 a3 a4 hl)),
        (h c).2.1.trans ((Cert.ReferenceIdeal.Read.val_main_v47_eq _ _ _ _).trans (emb_eq m c _ _ _ _ a0 a1 a2 a3 hl)), (h c).2.2⟩)
      (Cert.ReferenceIdeal.Value.run (F := Ideal) m' g')⟩

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Frame
public import proofs.«01_k».proof.Proof.Gen.Kernel.Frame
public import Idealize.ShloMosaic.Adequacy
public import Idealize.ShloMosaic.Init

@[expose] public section

noncomputable section

open Idealize.ShloMosaic Idealize.ShloMosaic.TcCoe
open Idealize.SL.Sem

namespace Cert.Proof

/-- Everything the certificate claims. -/
theorem claim : Cert.Claim :=
  ⟨Cert.Kernel.Gen.facts, Cert.KernelIdeal.Gen.facts, Cert.ReferenceIdeal.Gen.facts, Cert.Pre_ids_in_table.Gen.facts,
    Claims.frame_p, Claims.frame_pi, Claims.frame_ri, Claims.frame_ri_pre, Claims.preserves, Claims.algebraic⟩

end Cert.Proof

end
